-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondIdeal_finite [hPre_finite : Cert.Pre_finite.Facts] (m : (ℓ : Loc Cert.SecondIdeal.nD Cert.SecondIdeal.τ Cert.SecondIdeal.sig) → Buf (Elt Ideal) ℓ) : Prop :=
  ∀ c : Dev Cert.SecondIdeal.nD,
    (Cert.Pre_finite.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8)) (m ((c.tc : Thread Cert.SecondIdeal.nD Cert.SecondIdeal.τ).loc Cert.SecondIdeal.main_arg9)) (m ((c.tc : Thread Cert.SecondIdeal.nD Cert.SecondIdeal.τ).loc Cert.SecondIdeal.main_arg10)) (m ((c.tc : Thread Cert.SecondIdeal.nD Cert.SecondIdeal.τ).loc Cert.SecondIdeal.main_arg11)) (m ((c.tc : Thread Cert.SecondIdeal.nD Cert.SecondIdeal.τ).loc Cert.SecondIdeal.main_arg12)) (m ((c.tc : Thread Cert.SecondIdeal.nD Cert.SecondIdeal.τ).loc Cert.SecondIdeal.main_arg13)) (m ((c.tc : Thread Cert.SecondIdeal.nD Cert.SecondIdeal.τ).loc Cert.SecondIdeal.main_arg14)) (m ((c.tc : Thread Cert.SecondIdeal.nD Cert.SecondIdeal.τ).loc Cert.SecondIdeal.main_arg15)) (m ((c.tc : Thread Cert.SecondIdeal.nD Cert.SecondIdeal.τ).loc Cert.SecondIdeal.main_arg16)) (m ((c.tc : Thread Cert.SecondIdeal.nD Cert.SecondIdeal.τ).loc Cert.SecondIdeal.main_arg17))) = (fun _ => 1#1)

def Pre_TransformerIdeal (m : (ℓ : Loc Cert.TransformerIdeal.nD Cert.TransformerIdeal.τ Cert.TransformerIdeal.sig) → Buf (Elt Ideal) ℓ) : Prop :=
  True

def Pre_TransformerIdeal_finite [hPre_finite : Cert.Pre_finite.Facts] (m : (ℓ : Loc Cert.TransformerIdeal.nD Cert.TransformerIdeal.τ Cert.TransformerIdeal.sig) → Buf (Elt Ideal) ℓ) : Prop :=
  ∀ c : Dev Cert.TransformerIdeal.nD,
    (Cert.Pre_finite.fn (F := Ideal) (m ((c.tc : Thread Cert.TransformerIdeal.nD Cert.TransformerIdeal.τ).loc Cert.TransformerIdeal.main_arg0)) (m ((c.tc : Thread Cert.TransformerIdeal.nD Cert.TransformerIdeal.τ).loc Cert.TransformerIdeal.main_arg1)) (m ((c.tc : Thread Cert.TransformerIdeal.nD Cert.TransformerIdeal.τ).loc Cert.TransformerIdeal.main_arg2)) (m ((c.tc : Thread Cert.TransformerIdeal.nD Cert.TransformerIdeal.τ).loc Cert.TransformerIdeal.main_arg3)) (m ((c.tc : Thread Cert.TransformerIdeal.nD Cert.TransformerIdeal.τ).loc Cert.TransformerIdeal.main_arg4)) (m ((c.tc : Thread Cert.TransformerIdeal.nD Cert.TransformerIdeal.τ).loc Cert.TransformerIdeal.main_arg5)) (m ((c.tc : Thread Cert.TransformerIdeal.nD Cert.TransformerIdeal.τ).loc Cert.TransformerIdeal.main_arg6)) (m ((c.tc : Thread Cert.TransformerIdeal.nD Cert.TransformerIdeal.τ).loc Cert.TransformerIdeal.main_arg7)) (m ((c.tc : Thread Cert.TransformerIdeal.nD Cert.TransformerIdeal.τ).loc Cert.TransformerIdeal.main_arg8)) (m ((c.tc : Thread Cert.TransformerIdeal.nD Cert.TransformerIdeal.τ).loc Cert.TransformerIdeal.main_arg9)) (m ((c.tc : Thread Cert.TransformerIdeal.nD Cert.TransformerIdeal.τ).loc Cert.TransformerIdeal.main_arg10)) (m ((c.tc : Thread Cert.TransformerIdeal.nD Cert.TransformerIdeal.τ).loc Cert.TransformerIdeal.main_arg11)) (m ((c.tc : Thread Cert.TransformerIdeal.nD Cert.TransformerIdeal.τ).loc Cert.TransformerIdeal.main_arg12)) (m ((c.tc : Thread Cert.TransformerIdeal.nD Cert.TransformerIdeal.τ).loc Cert.TransformerIdeal.main_arg13)) (m ((c.tc : Thread Cert.TransformerIdeal.nD Cert.TransformerIdeal.τ).loc Cert.TransformerIdeal.main_arg14)) (m ((c.tc : Thread Cert.TransformerIdeal.nD Cert.TransformerIdeal.τ).loc Cert.TransformerIdeal.main_arg15)) (m ((c.tc : Thread Cert.TransformerIdeal.nD Cert.TransformerIdeal.τ).loc Cert.TransformerIdeal.main_arg16)) (m ((c.tc : Thread Cert.TransformerIdeal.nD Cert.TransformerIdeal.τ).loc Cert.TransformerIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4)
      ∧ r.2.mem ((c.tc : Thread Cert.Second.nD Cert.Second.τ).loc Cert.Second.main_arg5) = m ((c.tc : Thread Cert.Second.nD Cert.Second.τ).loc Cert.Second.main_arg5)
      ∧ r.2.mem ((c.tc : Thread Cert.Second.nD Cert.Second.τ).loc Cert.Second.main_arg6) = m ((c.tc : Thread Cert.Second.nD Cert.Second.τ).loc Cert.Second.main_arg6)
      ∧ r.2.mem ((c.tc : Thread Cert.Second.nD Cert.Second.τ).loc Cert.Second.main_arg7) = m ((c.tc : Thread Cert.Second.nD Cert.Second.τ).loc Cert.Second.main_arg7)
      ∧ r.2.mem ((c.tc : Thread Cert.Second.nD Cert.Second.τ).loc Cert.Second.main_arg8) = m ((c.tc : Thread Cert.Second.nD Cert.Second.τ).loc Cert.Second.main_arg8)
      ∧ r.2.mem ((c.tc : Thread Cert.Second.nD Cert.Second.τ).loc Cert.Second.main_arg9) = m ((c.tc : Thread Cert.Second.nD Cert.Second.τ).loc Cert.Second.main_arg9)
      ∧ r.2.mem ((c.tc : Thread Cert.Second.nD Cert.Second.τ).loc Cert.Second.main_arg10) = m ((c.tc : Thread Cert.Second.nD Cert.Second.τ).loc Cert.Second.main_arg10)
      ∧ r.2.mem ((c.tc : Thread Cert.Second.nD Cert.Second.τ).loc Cert.Second.main_arg11) = m ((c.tc : Thread Cert.Second.nD Cert.Second.τ).loc Cert.Second.main_arg11)
      ∧ r.2.mem ((c.tc : Thread Cert.Second.nD Cert.Second.τ).loc Cert.Second.main_arg12) = m ((c.tc : Thread Cert.Second.nD Cert.Second.τ).loc Cert.Second.main_arg12)
      ∧ r.2.mem ((c.tc : Thread Cert.Second.nD Cert.Second.τ).loc Cert.Second.main_arg13) = m ((c.tc : Thread Cert.Second.nD Cert.Second.τ).loc Cert.Second.main_arg13)
      ∧ r.2.mem ((c.tc : Thread Cert.Second.nD Cert.Second.τ).loc Cert.Second.main_arg14) = m ((c.tc : Thread Cert.Second.nD Cert.Second.τ).loc Cert.Second.main_arg14)
      ∧ r.2.mem ((c.tc : Thread Cert.Second.nD Cert.Second.τ).loc Cert.Second.main_arg15) = m ((c.tc : Thread Cert.Second.nD Cert.Second.τ).loc Cert.Second.main_arg15)
      ∧ r.2.mem ((c.tc : Thread Cert.Second.nD Cert.Second.τ).loc Cert.Second.main_arg16) = m ((c.tc : Thread Cert.Second.nD Cert.Second.τ).loc Cert.Second.main_arg16)
      ∧ r.2.mem ((c.tc : Thread Cert.Second.nD Cert.Second.τ).loc Cert.Second.main_arg17) = m ((c.tc : Thread Cert.Second.nD Cert.Second.τ).loc Cert.Second.main_arg17))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
      ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8)
      ∧ r.2.mem ((c.tc : Thread Cert.SecondIdeal.nD Cert.SecondIdeal.τ).loc Cert.SecondIdeal.main_arg9) = m ((c.tc : Thread Cert.SecondIdeal.nD Cert.SecondIdeal.τ).loc Cert.SecondIdeal.main_arg9)
      ∧ r.2.mem ((c.tc : Thread Cert.SecondIdeal.nD Cert.SecondIdeal.τ).loc Cert.SecondIdeal.main_arg10) = m ((c.tc : Thread Cert.SecondIdeal.nD Cert.SecondIdeal.τ).loc Cert.SecondIdeal.main_arg10)
      ∧ r.2.mem ((c.tc : Thread Cert.SecondIdeal.nD Cert.SecondIdeal.τ).loc Cert.SecondIdeal.main_arg11) = m ((c.tc : Thread Cert.SecondIdeal.nD Cert.SecondIdeal.τ).loc Cert.SecondIdeal.main_arg11)
      ∧ r.2.mem ((c.tc : Thread Cert.SecondIdeal.nD Cert.SecondIdeal.τ).loc Cert.SecondIdeal.main_arg12) = m ((c.tc : Thread Cert.SecondIdeal.nD Cert.SecondIdeal.τ).loc Cert.SecondIdeal.main_arg12)
      ∧ r.2.mem ((c.tc : Thread Cert.SecondIdeal.nD Cert.SecondIdeal.τ).loc Cert.SecondIdeal.main_arg13) = m ((c.tc : Thread Cert.SecondIdeal.nD Cert.SecondIdeal.τ).loc Cert.SecondIdeal.main_arg13)
      ∧ r.2.mem ((c.tc : Thread Cert.SecondIdeal.nD Cert.SecondIdeal.τ).loc Cert.SecondIdeal.main_arg14) = m ((c.tc : Thread Cert.SecondIdeal.nD Cert.SecondIdeal.τ).loc Cert.SecondIdeal.main_arg14)
      ∧ r.2.mem ((c.tc : Thread Cert.SecondIdeal.nD Cert.SecondIdeal.τ).loc Cert.SecondIdeal.main_arg15) = m ((c.tc : Thread Cert.SecondIdeal.nD Cert.SecondIdeal.τ).loc Cert.SecondIdeal.main_arg15)
      ∧ r.2.mem ((c.tc : Thread Cert.SecondIdeal.nD Cert.SecondIdeal.τ).loc Cert.SecondIdeal.main_arg16) = m ((c.tc : Thread Cert.SecondIdeal.nD Cert.SecondIdeal.τ).loc Cert.SecondIdeal.main_arg16)
      ∧ r.2.mem ((c.tc : Thread Cert.SecondIdeal.nD Cert.SecondIdeal.τ).loc Cert.SecondIdeal.main_arg17) = m ((c.tc : Thread Cert.SecondIdeal.nD Cert.SecondIdeal.τ).loc Cert.SecondIdeal.main_arg17))
      ∧ r.2.sem = fun _ => 0)

def quiescent_SecondIdeal_pre_finite [hSecondIdeal : Cert.SecondIdeal.Facts] [hPre_finite : Cert.Pre_finite.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal_finite m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
      ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8)
      ∧ r.2.mem ((c.tc : Thread Cert.SecondIdeal.nD Cert.SecondIdeal.τ).loc Cert.SecondIdeal.main_arg9) = m ((c.tc : Thread Cert.SecondIdeal.nD Cert.SecondIdeal.τ).loc Cert.SecondIdeal.main_arg9)
      ∧ r.2.mem ((c.tc : Thread Cert.SecondIdeal.nD Cert.SecondIdeal.τ).loc Cert.SecondIdeal.main_arg10) = m ((c.tc : Thread Cert.SecondIdeal.nD Cert.SecondIdeal.τ).loc Cert.SecondIdeal.main_arg10)
      ∧ r.2.mem ((c.tc : Thread Cert.SecondIdeal.nD Cert.SecondIdeal.τ).loc Cert.SecondIdeal.main_arg11) = m ((c.tc : Thread Cert.SecondIdeal.nD Cert.SecondIdeal.τ).loc Cert.SecondIdeal.main_arg11)
      ∧ r.2.mem ((c.tc : Thread Cert.SecondIdeal.nD Cert.SecondIdeal.τ).loc Cert.SecondIdeal.main_arg12) = m ((c.tc : Thread Cert.SecondIdeal.nD Cert.SecondIdeal.τ).loc Cert.SecondIdeal.main_arg12)
      ∧ r.2.mem ((c.tc : Thread Cert.SecondIdeal.nD Cert.SecondIdeal.τ).loc Cert.SecondIdeal.main_arg13) = m ((c.tc : Thread Cert.SecondIdeal.nD Cert.SecondIdeal.τ).loc Cert.SecondIdeal.main_arg13)
      ∧ r.2.mem ((c.tc : Thread Cert.SecondIdeal.nD Cert.SecondIdeal.τ).loc Cert.SecondIdeal.main_arg14) = m ((c.tc : Thread Cert.SecondIdeal.nD Cert.SecondIdeal.τ).loc Cert.SecondIdeal.main_arg14)
      ∧ r.2.mem ((c.tc : Thread Cert.SecondIdeal.nD Cert.SecondIdeal.τ).loc Cert.SecondIdeal.main_arg15) = m ((c.tc : Thread Cert.SecondIdeal.nD Cert.SecondIdeal.τ).loc Cert.SecondIdeal.main_arg15)
      ∧ r.2.mem ((c.tc : Thread Cert.SecondIdeal.nD Cert.SecondIdeal.τ).loc Cert.SecondIdeal.main_arg16) = m ((c.tc : Thread Cert.SecondIdeal.nD Cert.SecondIdeal.τ).loc Cert.SecondIdeal.main_arg16)
      ∧ r.2.mem ((c.tc : Thread Cert.SecondIdeal.nD Cert.SecondIdeal.τ).loc Cert.SecondIdeal.main_arg17) = m ((c.tc : Thread Cert.SecondIdeal.nD Cert.SecondIdeal.τ).loc Cert.SecondIdeal.main_arg17))
      ∧ r.2.sem = fun _ => 0)

def quiescent_TransformerIdeal [hTransformerIdeal : Cert.TransformerIdeal.Facts] : Prop :=
  ∀ (m : (ℓ : Loc Cert.TransformerIdeal.nD Cert.TransformerIdeal.τ Cert.TransformerIdeal.sig) → Buf (Elt Ideal) ℓ) (g : Dev Cert.TransformerIdeal.nD → PrngReg), Pre_TransformerIdeal m →
    θ_run (Cert.TransformerIdeal.defs (F := Ideal)) (onTc (τ := Cert.TransformerIdeal.τ) (Cert.TransformerIdeal.main (F := Ideal))) ⟨m, fun _ => 0, g⟩ (fun r => (∀ c : Dev Cert.TransformerIdeal.nD,
      r.2.mem ((c.tc : Thread Cert.TransformerIdeal.nD Cert.TransformerIdeal.τ).loc Cert.TransformerIdeal.main_arg0) = m ((c.tc : Thread Cert.TransformerIdeal.nD Cert.TransformerIdeal.τ).loc Cert.TransformerIdeal.main_arg0)
      ∧ r.2.mem ((c.tc : Thread Cert.TransformerIdeal.nD Cert.TransformerIdeal.τ).loc Cert.TransformerIdeal.main_arg1) = m ((c.tc : Thread Cert.TransformerIdeal.nD Cert.TransformerIdeal.τ).loc Cert.TransformerIdeal.main_arg1)
      ∧ r.2.mem ((c.tc : Thread Cert.TransformerIdeal.nD Cert.TransformerIdeal.τ).loc Cert.TransformerIdeal.main_arg2) = m ((c.tc : Thread Cert.TransformerIdeal.nD Cert.TransformerIdeal.τ).loc Cert.TransformerIdeal.main_arg2)
      ∧ r.2.mem ((c.tc : Thread Cert.TransformerIdeal.nD Cert.TransformerIdeal.τ).loc Cert.TransformerIdeal.main_arg3) = m ((c.tc : Thread Cert.TransformerIdeal.nD Cert.TransformerIdeal.τ).loc Cert.TransformerIdeal.main_arg3)
      ∧ r.2.mem ((c.tc : Thread Cert.TransformerIdeal.nD Cert.TransformerIdeal.τ).loc Cert.TransformerIdeal.main_arg4) = m ((c.tc : Thread Cert.TransformerIdeal.nD Cert.TransformerIdeal.τ).loc Cert.TransformerIdeal.main_arg4)
      ∧ r.2.mem ((c.tc : Thread Cert.TransformerIdeal.nD Cert.TransformerIdeal.τ).loc Cert.TransformerIdeal.main_arg5) = m ((c.tc : Thread Cert.TransformerIdeal.nD Cert.TransformerIdeal.τ).loc Cert.TransformerIdeal.main_arg5)
      ∧ r.2.mem ((c.tc : Thread Cert.TransformerIdeal.nD Cert.TransformerIdeal.τ).loc Cert.TransformerIdeal.main_arg6) = m ((c.tc : Thread Cert.TransformerIdeal.nD Cert.TransformerIdeal.τ).loc Cert.TransformerIdeal.main_arg6)
      ∧ r.2.mem ((c.tc : Thread Cert.TransformerIdeal.nD Cert.TransformerIdeal.τ).loc Cert.TransformerIdeal.main_arg7) = m ((c.tc : Thread Cert.TransformerIdeal.nD Cert.TransformerIdeal.τ).loc Cert.TransformerIdeal.main_arg7)
      ∧ r.2.mem ((c.tc : Thread Cert.TransformerIdeal.nD Cert.TransformerIdeal.τ).loc Cert.TransformerIdeal.main_arg8) = m ((c.tc : Thread Cert.TransformerIdeal.nD Cert.TransformerIdeal.τ).loc Cert.TransformerIdeal.main_arg8)
      ∧ r.2.mem ((c.tc : Thread Cert.TransformerIdeal.nD Cert.TransformerIdeal.τ).loc Cert.TransformerIdeal.main_arg9) = m ((c.tc : Thread Cert.TransformerIdeal.nD Cert.TransformerIdeal.τ).loc Cert.TransformerIdeal.main_arg9)
      ∧ r.2.mem ((c.tc : Thread Cert.TransformerIdeal.nD Cert.TransformerIdeal.τ).loc Cert.TransformerIdeal.main_arg10) = m ((c.tc : Thread Cert.TransformerIdeal.nD Cert.TransformerIdeal.τ).loc Cert.TransformerIdeal.main_arg10)
      ∧ r.2.mem ((c.tc : Thread Cert.TransformerIdeal.nD Cert.TransformerIdeal.τ).loc Cert.TransformerIdeal.main_arg11) = m ((c.tc : Thread Cert.TransformerIdeal.nD Cert.TransformerIdeal.τ).loc Cert.TransformerIdeal.main_arg11)
      ∧ r.2.mem ((c.tc : Thread Cert.TransformerIdeal.nD Cert.TransformerIdeal.τ).loc Cert.TransformerIdeal.main_arg12) = m ((c.tc : Thread Cert.TransformerIdeal.nD Cert.TransformerIdeal.τ).loc Cert.TransformerIdeal.main_arg12)
      ∧ r.2.mem ((c.tc : Thread Cert.TransformerIdeal.nD Cert.TransformerIdeal.τ).loc Cert.TransformerIdeal.main_arg13) = m ((c.tc : Thread Cert.TransformerIdeal.nD Cert.TransformerIdeal.τ).loc Cert.TransformerIdeal.main_arg13)
      ∧ r.2.mem ((c.tc : Thread Cert.TransformerIdeal.nD Cert.TransformerIdeal.τ).loc Cert.TransformerIdeal.main_arg14) = m ((c.tc : Thread Cert.TransformerIdeal.nD Cert.TransformerIdeal.τ).loc Cert.TransformerIdeal.main_arg14)
      ∧ r.2.mem ((c.tc : Thread Cert.TransformerIdeal.nD Cert.TransformerIdeal.τ).loc Cert.TransformerIdeal.main_arg15) = m ((c.tc : Thread Cert.TransformerIdeal.nD Cert.TransformerIdeal.τ).loc Cert.TransformerIdeal.main_arg15)
      ∧ r.2.mem ((c.tc : Thread Cert.TransformerIdeal.nD Cert.TransformerIdeal.τ).loc Cert.TransformerIdeal.main_arg16) = m ((c.tc : Thread Cert.TransformerIdeal.nD Cert.TransformerIdeal.τ).loc Cert.TransformerIdeal.main_arg16)
      ∧ r.2.mem ((c.tc : Thread Cert.TransformerIdeal.nD Cert.TransformerIdeal.τ).loc Cert.TransformerIdeal.main_arg17) = m ((c.tc : Thread Cert.TransformerIdeal.nD Cert.TransformerIdeal.τ).loc Cert.TransformerIdeal.main_arg17))
      ∧ r.2.sem = fun _ => 0)

def quiescent_TransformerIdeal_pre_finite [hTransformerIdeal : Cert.TransformerIdeal.Facts] [hPre_finite : Cert.Pre_finite.Facts] : Prop :=
  ∀ (m : (ℓ : Loc Cert.TransformerIdeal.nD Cert.TransformerIdeal.τ Cert.TransformerIdeal.sig) → Buf (Elt Ideal) ℓ) (g : Dev Cert.TransformerIdeal.nD → PrngReg), Pre_TransformerIdeal_finite m →
    θ_run (Cert.TransformerIdeal.defs (F := Ideal)) (onTc (τ := Cert.TransformerIdeal.τ) (Cert.TransformerIdeal.main (F := Ideal))) ⟨m, fun _ => 0, g⟩ (fun r => (∀ c : Dev Cert.TransformerIdeal.nD,
      r.2.mem ((c.tc : Thread Cert.TransformerIdeal.nD Cert.TransformerIdeal.τ).loc Cert.TransformerIdeal.main_arg0) = m ((c.tc : Thread Cert.TransformerIdeal.nD Cert.TransformerIdeal.τ).loc Cert.TransformerIdeal.main_arg0)
      ∧ r.2.mem ((c.tc : Thread Cert.TransformerIdeal.nD Cert.TransformerIdeal.τ).loc Cert.TransformerIdeal.main_arg1) = m ((c.tc : Thread Cert.TransformerIdeal.nD Cert.TransformerIdeal.τ).loc Cert.TransformerIdeal.main_arg1)
      ∧ r.2.mem ((c.tc : Thread Cert.TransformerIdeal.nD Cert.TransformerIdeal.τ).loc Cert.TransformerIdeal.main_arg2) = m ((c.tc : Thread Cert.TransformerIdeal.nD Cert.TransformerIdeal.τ).loc Cert.TransformerIdeal.main_arg2)
      ∧ r.2.mem ((c.tc : Thread Cert.TransformerIdeal.nD Cert.TransformerIdeal.τ).loc Cert.TransformerIdeal.main_arg3) = m ((c.tc : Thread Cert.TransformerIdeal.nD Cert.TransformerIdeal.τ).loc Cert.TransformerIdeal.main_arg3)
      ∧ r.2.mem ((c.tc : Thread Cert.TransformerIdeal.nD Cert.TransformerIdeal.τ).loc Cert.TransformerIdeal.main_arg4) = m ((c.tc : Thread Cert.TransformerIdeal.nD Cert.TransformerIdeal.τ).loc Cert.TransformerIdeal.main_arg4)
      ∧ r.2.mem ((c.tc : Thread Cert.TransformerIdeal.nD Cert.TransformerIdeal.τ).loc Cert.TransformerIdeal.main_arg5) = m ((c.tc : Thread Cert.TransformerIdeal.nD Cert.TransformerIdeal.τ).loc Cert.TransformerIdeal.main_arg5)
      ∧ r.2.mem ((c.tc : Thread Cert.TransformerIdeal.nD Cert.TransformerIdeal.τ).loc Cert.TransformerIdeal.main_arg6) = m ((c.tc : Thread Cert.TransformerIdeal.nD Cert.TransformerIdeal.τ).loc Cert.TransformerIdeal.main_arg6)
      ∧ r.2.mem ((c.tc : Thread Cert.TransformerIdeal.nD Cert.TransformerIdeal.τ).loc Cert.TransformerIdeal.main_arg7) = m ((c.tc : Thread Cert.TransformerIdeal.nD Cert.TransformerIdeal.τ).loc Cert.TransformerIdeal.main_arg7)
      ∧ r.2.mem ((c.tc : Thread Cert.TransformerIdeal.nD Cert.TransformerIdeal.τ).loc Cert.TransformerIdeal.main_arg8) = m ((c.tc : Thread Cert.TransformerIdeal.nD Cert.TransformerIdeal.τ).loc Cert.TransformerIdeal.main_arg8)
      ∧ r.2.mem ((c.tc : Thread Cert.TransformerIdeal.nD Cert.TransformerIdeal.τ).loc Cert.TransformerIdeal.main_arg9) = m ((c.tc : Thread Cert.TransformerIdeal.nD Cert.TransformerIdeal.τ).loc Cert.TransformerIdeal.main_arg9)
      ∧ r.2.mem ((c.tc : Thread Cert.TransformerIdeal.nD Cert.TransformerIdeal.τ).loc Cert.TransformerIdeal.main_arg10) = m ((c.tc : Thread Cert.TransformerIdeal.nD Cert.TransformerIdeal.τ).loc Cert.TransformerIdeal.main_arg10)
      ∧ r.2.mem ((c.tc : Thread Cert.TransformerIdeal.nD Cert.TransformerIdeal.τ).loc Cert.TransformerIdeal.main_arg11) = m ((c.tc : Thread Cert.TransformerIdeal.nD Cert.TransformerIdeal.τ).loc Cert.TransformerIdeal.main_arg11)
      ∧ r.2.mem ((c.tc : Thread Cert.TransformerIdeal.nD Cert.TransformerIdeal.τ).loc Cert.TransformerIdeal.main_arg12) = m ((c.tc : Thread Cert.TransformerIdeal.nD Cert.TransformerIdeal.τ).loc Cert.TransformerIdeal.main_arg12)
      ∧ r.2.mem ((c.tc : Thread Cert.TransformerIdeal.nD Cert.TransformerIdeal.τ).loc Cert.TransformerIdeal.main_arg13) = m ((c.tc : Thread Cert.TransformerIdeal.nD Cert.TransformerIdeal.τ).loc Cert.TransformerIdeal.main_arg13)
      ∧ r.2.mem ((c.tc : Thread Cert.TransformerIdeal.nD Cert.TransformerIdeal.τ).loc Cert.TransformerIdeal.main_arg14) = m ((c.tc : Thread Cert.TransformerIdeal.nD Cert.TransformerIdeal.τ).loc Cert.TransformerIdeal.main_arg14)
      ∧ r.2.mem ((c.tc : Thread Cert.TransformerIdeal.nD Cert.TransformerIdeal.τ).loc Cert.TransformerIdeal.main_arg15) = m ((c.tc : Thread Cert.TransformerIdeal.nD Cert.TransformerIdeal.τ).loc Cert.TransformerIdeal.main_arg15)
      ∧ r.2.mem ((c.tc : Thread Cert.TransformerIdeal.nD Cert.TransformerIdeal.τ).loc Cert.TransformerIdeal.main_arg16) = m ((c.tc : Thread Cert.TransformerIdeal.nD Cert.TransformerIdeal.τ).loc Cert.TransformerIdeal.main_arg16)
      ∧ r.2.mem ((c.tc : Thread Cert.TransformerIdeal.nD Cert.TransformerIdeal.τ).loc Cert.TransformerIdeal.main_arg17) = m ((c.tc : Thread Cert.TransformerIdeal.nD Cert.TransformerIdeal.τ).loc Cert.TransformerIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Second_SecondIdeal : Prop :=
  IdealRules.named_const.Statement Cert.SecondIdeal.κ "inv_sqrt_hd" .f32 0x3F3504F3#32 (((Real.sqrt 2)⁻¹ : ℝ) : EReal)
  ∧ IdealRules.named_const.Statement Cert.SecondIdeal.κ "no_clamp" .f32 0x42700000#32 ⊤

def algebraic_SecondIdeal_TransformerIdeal_pre_finite [hSecondIdeal : Cert.SecondIdeal.Facts] [hTransformerIdeal : Cert.TransformerIdeal.Facts] [hPre_finite : Cert.Pre_finite.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.TransformerIdeal.nD Cert.TransformerIdeal.τ Cert.TransformerIdeal.sig) → Buf (Elt Ideal) ℓ) (g' : Dev Cert.TransformerIdeal.nD → PrngReg), Pre_SecondIdeal_finite m →
    (∀ c : Dev Cert.SecondIdeal.nD,
      m' ((c.tc : Thread Cert.TransformerIdeal.nD Cert.TransformerIdeal.τ).loc Cert.TransformerIdeal.main_arg0) = m ((c.tc : Thread Cert.SecondIdeal.nD Cert.SecondIdeal.τ).loc Cert.SecondIdeal.main_arg0)
      ∧ m' ((c.tc : Thread Cert.TransformerIdeal.nD Cert.TransformerIdeal.τ).loc Cert.TransformerIdeal.main_arg1) = m ((c.tc : Thread Cert.SecondIdeal.nD Cert.SecondIdeal.τ).loc Cert.SecondIdeal.main_arg1)
      ∧ m' ((c.tc : Thread Cert.TransformerIdeal.nD Cert.TransformerIdeal.τ).loc Cert.TransformerIdeal.main_arg2) = m ((c.tc : Thread Cert.SecondIdeal.nD Cert.SecondIdeal.τ).loc Cert.SecondIdeal.main_arg2)
      ∧ m' ((c.tc : Thread Cert.TransformerIdeal.nD Cert.TransformerIdeal.τ).loc Cert.TransformerIdeal.main_arg3) = m ((c.tc : Thread Cert.SecondIdeal.nD Cert.SecondIdeal.τ).loc Cert.SecondIdeal.main_arg3)
      ∧ m' ((c.tc : Thread Cert.TransformerIdeal.nD Cert.TransformerIdeal.τ).loc Cert.TransformerIdeal.main_arg4) = m ((c.tc : Thread Cert.SecondIdeal.nD Cert.SecondIdeal.τ).loc Cert.SecondIdeal.main_arg4)
      ∧ m' ((c.tc : Thread Cert.TransformerIdeal.nD Cert.TransformerIdeal.τ).loc Cert.TransformerIdeal.main_arg5) = m ((c.tc : Thread Cert.SecondIdeal.nD Cert.SecondIdeal.τ).loc Cert.SecondIdeal.main_arg5)
      ∧ m' ((c.tc : Thread Cert.TransformerIdeal.nD Cert.TransformerIdeal.τ).loc Cert.TransformerIdeal.main_arg6) = m ((c.tc : Thread Cert.SecondIdeal.nD Cert.SecondIdeal.τ).loc Cert.SecondIdeal.main_arg6)
      ∧ m' ((c.tc : Thread Cert.TransformerIdeal.nD Cert.TransformerIdeal.τ).loc Cert.TransformerIdeal.main_arg7) = m ((c.tc : Thread Cert.SecondIdeal.nD Cert.SecondIdeal.τ).loc Cert.SecondIdeal.main_arg7)
      ∧ m' ((c.tc : Thread Cert.TransformerIdeal.nD Cert.TransformerIdeal.τ).loc Cert.TransformerIdeal.main_arg8) = m ((c.tc : Thread Cert.SecondIdeal.nD Cert.SecondIdeal.τ).loc Cert.SecondIdeal.main_arg8)
      ∧ m' ((c.tc : Thread Cert.TransformerIdeal.nD Cert.TransformerIdeal.τ).loc Cert.TransformerIdeal.main_arg9) = m ((c.tc : Thread Cert.SecondIdeal.nD Cert.SecondIdeal.τ).loc Cert.SecondIdeal.main_arg9)
      ∧ m' ((c.tc : Thread Cert.TransformerIdeal.nD Cert.TransformerIdeal.τ).loc Cert.TransformerIdeal.main_arg10) = m ((c.tc : Thread Cert.SecondIdeal.nD Cert.SecondIdeal.τ).loc Cert.SecondIdeal.main_arg10)
      ∧ m' ((c.tc : Thread Cert.TransformerIdeal.nD Cert.TransformerIdeal.τ).loc Cert.TransformerIdeal.main_arg11) = m ((c.tc : Thread Cert.SecondIdeal.nD Cert.SecondIdeal.τ).loc Cert.SecondIdeal.main_arg11)
      ∧ m' ((c.tc : Thread Cert.TransformerIdeal.nD Cert.TransformerIdeal.τ).loc Cert.TransformerIdeal.main_arg12) = m ((c.tc : Thread Cert.SecondIdeal.nD Cert.SecondIdeal.τ).loc Cert.SecondIdeal.main_arg12)
      ∧ m' ((c.tc : Thread Cert.TransformerIdeal.nD Cert.TransformerIdeal.τ).loc Cert.TransformerIdeal.main_arg13) = m ((c.tc : Thread Cert.SecondIdeal.nD Cert.SecondIdeal.τ).loc Cert.SecondIdeal.main_arg13)
      ∧ m' ((c.tc : Thread Cert.TransformerIdeal.nD Cert.TransformerIdeal.τ).loc Cert.TransformerIdeal.main_arg14) = m ((c.tc : Thread Cert.SecondIdeal.nD Cert.SecondIdeal.τ).loc Cert.SecondIdeal.main_arg14)
      ∧ m' ((c.tc : Thread Cert.TransformerIdeal.nD Cert.TransformerIdeal.τ).loc Cert.TransformerIdeal.main_arg15) = m ((c.tc : Thread Cert.SecondIdeal.nD Cert.SecondIdeal.τ).loc Cert.SecondIdeal.main_arg15)
      ∧ m' ((c.tc : Thread Cert.TransformerIdeal.nD Cert.TransformerIdeal.τ).loc Cert.TransformerIdeal.main_arg16) = m ((c.tc : Thread Cert.SecondIdeal.nD Cert.SecondIdeal.τ).loc Cert.SecondIdeal.main_arg16)
      ∧ m' ((c.tc : Thread Cert.TransformerIdeal.nD Cert.TransformerIdeal.τ).loc Cert.TransformerIdeal.main_arg17) = m ((c.tc : Thread Cert.SecondIdeal.nD Cert.SecondIdeal.τ).loc Cert.SecondIdeal.main_arg17)) →
    ∃ (v0 : (c : Dev Cert.SecondIdeal.nD) → Buf (Elt Ideal) ((c.tc : Thread Cert.SecondIdeal.nD Cert.SecondIdeal.τ).loc Cert.SecondIdeal.main_v5)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v5) = v0 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
          ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
          ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
          ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8)
          ∧ r.2.mem ((c.tc : Thread Cert.SecondIdeal.nD Cert.SecondIdeal.τ).loc Cert.SecondIdeal.main_arg9) = m ((c.tc : Thread Cert.SecondIdeal.nD Cert.SecondIdeal.τ).loc Cert.SecondIdeal.main_arg9)
          ∧ r.2.mem ((c.tc : Thread Cert.SecondIdeal.nD Cert.SecondIdeal.τ).loc Cert.SecondIdeal.main_arg10) = m ((c.tc : Thread Cert.SecondIdeal.nD Cert.SecondIdeal.τ).loc Cert.SecondIdeal.main_arg10)
          ∧ r.2.mem ((c.tc : Thread Cert.SecondIdeal.nD Cert.SecondIdeal.τ).loc Cert.SecondIdeal.main_arg11) = m ((c.tc : Thread Cert.SecondIdeal.nD Cert.SecondIdeal.τ).loc Cert.SecondIdeal.main_arg11)
          ∧ r.2.mem ((c.tc : Thread Cert.SecondIdeal.nD Cert.SecondIdeal.τ).loc Cert.SecondIdeal.main_arg12) = m ((c.tc : Thread Cert.SecondIdeal.nD Cert.SecondIdeal.τ).loc Cert.SecondIdeal.main_arg12)
          ∧ r.2.mem ((c.tc : Thread Cert.SecondIdeal.nD Cert.SecondIdeal.τ).loc Cert.SecondIdeal.main_arg13) = m ((c.tc : Thread Cert.SecondIdeal.nD Cert.SecondIdeal.τ).loc Cert.SecondIdeal.main_arg13)
          ∧ r.2.mem ((c.tc : Thread Cert.SecondIdeal.nD Cert.SecondIdeal.τ).loc Cert.SecondIdeal.main_arg14) = m ((c.tc : Thread Cert.SecondIdeal.nD Cert.SecondIdeal.τ).loc Cert.SecondIdeal.main_arg14)
          ∧ r.2.mem ((c.tc : Thread Cert.SecondIdeal.nD Cert.SecondIdeal.τ).loc Cert.SecondIdeal.main_arg15) = m ((c.tc : Thread Cert.SecondIdeal.nD Cert.SecondIdeal.τ).loc Cert.SecondIdeal.main_arg15)
          ∧ r.2.mem ((c.tc : Thread Cert.SecondIdeal.nD Cert.SecondIdeal.τ).loc Cert.SecondIdeal.main_arg16) = m ((c.tc : Thread Cert.SecondIdeal.nD Cert.SecondIdeal.τ).loc Cert.SecondIdeal.main_arg16)
          ∧ r.2.mem ((c.tc : Thread Cert.SecondIdeal.nD Cert.SecondIdeal.τ).loc Cert.SecondIdeal.main_arg17) = m ((c.tc : Thread Cert.SecondIdeal.nD Cert.SecondIdeal.τ).loc Cert.SecondIdeal.main_arg17))
      ∧ θ_run (Cert.TransformerIdeal.defs (F := Ideal)) (onTc (τ := Cert.TransformerIdeal.τ) (Cert.TransformerIdeal.main (F := Ideal))) ⟨m', fun _ => 0, g'⟩ (fun r => ∀ c : Dev Cert.TransformerIdeal.nD,
          r.2.mem ((c.tc : Thread Cert.TransformerIdeal.nD Cert.TransformerIdeal.τ).loc Cert.TransformerIdeal.main_v368) = v0 c
          ∧ r.2.mem ((c.tc : Thread Cert.TransformerIdeal.nD Cert.TransformerIdeal.τ).loc Cert.TransformerIdeal.main_arg0) = m' ((c.tc : Thread Cert.TransformerIdeal.nD Cert.TransformerIdeal.τ).loc Cert.TransformerIdeal.main_arg0)
          ∧ r.2.mem ((c.tc : Thread Cert.TransformerIdeal.nD Cert.TransformerIdeal.τ).loc Cert.TransformerIdeal.main_arg1) = m' ((c.tc : Thread Cert.TransformerIdeal.nD Cert.TransformerIdeal.τ).loc Cert.TransformerIdeal.main_arg1)
          ∧ r.2.mem ((c.tc : Thread Cert.TransformerIdeal.nD Cert.TransformerIdeal.τ).loc Cert.TransformerIdeal.main_arg2) = m' ((c.tc : Thread Cert.TransformerIdeal.nD Cert.TransformerIdeal.τ).loc Cert.TransformerIdeal.main_arg2)
          ∧ r.2.mem ((c.tc : Thread Cert.TransformerIdeal.nD Cert.TransformerIdeal.τ).loc Cert.TransformerIdeal.main_arg3) = m' ((c.tc : Thread Cert.TransformerIdeal.nD Cert.TransformerIdeal.τ).loc Cert.TransformerIdeal.main_arg3)
          ∧ r.2.mem ((c.tc : Thread Cert.TransformerIdeal.nD Cert.TransformerIdeal.τ).loc Cert.TransformerIdeal.main_arg4) = m' ((c.tc : Thread Cert.TransformerIdeal.nD Cert.TransformerIdeal.τ).loc Cert.TransformerIdeal.main_arg4)
          ∧ r.2.mem ((c.tc : Thread Cert.TransformerIdeal.nD Cert.TransformerIdeal.τ).loc Cert.TransformerIdeal.main_arg5) = m' ((c.tc : Thread Cert.TransformerIdeal.nD Cert.TransformerIdeal.τ).loc Cert.TransformerIdeal.main_arg5)
          ∧ r.2.mem ((c.tc : Thread Cert.TransformerIdeal.nD Cert.TransformerIdeal.τ).loc Cert.TransformerIdeal.main_arg6) = m' ((c.tc : Thread Cert.TransformerIdeal.nD Cert.TransformerIdeal.τ).loc Cert.TransformerIdeal.main_arg6)
          ∧ r.2.mem ((c.tc : Thread Cert.TransformerIdeal.nD Cert.TransformerIdeal.τ).loc Cert.TransformerIdeal.main_arg7) = m' ((c.tc : Thread Cert.TransformerIdeal.nD Cert.TransformerIdeal.τ).loc Cert.TransformerIdeal.main_arg7)
          ∧ r.2.mem ((c.tc : Thread Cert.TransformerIdeal.nD Cert.TransformerIdeal.τ).loc Cert.TransformerIdeal.main_arg8) = m' ((c.tc : Thread Cert.TransformerIdeal.nD Cert.TransformerIdeal.τ).loc Cert.TransformerIdeal.main_arg8)
          ∧ r.2.mem ((c.tc : Thread Cert.TransformerIdeal.nD Cert.TransformerIdeal.τ).loc Cert.TransformerIdeal.main_arg9) = m' ((c.tc : Thread Cert.TransformerIdeal.nD Cert.TransformerIdeal.τ).loc Cert.TransformerIdeal.main_arg9)
          ∧ r.2.mem ((c.tc : Thread Cert.TransformerIdeal.nD Cert.TransformerIdeal.τ).loc Cert.TransformerIdeal.main_arg10) = m' ((c.tc : Thread Cert.TransformerIdeal.nD Cert.TransformerIdeal.τ).loc Cert.TransformerIdeal.main_arg10)
          ∧ r.2.mem ((c.tc : Thread Cert.TransformerIdeal.nD Cert.TransformerIdeal.τ).loc Cert.TransformerIdeal.main_arg11) = m' ((c.tc : Thread Cert.TransformerIdeal.nD Cert.TransformerIdeal.τ).loc Cert.TransformerIdeal.main_arg11)
          ∧ r.2.mem ((c.tc : Thread Cert.TransformerIdeal.nD Cert.TransformerIdeal.τ).loc Cert.TransformerIdeal.main_arg12) = m' ((c.tc : Thread Cert.TransformerIdeal.nD Cert.TransformerIdeal.τ).loc Cert.TransformerIdeal.main_arg12)
          ∧ r.2.mem ((c.tc : Thread Cert.TransformerIdeal.nD Cert.TransformerIdeal.τ).loc Cert.TransformerIdeal.main_arg13) = m' ((c.tc : Thread Cert.TransformerIdeal.nD Cert.TransformerIdeal.τ).loc Cert.TransformerIdeal.main_arg13)
          ∧ r.2.mem ((c.tc : Thread Cert.TransformerIdeal.nD Cert.TransformerIdeal.τ).loc Cert.TransformerIdeal.main_arg14) = m' ((c.tc : Thread Cert.TransformerIdeal.nD Cert.TransformerIdeal.τ).loc Cert.TransformerIdeal.main_arg14)
          ∧ r.2.mem ((c.tc : Thread Cert.TransformerIdeal.nD Cert.TransformerIdeal.τ).loc Cert.TransformerIdeal.main_arg15) = m' ((c.tc : Thread Cert.TransformerIdeal.nD Cert.TransformerIdeal.τ).loc Cert.TransformerIdeal.main_arg15)
          ∧ r.2.mem ((c.tc : Thread Cert.TransformerIdeal.nD Cert.TransformerIdeal.τ).loc Cert.TransformerIdeal.main_arg16) = m' ((c.tc : Thread Cert.TransformerIdeal.nD Cert.TransformerIdeal.τ).loc Cert.TransformerIdeal.main_arg16)
          ∧ r.2.mem ((c.tc : Thread Cert.TransformerIdeal.nD Cert.TransformerIdeal.τ).loc Cert.TransformerIdeal.main_arg17) = m' ((c.tc : Thread Cert.TransformerIdeal.nD Cert.TransformerIdeal.τ).loc Cert.TransformerIdeal.main_arg17))

def Claim : Prop :=
  ∃ (hKernel : Cert.Kernel.Facts) (hKernelIdeal : Cert.KernelIdeal.Facts) (hReferenceIdeal : Cert.ReferenceIdeal.Facts) (hSecond : Cert.Second.Facts) (hSecondIdeal : Cert.SecondIdeal.Facts) (hTransformerIdeal : Cert.TransformerIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Second (hSecond := hSecond)
    ∧ quiescent_SecondIdeal (hSecondIdeal := hSecondIdeal)
    ∧ quiescent_SecondIdeal_pre_finite (hSecondIdeal := hSecondIdeal) (hPre_finite := hPre_finite)
    ∧ quiescent_TransformerIdeal (hTransformerIdeal := hTransformerIdeal)
    ∧ quiescent_TransformerIdeal_pre_finite (hTransformerIdeal := hTransformerIdeal) (hPre_finite := hPre_finite)
    ∧ preserves_Kernel_KernelIdeal
    ∧ algebraic_KernelIdeal_ReferenceIdeal (hKernelIdeal := hKernelIdeal) (hReferenceIdeal := hReferenceIdeal)
    ∧ preserves_Second_SecondIdeal
    ∧ algebraic_SecondIdeal_TransformerIdeal_pre_finite (hSecondIdeal := hSecondIdeal) (hTransformerIdeal := hTransformerIdeal) (hPre_finite := hPre_finite)
-- ==== Pre_finite.lean ====
abbrev S16x16x128 : Shape := ⟨3, ![16, 16, 128]⟩
abbrev S8x16 : Shape := ⟨2, ![8, 16]⟩
abbrev S3x16x16 : Shape := ⟨3, ![3, 16, 16]⟩
abbrev S3x16x256 : Shape := ⟨3, ![3, 16, 256]⟩
abbrev S3x256 : Shape := ⟨2, ![3, 256]⟩
abbrev S3x256x16 : Shape := ⟨3, ![3, 256, 16]⟩
abbrev S3x16 : Shape := ⟨2, ![3, 16]⟩
abbrev S16 : Shape := ⟨1, ![16]⟩
abbrev S128x96 : Shape := ⟨2, ![128, 96]⟩
abbrev S96 : Shape := ⟨1, ![96]⟩
abbrev S_ : Shape := ⟨0, ![]⟩

class Facts : Prop where
  bcast_S_S16x16x128 : S_.BroadcastsInDim S16x16x128 (![] : Fin 0 → Fin S16x16x128.rank)
  reducesTo_S16x16x128_S_d0_1_2 : S16x16x128.ReducesTo [0, 1, 2] S_
  h_S_ : 0 < S_.numel
  bcast_S_S8x16 : S_.BroadcastsInDim S8x16 (![] : Fin 0 → Fin S8x16.rank)
  reducesTo_S8x16_S_d0_1 : S8x16.ReducesTo [0, 1] S_
  bcast_S_S3x16x16 : S_.BroadcastsInDim S3x16x16 (![] : Fin 0 → Fin S3x16x16.rank)
  reducesTo_S3x16x16_S_d0_1_2 : S3x16x16.ReducesTo [0, 1, 2] S_
  bcast_S_S3x16x256 : S_.BroadcastsInDim S3x16x256 (![] : Fin 0 → Fin S3x16x256.rank)
  reducesTo_S3x16x256_S_d0_1_2 : S3x16x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x16 : S_.BroadcastsInDim S3x256x16 (![] : Fin 0 → Fin S3x256x16.rank)
  reducesTo_S3x256x16_S_d0_1_2 : S3x256x16.ReducesTo [0, 1, 2] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_

variable [Facts]

def fn_part5 {F : FTy → Type} [FloatOps F] (main_v83 : IVec S_ 1) (main_v84 : FVec F S96 .f32) (main_cst_32 : FVec F S_ .f32) : IVec S_ 1 :=
  let main_v85 : FVec F S96 .f32 := broadcastInDim S96 ![] bcast_S_S96 main_cst_32
  let main_v86 : IVec S96 1 := cmpf .olt main_v84 main_v85
  let main_c_33 : IVec S_ 1 := constantI S_ 1 1#1
  let main_v87 : IVec S_ 1 := (fun x v => Host.reduce IntOp.andi x v reducesTo_S96_S_d0 h_S_) main_v86 main_c_33
  let main_v88 : IVec S_ 1 := andi main_v83 main_v87
  main_v88

def fn_part4 {F : FTy → Type} [FloatOps F] (main_arg14 : FVec F S16 .f32) (main_arg15 : FVec F S16 .f32) (main_arg16 : FVec F S128x96 .f32) (main_arg17 : FVec F S96 .f32) (main_v63 : IVec S_ 1) (main_v67 : IVec S_ 1) : IVec S_ 1 :=
  let main_v68 : IVec S_ 1 := andi main_v63 main_v67
  let main_v69 : FVec F S16 .f32 := Host.absf main_arg14
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S128x96 .f32 := Host.absf main_arg16
  let main_cst_30 : FVec F S_ .f32 := constant S_ .f32 0x7F800000#32
  let main_v80 : FVec F S128x96 .f32 := broadcastInDim S128x96 ![] bcast_S_S128x96 main_cst_30
  let main_v81 : IVec S128x96 1 := cmpf .olt main_v79 main_v80
  let main_c_31 : IVec S_ 1 := constantI S_ 1 1#1
  let main_v82 : IVec S_ 1 := (fun x v => Host.reduce IntOp.andi x v reducesTo_S128x96_S_d0_1 h_S_) main_v81 main_c_31
  let main_v83 : IVec S_ 1 := andi main_v78 main_v82
  let main_v84 : FVec F S96 .f32 := Host.absf main_arg17
  let main_cst_32 : FVec F S_ .f32 := constant S_ .f32 0x7F800000#32
  fn_part5 (F := F) main_v83 main_v84 main_cst_32

def fn_part3 {F : FTy → Type} [FloatOps F] (main_arg11 : FVec F S3x16 .f32) (main_arg12 : FVec F S3x16 .f32) (main_arg13 : FVec F S3x16 .f32) (main_arg14 : FVec F S16 .f32) (main_arg15 : FVec F S16 .f32) (main_arg16 : FVec F S128x96 .f32) (main_arg17 : FVec F S96 .f32) (main_v48 : IVec S_ 1) (main_v49 : FVec F S3x16 .f32) (main_v50 : FVec F S3x16 .f32) : IVec S_ 1 :=
  let main_v51 : IVec S3x16 1 := cmpf .olt main_v49 main_v50
  let main_c_19 : IVec S_ 1 := constantI S_ 1 1#1
  let main_v52 : IVec S_ 1 := (fun x v => Host.reduce IntOp.andi x v reducesTo_S3x16_S_d0_1 h_S_) main_v51 main_c_19
  let main_v53 : IVec S_ 1 := andi main_v48 main_v52
  let main_v54 : FVec F S3x16 .f32 := Host.absf main_arg11
  let main_cst_20 : FVec F S_ .f32 := constant S_ .f32 0x7F800000#32
  let main_v55 : FVec F S3x16 .f32 := broadcastInDim S3x16 ![] bcast_S_S3x16 main_cst_20
  let main_v56 : IVec S3x16 1 := cmpf .olt main_v54 main_v55
  let main_c_21 : IVec S_ 1 := constantI S_ 1 1#1
  let main_v57 : IVec S_ 1 := (fun x v => Host.reduce IntOp.andi x v reducesTo_S3x16_S_d0_1 h_S_) main_v56 main_c_21
  let main_v58 : IVec S_ 1 := andi main_v53 main_v57
  let main_v59 : FVec F S3x16 .f32 := Host.absf main_arg12
  let main_cst_22 : FVec F S_ .f32 := constant S_ .f32 0x7F800000#32
  let main_v60 : FVec F S3x16 .f32 := broadcastInDim S3x16 ![] bcast_S_S3x16 main_cst_22
  let main_v61 : IVec S3x16 1 := cmpf .olt main_v59 main_v60
  let main_c_23 : IVec S_ 1 := constantI S_ 1 1#1
  let main_v62 : IVec S_ 1 := (fun x v => Host.reduce IntOp.andi x v reducesTo_S3x16_S_d0_1 h_S_) main_v61 main_c_23
  let main_v63 : IVec S_ 1 := andi main_v58 main_v62
  let main_v64 : FVec F S3x16 .f32 := Host.absf main_arg13
  let main_cst_24 : FVec F S_ .f32 := constant S_ .f32 0x7F800000#32
  let main_v65 : FVec F S3x16 .f32 := broadcastInDim S3x16 ![] bcast_S_S3x16 main_cst_24
  let main_v66 : IVec S3x16 1 := cmpf .olt main_v64 main_v65
  let main_c_25 : IVec S_ 1 := constantI S_ 1 1#1
  let main_v67 : IVec S_ 1 := (fun x v => Host.reduce IntOp.andi x v reducesTo_S3x16_S_d0_1 h_S_) main_v66 main_c_25
  fn_part4 (F := F) main_arg14 main_arg15 main_arg16 main_arg17 main_v63 main_v67

def fn_part2 {F : FTy → Type} [FloatOps F] (main_arg7 : FVec F S3x256 .f32) (main_arg8 : FVec F S3x256x16 .f32) (main_arg9 : FVec F S3x16 .f32) (main_arg10 : FVec F S3x16 .f32) (main_arg11 : FVec F S3x16 .f32) (main_arg12 : FVec F S3x16 .f32) (main_arg13 : FVec F S3x16 .f32) (main_arg14 : FVec F S16 .f32) (main_arg15 : FVec F S16 .f32) (main_arg16 : FVec F S128x96 .f32) (main_arg17 : FVec F S96 .f32) (main_v33 : IVec S_ 1) : IVec S_ 1 :=
  let main_v34 : FVec F S3x256 .f32 := Host.absf main_arg7
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256x16 .f32 := Host.absf main_arg8
  let main_cst_14 : FVec F S_ .f32 := constant S_ .f32 0x7F800000#32
  let main_v40 : FVec F S3x256x16 .f32 := broadcastInDim S3x256x16 ![] bcast_S_S3x256x16 main_cst_14
  let main_v41 : IVec S3x256x16 1 := cmpf .olt main_v39 main_v40
  let main_c_15 : IVec S_ 1 := constantI S_ 1 1#1
  let main_v42 : IVec S_ 1 := (fun x v => Host.reduce IntOp.andi x v reducesTo_S3x256x16_S_d0_1_2 h_S_) main_v41 main_c_15
  let main_v43 : IVec S_ 1 := andi main_v38 main_v42
  let main_v44 : FVec F S3x16 .f32 := Host.absf main_arg9
  let main_cst_16 : FVec F S_ .f32 := constant S_ .f32 0x7F800000#32
  let main_v45 : FVec F S3x16 .f32 := broadcastInDim S3x16 ![] bcast_S_S3x16 main_cst_16
  let main_v46 : IVec S3x16 1 := cmpf .olt main_v44 main_v45
  let main_c_17 : IVec S_ 1 := constantI S_ 1 1#1
  let main_v47 : IVec S_ 1 := (fun x v => Host.reduce IntOp.andi x v reducesTo_S3x16_S_d0_1 h_S_) main_v46 main_c_17
  let main_v48 : IVec S_ 1 := andi main_v43 main_v47
  let main_v49 : FVec F S3x16 .f32 := Host.absf main_arg10
  let main_cst_18 : FVec F S_ .f32 := constant S_ .f32 0x7F800000#32
  let main_v50 : FVec F S3x16 .f32 := broadcastInDim S3x16 ![] bcast_S_S3x16 main_cst_18
  fn_part3 (F := F) main_arg11 main_arg12 main_arg13 main_arg14 main_arg15 main_arg16 main_arg17 main_v48 main_v49 main_v50

def fn_part1 {F : FTy → Type} [FloatOps F] (main_arg4 : FVec F S3x16x16 .f32) (main_arg5 : FVec F S3x16x16 .f32) (main_arg6 : FVec F S3x16x256 .f32) (main_arg7 : FVec F S3x256 .f32) (main_arg8 : FVec F S3x256x16 .f32) (main_arg9 : FVec F S3x16 .f32) (main_arg10 : FVec F S3x16 .f32) (main_arg11 : FVec F S3x16 .f32) (main_arg12 : FVec F S3x16 .f32) (main_arg13 : FVec F S3x16 .f32) (main_arg14 : FVec F S16 .f32) (main_arg15 : FVec F S16 .f32) (main_arg16 : FVec F S128x96 .f32) (main_arg17 : FVec F S96 .f32) (main_v13 : IVec S_ 1) (main_v16 : IVec S3x16x16 1) : IVec S_ 1 :=
  let main_c_5 : IVec S_ 1 := constantI S_ 1 1#1
  let main_v17 : IVec S_ 1 := (fun x v => Host.reduce IntOp.andi x v reducesTo_S3x16x16_S_d0_1_2 h_S_) main_v16 main_c_5
  let main_v18 : IVec S_ 1 := andi main_v13 main_v17
  let main_v19 : FVec F S3x16x16 .f32 := Host.absf main_arg4
  let main_cst_6 : FVec F S_ .f32 := constant S_ .f32 0x7F800000#32
  let main_v20 : FVec F S3x16x16 .f32 := broadcastInDim S3x16x16 ![] bcast_S_S3x16x16 main_cst_6
  let main_v21 : IVec S3x16x16 1 := cmpf .olt main_v19 main_v20
  let main_c_7 : IVec S_ 1 := constantI S_ 1 1#1
  let main_v22 : IVec S_ 1 := (fun x v => Host.reduce IntOp.andi x v reducesTo_S3x16x16_S_d0_1_2 h_S_) main_v21 main_c_7
  let main_v23 : IVec S_ 1 := andi main_v18 main_v22
  let main_v24 : FVec F S3x16x16 .f32 := Host.absf main_arg5
  let main_cst_8 : FVec F S_ .f32 := constant S_ .f32 0x7F800000#32
  let main_v25 : FVec F S3x16x16 .f32 := broadcastInDim S3x16x16 ![] bcast_S_S3x16x16 main_cst_8
  let main_v26 : IVec S3x16x16 1 := cmpf .olt main_v24 main_v25
  let main_c_9 : IVec S_ 1 := constantI S_ 1 1#1
  let main_v27 : IVec S_ 1 := (fun x v => Host.reduce IntOp.andi x v reducesTo_S3x16x16_S_d0_1_2 h_S_) main_v26 main_c_9
  let main_v28 : IVec S_ 1 := andi main_v23 main_v27
  let main_v29 : FVec F S3x16x256 .f32 := Host.absf main_arg6
  let main_cst_10 : FVec F S_ .f32 := constant S_ .f32 0x7F800000#32
  let main_v30 : FVec F S3x16x256 .f32 := broadcastInDim S3x16x256 ![] bcast_S_S3x16x256 main_cst_10
  let main_v31 : IVec S3x16x256 1 := cmpf .olt main_v29 main_v30
  let main_c_11 : IVec S_ 1 := constantI S_ 1 1#1
  let main_v32 : IVec S_ 1 := (fun x v => Host.reduce IntOp.andi x v reducesTo_S3x16x256_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16x16x128 .f32) (main_arg1 : FVec F S8x16 .f32) (main_arg2 : FVec F S3x16x16 .f32) (main_arg3 : FVec F S3x16x16 .f32) (main_arg4 : FVec F S3x16x16 .f32) (main_arg5 : FVec F S3x16x16 .f32) (main_arg6 : FVec F S3x16x256 .f32) (main_arg7 : FVec F S3x256 .f32) (main_arg8 : FVec F S3x256x16 .f32) (main_arg9 : FVec F S3x16 .f32) (main_arg10 : FVec F S3x16 .f32) (main_arg11 : FVec F S3x16 .f32) (main_arg12 : FVec F S3x16 .f32) (main_arg13 : FVec F S3x16 .f32) (main_arg14 : FVec F S16 .f32) (main_arg15 : FVec F S16 .f32) (main_arg16 : FVec F S128x96 .f32) (main_arg17 : FVec F S96 .f32) : IVec S_ 1 :=
  let main_v0 : FVec F S16x16x128 .f32 := Host.absf main_arg0
  let main_cst : FVec F S_ .f32 := constant S_ .f32 0x7F800000#32
  let main_v1 : FVec F S16x16x128 .f32 := broadcastInDim S16x16x128 ![] bcast_S_S16x16x128 main_cst
  let main_v2 : IVec S16x16x128 1 := cmpf .olt main_v0 main_v1
  let main_c : IVec S_ 1 := constantI S_ 1 1#1
  let main_v3 : IVec S_ 1 := (fun x v => Host.reduce IntOp.andi x v reducesTo_S16x16x128_S_d0_1_2 h_S_) main_v2 main_c
  let main_v4 : FVec F S8x16 .f32 := Host.absf main_arg1
  let main_cst_0 : FVec F S_ .f32 := constant S_ .f32 0x7F800000#32
  let main_v5 : FVec F S8x16 .f32 := broadcastInDim S8x16 ![] bcast_S_S8x16 main_cst_0
  let main_v6 : IVec S8x16 1 := cmpf .olt main_v4 main_v5
  let main_c_1 : IVec S_ 1 := constantI S_ 1 1#1
  let main_v7 : IVec S_ 1 := (fun x v => Host.reduce IntOp.andi x v reducesTo_S8x16_S_d0_1 h_S_) main_v6 main_c_1
  let main_v8 : IVec S_ 1 := andi main_v3 main_v7
  let main_v9 : FVec F S3x16x16 .f32 := Host.absf main_arg2
  let main_cst_2 : FVec F S_ .f32 := constant S_ .f32 0x7F800000#32
  let main_v10 : FVec F S3x16x16 .f32 := broadcastInDim S3x16x16 ![] bcast_S_S3x16x16 main_cst_2
  let main_v11 : IVec S3x16x16 1 := cmpf .olt main_v9 main_v10
  let main_c_3 : IVec S_ 1 := constantI S_ 1 1#1
  let main_v12 : IVec S_ 1 := (fun x v => Host.reduce IntOp.andi x v reducesTo_S3x16x16_S_d0_1_2 h_S_) main_v11 main_c_3
  let main_v13 : IVec S_ 1 := andi main_v8 main_v12
  let main_v14 : FVec F S3x16x16 .f32 := Host.absf main_arg3
  let main_cst_4 : FVec F S_ .f32 := constant S_ .f32 0x7F800000#32
  let main_v15 : FVec F S3x16x16 .f32 := broadcastInDim S3x16x16 ![] bcast_S_S3x16x16 main_cst_4
  let main_v16 : IVec S3x16x16 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16x2048x33 : Shape := ⟨3, ![16, 2048, 33]⟩
abbrev S16x128 : Shape := ⟨2, ![16, 128]⟩
abbrev S128 : Shape := ⟨1, ![128]⟩
abbrev S128x16 : Shape := ⟨2, ![128, 16]⟩
abbrev S16 : Shape := ⟨1, ![16]⟩
abbrev S8 : Shape := ⟨1, ![8]⟩
abbrev S8x128 : Shape := ⟨2, ![8, 128]⟩
abbrev S8x1 : Shape := ⟨2, ![8, 1]⟩
abbrev S_ : Shape := ⟨0, ![]⟩
abbrev S127 : Shape := ⟨1, ![127]⟩
abbrev S1 : Shape := ⟨1, ![1]⟩
abbrev S1x128 : Shape := ⟨2, ![1, 128]⟩
abbrev S16x33x2048 : Shape := ⟨3, ![16, 33, 2048]⟩
abbrev S128x1 : Shape := ⟨2, ![128, 1]⟩
abbrev S16x1 : Shape := ⟨2, ![16, 1]⟩
abbrev S16x16x128 : Shape := ⟨3, ![16, 16, 128]⟩
abbrev S4x33x2048 : Shape := ⟨3, ![4, 33, 2048]⟩
abbrev S4x16x128 : Shape := ⟨3, ![4, 16, 128]⟩
abbrev S1x33x2048 : Shape := ⟨3, ![1, 33, 2048]⟩
abbrev S33x2048 : Shape := ⟨2, ![33, 2048]⟩
abbrev S16x2048 : Shape := ⟨2, ![16, 2048]⟩
abbrev S1x2048 : Shape := ⟨2, ![1, 2048]⟩
abbrev S128x2048 : Shape := ⟨2, ![128, 2048]⟩
abbrev S2048 : Shape := ⟨1, ![2048]⟩
abbrev S8x2048 : Shape := ⟨2, ![8, 2048]⟩
abbrev S2048x8 : Shape := ⟨2, ![2048, 8]⟩
abbrev S2048x128 : Shape := ⟨2, ![2048, 128]⟩
abbrev S2048x1 : Shape := ⟨2, ![2048, 1]⟩
abbrev S17x2048 : Shape := ⟨2, ![17, 2048]⟩
abbrev S17x128 : Shape := ⟨2, ![17, 128]⟩
abbrev S1x16x128 : Shape := ⟨3, ![1, 16, 128]⟩

abbrev nBuf : Space → Nat
  | .hbm => 38
  | .vmem => 12
  | .smem => 0
  | _ => 0

abbrev bufTy : (tb : Table) → Fin (tcTables nBuf tb) → BufTy
  | .hbm, ⟨0, _⟩ => ⟨S16x2048x33, .f32⟩
  | .hbm, ⟨1, _⟩ => ⟨S16x128, .f32⟩
  | .hbm, ⟨2, _⟩ => ⟨S128, .f32⟩
  | .hbm, ⟨3, _⟩ => ⟨S128x16, .f32⟩
  | .hbm, ⟨4, _⟩ => ⟨S16, .f32⟩
  | .hbm, ⟨5, _⟩ => ⟨S8, .f32⟩
  | .hbm, ⟨6, _⟩ => ⟨S8, .f32⟩
  | .hbm, ⟨7, _⟩ => ⟨S8x128, .f32⟩
  | .hbm, ⟨8, _⟩ => ⟨S8x1, .f32⟩
  | .hbm, ⟨9, _⟩ => ⟨S8x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S127, .f32⟩
  | .hbm, ⟨18, _⟩ => ⟨S_, .f32⟩
  | .hbm, ⟨19, _⟩ => ⟨S127, .f32⟩
  | .hbm, ⟨20, _⟩ => ⟨S127, .f32⟩
  | .hbm, ⟨21, _⟩ => ⟨S1, .f32⟩
  | .hbm, ⟨22, _⟩ => ⟨S_, .f32⟩
  | .hbm, ⟨23, _⟩ => ⟨S127, .f32⟩
  | .hbm, ⟨24, _⟩ => ⟨S127, .f32⟩
  | .hbm, ⟨25, _⟩ => ⟨S127, .f32⟩
  | .hbm, ⟨26, _⟩ => ⟨S127, .f32⟩
  | .hbm, ⟨27, _⟩ => ⟨S1, .f32⟩
  | .hbm, ⟨28, _⟩ => ⟨S127, .f32⟩
  | .hbm, ⟨29, _⟩ => ⟨S127, .f32⟩
  | .hbm, ⟨30, _⟩ => ⟨S127, .f32⟩
  | .hbm, ⟨31, _⟩ => ⟨S1, .f32⟩
  | .hbm, ⟨32, _⟩ => ⟨S128, .f32⟩
  | .hbm, ⟨33, _⟩ => ⟨S1x128, .f32⟩
  | .hbm, ⟨34, _⟩ => ⟨S16x33x2048, .f32⟩
  | .hbm, ⟨35, _⟩ => ⟨S128x1, .f32⟩
  | .hbm, ⟨36, _⟩ => ⟨S16x1, .f32⟩
  | .hbm, ⟨37, _⟩ => ⟨S16x16x128, .f32⟩
  | .local _ .vmem, ⟨0, _⟩ => ⟨S4x33x2048, .f32⟩
  | .local _ .vmem, ⟨1, _⟩ => ⟨S4x33x2048, .f32⟩
  | .local _ .vmem, ⟨2, _⟩ => ⟨S16x128, .f32⟩
  | .local _ .vmem, ⟨3, _⟩ => ⟨S128x1, .f32⟩
  | .local _ .vmem, ⟨4, _⟩ => ⟨S128x16, .f32⟩
  | .local _ .vmem, ⟨5, _⟩ => ⟨S16x1, .f32⟩
  | .local _ .vmem, ⟨6, _⟩ => ⟨S8x1, .f32⟩
  | .local _ .vmem, ⟨7, _⟩ => ⟨S8x1, .f32⟩
  | .local _ .vmem, ⟨8, _⟩ => ⟨S8x128, .f32⟩
  | .local _ .vmem, ⟨9, _⟩ => ⟨S1x128, .f32⟩
  | .local _ .vmem, ⟨10, _⟩ => ⟨S4x16x128, .f32⟩
  | .local _ .vmem, ⟨11, _⟩ => ⟨S4x16x128, .f32⟩
  | _, _ => ⟨S16x2048x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_cst_2 : Ref sig .tc := ⟨.hbm, 10, rfl⟩
abbrev main_cst_3 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x33x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16x2048x33 : Shape := ⟨3, ![16, 2048, 33]⟩
abbrev S16x128 : Shape := ⟨2, ![16, 128]⟩
abbrev S128 : Shape := ⟨1, ![128]⟩
abbrev S128x16 : Shape := ⟨2, ![128, 16]⟩
abbrev S16 : Shape := ⟨1, ![16]⟩
abbrev S16x2048x16 : Shape := ⟨3, ![16, 2048, 16]⟩
abbrev S16x2048x1 : Shape := ⟨3, ![16, 2048, 1]⟩
abbrev S16x2048 : Shape := ⟨2, ![16, 2048]⟩
abbrev S_ : Shape := ⟨0, ![]⟩
abbrev S8 : Shape := ⟨1, ![8]⟩
abbrev S1 : Shape := ⟨1, ![1]⟩
abbrev S9 : Shape := ⟨1, ![9]⟩
abbrev S127 : Shape := ⟨1, ![127]⟩
abbrev S8x16 : Shape := ⟨2, ![8, 16]⟩
abbrev S16x2048x128 : Shape := ⟨3, ![16, 2048, 128]⟩
abbrev S1x1x128 : Shape := ⟨3, ![1, 1, 128]⟩
abbrev S1x1x16 : Shape := ⟨3, ![1, 1, 16]⟩
abbrev S16x1x2048 : Shape := ⟨3, ![16, 1, 2048]⟩
abbrev S1x8x1 : Shape := ⟨3, ![1, 8, 1]⟩
abbrev S16x8x2048 : Shape := ⟨3, ![16, 8, 2048]⟩
abbrev S1x8x16x1 : Shape := ⟨4, ![1, 8, 16, 1]⟩
abbrev S16x1x1x2048 : Shape := ⟨4, ![16, 1, 1, 2048]⟩
abbrev S16x8x16x2048 : Shape := ⟨4, ![16, 8, 16, 2048]⟩
abbrev S16x8x1x2048 : Shape := ⟨4, ![16, 8, 1, 2048]⟩
abbrev S16x8x16 : Shape := ⟨3, ![16, 8, 16]⟩
abbrev S16x8x16x1 : Shape := ⟨4, ![16, 8, 16, 1]⟩
abbrev S16x8 : Shape := ⟨2, ![16, 8]⟩
abbrev S16x8x1x1 : Shape := ⟨4, ![16, 8, 1, 1]⟩
abbrev S16x8x16x16 : Shape := ⟨4, ![16, 8, 16, 16]⟩
abbrev S16x16x8x16 : Shape := ⟨4, ![16, 16, 8, 16]⟩
abbrev S16x16x128 : Shape := ⟨3, ![16, 16, 128]⟩

abbrev nBuf : Space → Nat
  | .hbm => 128
  | .vmem => 0
  | .smem => 0
  | _ => 0

abbrev bufTy : (tb : Table) → Fin (tcTables nBuf tb) → BufTy
  | .hbm, ⟨0, _⟩ => ⟨S16x2048x33, .f32⟩
  | .hbm, ⟨1, _⟩ => ⟨S16x128, .f32⟩
  | .hbm, ⟨2, _⟩ => ⟨S128, .f32⟩
  | .hbm, ⟨3, _⟩ => ⟨S128x16, .f32⟩
  | .hbm, ⟨4, _⟩ => ⟨S16, .f32⟩
  | .hbm, ⟨5, _⟩ => ⟨S16x2048x16, .f32⟩
  | .hbm, ⟨6, _⟩ => ⟨S16x2048x16, .f32⟩
  | .hbm, ⟨7, _⟩ => ⟨S16x2048x1, .f32⟩
  | .hbm, ⟨8, _⟩ => ⟨S16x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S1, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S1, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S1, .f32⟩
  | .hbm, ⟨31, _⟩ => ⟨S9, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S127, .f32⟩
  | .hbm, ⟨40, _⟩ => ⟨S_, .f32⟩
  | .hbm, ⟨41, _⟩ => ⟨S127, .f32⟩
  | .hbm, ⟨42, _⟩ => ⟨S127, .f32⟩
  | .hbm, ⟨43, _⟩ => ⟨S1, .f32⟩
  | .hbm, ⟨44, _⟩ => ⟨S_, .f32⟩
  | .hbm, ⟨45, _⟩ => ⟨S127, .f32⟩
  | .hbm, ⟨46, _⟩ => ⟨S127, .f32⟩
  | .hbm, ⟨47, _⟩ => ⟨S127, .f32⟩
  | .hbm, ⟨48, _⟩ => ⟨S127, .f32⟩
  | .hbm, ⟨49, _⟩ => ⟨S1, .f32⟩
  | .hbm, ⟨50, _⟩ => ⟨S127, .f32⟩
  | .hbm, ⟨51, _⟩ => ⟨S127, .f32⟩
  | .hbm, ⟨52, _⟩ => ⟨S127, .f32⟩
  | .hbm, ⟨53, _⟩ => ⟨S1, .f32⟩
  | .hbm, ⟨54, _⟩ => ⟨S128, .f32⟩
  | .hbm, ⟨55, _⟩ => ⟨S8x16, .f32⟩
  | .hbm, ⟨56, _⟩ => ⟨S16x2048x16, .f32⟩
  | .hbm, ⟨57, _⟩ => ⟨S16x2048x128, .f32⟩
  | .hbm, ⟨58, _⟩ => ⟨S1x1x128, .f32⟩
  | .hbm, ⟨59, _⟩ => ⟨S16x2048x128, .f32⟩
  | .hbm, ⟨60, _⟩ => ⟨S16x2048x128, .f32⟩
  | .hbm, ⟨61, _⟩ => ⟨S_, .f32⟩
  | .hbm, ⟨62, _⟩ => ⟨S16x2048x128, .f32⟩
  | .hbm, ⟨63, _⟩ => ⟨S16x2048x128, .f32⟩
  | .hbm, ⟨64, _⟩ => ⟨S16x2048x16, .f32⟩
  | .hbm, ⟨65, _⟩ => ⟨S1x1x16, .f32⟩
  | .hbm, ⟨66, _⟩ => ⟨S16x2048x16, .f32⟩
  | .hbm, ⟨67, _⟩ => ⟨S16x2048x16, .f32⟩
  | .hbm, ⟨68, _⟩ => ⟨S_, .f32⟩
  | .hbm, ⟨69, _⟩ => ⟨S16x2048, .f32⟩
  | .hbm, ⟨70, _⟩ => ⟨S_, .f32⟩
  | .hbm, ⟨71, _⟩ => ⟨S16x2048, .f32⟩
  | .hbm, ⟨72, _⟩ => ⟨S16x2048, .i1⟩
  | .hbm, ⟨73, _⟩ => ⟨S16x1x2048, .f32⟩
  | .hbm, ⟨74, _⟩ => ⟨S8, .f32⟩
  | .hbm, ⟨75, _⟩ => ⟨S1x8x1, .f32⟩
  | .hbm, ⟨76, _⟩ => ⟨S16x8x2048, .f32⟩
  | .hbm, ⟨77, _⟩ => ⟨S16x8x2048, .f32⟩
  | .hbm, ⟨78, _⟩ => ⟨S16x8x2048, .i1⟩
  | .hbm, ⟨79, _⟩ => ⟨S16x1x2048, .f32⟩
  | .hbm, ⟨80, _⟩ => ⟨S8, .f32⟩
  | .hbm, ⟨81, _⟩ => ⟨S1x8x1, .f32⟩
  | .hbm, ⟨82, _⟩ => ⟨S16x8x2048, .f32⟩
  | .hbm, ⟨83, _⟩ => ⟨S16x8x2048, .f32⟩
  | .hbm, ⟨84, _⟩ => ⟨S16x8x2048, .i1⟩
  | .hbm, ⟨85, _⟩ => ⟨S16x8x2048, .i1⟩
  | .hbm, ⟨86, _⟩ => ⟨S16x1x2048, .i1⟩
  | .hbm, ⟨87, _⟩ => ⟨S16x8x2048, .i1⟩
  | .hbm, ⟨88, _⟩ => ⟨S16x8x2048, .i1⟩
  | .hbm, ⟨89, _⟩ => ⟨S1x8x16x1, .f32⟩
  | .hbm, ⟨90, _⟩ => ⟨S16x1x1x2048, .f32⟩
  | .hbm, ⟨91, _⟩ => ⟨S16x8x16x2048, .f32⟩
  | .hbm, ⟨92, _⟩ => ⟨S16x8x16x2048, .f32⟩
  | .hbm, ⟨93, _⟩ => ⟨S16x8x16x2048, .f32⟩
  | .hbm, ⟨94, _⟩ => ⟨S16x8x16x2048, .f32⟩
  | .hbm, ⟨95, _⟩ => ⟨S16x8x1x2048, .i1⟩
  | .hbm, ⟨96, _⟩ => ⟨S16x8x16x2048, .f32⟩
  | .hbm, ⟨97, _⟩ => ⟨S_, .f32⟩
  | .hbm, ⟨98, _⟩ => ⟨S16x8x16x2048, .f32⟩
  | .hbm, ⟨99, _⟩ => ⟨S16x8x16x2048, .f32⟩
  | .hbm, ⟨100, _⟩ => ⟨S_, .f32⟩
  | .hbm, ⟨101, _⟩ => ⟨S_, .f32⟩
  | .hbm, ⟨102, _⟩ => ⟨S16x8x16x2048, .i1⟩
  | .hbm, ⟨103, _⟩ => ⟨S16x8x16x2048, .f32⟩
  | .hbm, ⟨104, _⟩ => ⟨S16x8x16x2048, .f32⟩
  | .hbm, ⟨105, _⟩ => ⟨S_, .f32⟩
  | .hbm, ⟨106, _⟩ => ⟨S16x8x16, .f32⟩
  | .hbm, ⟨107, _⟩ => ⟨S_, .f32⟩
  | .hbm, ⟨108, _⟩ => ⟨S16x8x16, .f32⟩
  | .hbm, ⟨109, _⟩ => ⟨S16x8x16, .f32⟩
  | .hbm, ⟨110, _⟩ => ⟨S16x8x16x1, .f32⟩
  | .hbm, ⟨111, _⟩ => ⟨S16x8x16x2048, .f32⟩
  | .hbm, ⟨112, _⟩ => ⟨S16x8x16x2048, .f32⟩
  | .hbm, ⟨113, _⟩ => ⟨S16x8x16x2048, .f32⟩
  | .hbm, ⟨114, _⟩ => ⟨S_, .f32⟩
  | .hbm, ⟨115, _⟩ => ⟨S16x8x16, .f32⟩
  | .hbm, ⟨116, _⟩ => ⟨S16x8x16x1, .f32⟩
  | .hbm, ⟨117, _⟩ => ⟨S16x8x16x2048, .f32⟩
  | .hbm, ⟨118, _⟩ => ⟨S16x8x16x2048, .f32⟩
  | .hbm, ⟨119, _⟩ => ⟨S_, .i1⟩
  | .hbm, ⟨120, _⟩ => ⟨S16x8, .i1⟩
  | .hbm, ⟨121, _⟩ => ⟨S16x8x1x1, .i1⟩
  | .hbm, ⟨122, _⟩ => ⟨S16x8x1x1, .f32⟩
  | .hbm, ⟨123, _⟩ => ⟨S16x8x16x16, .f32⟩
  | .hbm, ⟨124, _⟩ => ⟨S16x8x16x16, .f32⟩
  | .hbm, ⟨125, _⟩ => ⟨S16x8x16x16, .f32⟩
  | .hbm, ⟨126, _⟩ => ⟨S16x16x8x16, .f32⟩
  | .hbm, ⟨127, _⟩ => ⟨S16x16x128, .f32⟩
  | _, _ => ⟨S16x2048x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_cst : Ref sig .tc := ⟨.hbm, 14, rfl⟩
abbrev main_call0_v3 : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_v4 : Ref sig .tc := ⟨.hbm, 31, rfl⟩
abbrev main_cst_1 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_cst : Ref sig .tc := ⟨.hbm, 37, rfl⟩
abbrev main_call1_v3 : Ref sig .tc := ⟨.hbm, 38, rfl⟩
abbrev main_call1_v4 : Ref sig .tc := ⟨.hbm, 39, rfl⟩
abbrev main_call1_cst_0 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_cst_1 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_v15 : Ref sig .tc := ⟨.hbm, 52, rfl⟩
abbrev main_call1_v16 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_call2_cst : Ref sig .tc := ⟨.hbm, 61, rfl⟩
abbrev main_call2_v0 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_cst_3 : Ref sig .tc := ⟨.hbm, 68, rfl⟩
abbrev main_v17 : Ref sig .tc := ⟨.hbm, 69, rfl⟩
abbrev main_cst_4 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_cst_5 : Ref sig .tc := ⟨.hbm, 97, rfl⟩
abbrev main_v44 : Ref sig .tc := ⟨.hbm, 98, rfl⟩
abbrev main_v45 : Ref sig .tc := ⟨.hbm, 99, rfl⟩
abbrev main_cst_6 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v46 : Ref sig .tc := ⟨.hbm, 104, rfl⟩
abbrev main_cst_7 : Ref sig .tc := ⟨.hbm, 105, rfl⟩
abbrev main_v47 : Ref sig .tc := ⟨.hbm, 106, rfl⟩
abbrev main_cst_8 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_cst_9 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_c : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩

abbrev nD : Nat := 1
abbrev τ : Topo := Topo.v7x

variable {F : FTy → Type} [FloatOps F]
-- ==== Second.lean ====
abbrev S16x16x128 : Shape := ⟨3, ![16, 16, 128]⟩
abbrev S8x16 : Shape := ⟨2, ![8, 16]⟩
abbrev S3x16x16 : Shape := ⟨3, ![3, 16, 16]⟩
abbrev S3x16x256 : Shape := ⟨3, ![3, 16, 256]⟩
abbrev S3x256 : Shape := ⟨2, ![3, 256]⟩
abbrev S3x256x16 : Shape := ⟨3, ![3, 256, 16]⟩
abbrev S3x16 : Shape := ⟨2, ![3, 16]⟩
abbrev S16 : Shape := ⟨1, ![16]⟩
abbrev S128x96 : Shape := ⟨2, ![128, 96]⟩
abbrev S96 : Shape := ⟨1, ![96]⟩
abbrev S128x64 : Shape := ⟨2, ![128, 64]⟩
abbrev S64x128 : Shape := ⟨2, ![64, 128]⟩
abbrev S64x64 : Shape := ⟨2, ![64, 64]⟩
abbrev S128x16 : Shape := ⟨2, ![128, 16]⟩
abbrev S128x128 : Shape := ⟨2, ![128, 128]⟩
abbrev S16x128 : Shape := ⟨2, ![16, 128]⟩
abbrev S256x128 : Shape := ⟨2, ![256, 128]⟩
abbrev S1x16 : Shape := ⟨2, ![1, 16]⟩
abbrev S1x96 : Shape := ⟨2, ![1, 96]⟩
abbrev S1x128 : Shape := ⟨2, ![1, 128]⟩
abbrev S256x96 : Shape := ⟨2, ![256, 96]⟩
abbrev S1x16x16 : Shape := ⟨3, ![1, 16, 16]⟩
abbrev S16x16 : Shape := ⟨2, ![16, 16]⟩
abbrev S256x16 : Shape := ⟨2, ![256, 16]⟩
abbrev S256x64 : Shape := ⟨2, ![256, 64]⟩
abbrev S1x16x256 : Shape := ⟨3, ![1, 16, 256]⟩
abbrev S16x256 : Shape := ⟨2, ![16, 256]⟩
abbrev S256x256 : Shape := ⟨2, ![256, 256]⟩
abbrev S1x256 : Shape := ⟨2, ![1, 256]⟩
abbrev S1x256x16 : Shape := ⟨3, ![1, 256, 16]⟩

abbrev nBuf : Space → Nat
  | .hbm => 32
  | .vmem => 27
  | .smem => 0
  | _ => 0

abbrev bufTy : (tb : Table) → Fin (tcTables nBuf tb) → BufTy
  | .hbm, ⟨0, _⟩ => ⟨S16x16x128, .f32⟩
  | .hbm, ⟨1, _⟩ => ⟨S8x16, .f32⟩
  | .hbm, ⟨2, _⟩ => ⟨S3x16x16, .f32⟩
  | .hbm, ⟨3, _⟩ => ⟨S3x16x16, .f32⟩
  | .hbm, ⟨4, _⟩ => ⟨S3x16x16, .f32⟩
  | .hbm, ⟨5, _⟩ => ⟨S3x16x16, .f32⟩
  | .hbm, ⟨6, _⟩ => ⟨S3x16x256, .f32⟩
  | .hbm, ⟨7, _⟩ => ⟨S3x256, .f32⟩
  | .hbm, ⟨8, _⟩ => ⟨S3x256x16, .f32⟩
  | .hbm, ⟨9, _⟩ => ⟨S3x16, .f32⟩
  | .hbm, ⟨10, _⟩ => ⟨S3x16, .f32⟩
  | .hbm, ⟨11, _⟩ => ⟨S3x16, .f32⟩
  | .hbm, ⟨12, _⟩ => ⟨S3x16, .f32⟩
  | .hbm, ⟨13, _⟩ => ⟨S3x16, .f32⟩
  | .hbm, ⟨14, _⟩ => ⟨S16, .f32⟩
  | .hbm, ⟨15, _⟩ => ⟨S16, .f32⟩
  | .hbm, ⟨16, _⟩ => ⟨S128x96, .f32⟩
  | .hbm, ⟨17, _⟩ => ⟨S96, .f32⟩
  | .hbm, ⟨18, _⟩ => ⟨S128x64, .f32⟩
  | .hbm, ⟨19, _⟩ => ⟨S64x128, .f32⟩
  | .hbm, ⟨20, _⟩ => ⟨S64x64, .f32⟩
  | .hbm, ⟨21, _⟩ => ⟨S128x16, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S16x128, .f32⟩
  | .hbm, ⟨26, _⟩ => ⟨S256x128, .f32⟩
  | .hbm, ⟨27, _⟩ => ⟨S1x16, .f32⟩
  | .hbm, ⟨28, _⟩ => ⟨S1x16, .f32⟩
  | .hbm, ⟨29, _⟩ => ⟨S1x96, .f32⟩
  | .hbm, ⟨30, _⟩ => ⟨S1x128, .f32⟩
  | .hbm, ⟨31, _⟩ => ⟨S256x96, .f32⟩
  | .local _ .vmem, ⟨0, _⟩ => ⟨S256x128, .f32⟩
  | .local _ .vmem, ⟨1, _⟩ => ⟨S3x16x16, .f32⟩
  | .local _ .vmem, ⟨2, _⟩ => ⟨S3x16x16, .f32⟩
  | .local _ .vmem, ⟨3, _⟩ => ⟨S3x16x16, .f32⟩
  | .local _ .vmem, ⟨4, _⟩ => ⟨S3x16x16, .f32⟩
  | .local _ .vmem, ⟨5, _⟩ => ⟨S3x16x256, .f32⟩
  | .local _ .vmem, ⟨6, _⟩ => ⟨S3x256, .f32⟩
  | .local _ .vmem, ⟨7, _⟩ => ⟨S3x256x16, .f32⟩
  | .local _ .vmem, ⟨8, _⟩ => ⟨S3x16, .f32⟩
  | .local _ .vmem, ⟨9, _⟩ => ⟨S3x16, .f32⟩
  | .local _ .vmem, ⟨10, _⟩ => ⟨S3x16, .f32⟩
  | .local _ .vmem, ⟨11, _⟩ => ⟨S3x16, .f32⟩
  | .local _ .vmem, ⟨12, _⟩ => ⟨S3x16, .f32⟩
  | .local _ .vmem, ⟨13, _⟩ => ⟨S1x16, .f32⟩
  | .local _ .vmem, ⟨14, _⟩ => ⟨S1x16, .f32⟩
  | .local _ .vmem, ⟨15, _⟩ => ⟨S128x96, .f32⟩
  | .local _ .vmem, ⟨16, _⟩ => ⟨S1x96, .f32⟩
  | .local _ .vmem, ⟨17, _⟩ => ⟨S1x128, .f32⟩
  | .local _ .vmem, ⟨18, _⟩ => ⟨S128x64, .f32⟩
  | .local _ .vmem, ⟨19, _⟩ => ⟨S64x128, .f32⟩
  | .local _ .vmem, ⟨20, _⟩ => ⟨S64x64, .f32⟩
  | .local _ .vmem, ⟨21, _⟩ => ⟨S128x16, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S16x128, .f32⟩
  | .local _ .vmem, ⟨26, _⟩ => ⟨S256x96, .f32⟩
  | _, _ => ⟨S16x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_cst_1 : Ref sig .tc := ⟨.hbm, 20, rfl⟩
abbrev main_cst_2 : Ref sig .tc := ⟨.hbm, 21, rfl⟩
abbrev main_cst_3 : Ref sig .tc := ⟨.hbm, 22, rfl⟩
abbrev main_cst_4 : Ref sig .tc := ⟨.hbm, 23, rfl⟩
abbrev main_cst_5 : Ref sig .tc := ⟨.hbm, 24, rfl⟩
abbrev main_cst_6 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c3_i32 : BitVec 32 := 3#32
  let v6 : BitVec 32 := Scalar.addi c0_i32 c3_i32
  let c1_i32 : BitVec 32 := 1#32
  ⟨c0_i32, v6, c1_i32⟩
def k0_off1 (k0_t1 : Fin k0_t1_loop.trips) : Fin 3 → Nat :=
  let c0_i32 : BitVec 32 := 0#32
  let c1_i32 : BitVec 32 := 1#32
  let arg27 : BitVec 32 := Scf.iv c0_i32 c1_i32 k0_t1
  let v40 : Index := Scalar.indexCast arg27
  let c0_26 : Index := 0#32
  let c0_27 : Index := 0#32
  ![v40.toNat, 0, 0]
def k0_off2 (k0_t1 : Fin k0_t1_loop.trips) : Fin 2 → Nat :=
  let c0_i32 : BitVec 32 := 0#32
  let c1_i32 : BitVec 32 := 1#32
  let arg27 : BitVec 32 := Scf.iv c0_i32 c1_i32 k0_t1
  let v209 : Index := Scalar.indexCast arg27
  let c0_149 : Index := 0#32
  ![v209.toNat, 0]
def k0_off3 (k0_t1 : Fin k0_t1_loop.trips) : Fin 3 → Nat :=
  let c0_i32 : BitVec 32 := 0#32
  let c1_i32 : BitVec 32 := 1#32
  let arg27 : BitVec 32 := Scf.iv c0_i32 c1_i32 k0_t1
  let v232 : Index := Scalar.indexCast arg27
  let c0_158 : Index := 0#32
  let c0_159 : Index := 0#32
  ![v232.toNat, 0, 0]
def k0_off4 (k0_t1 : Fin k0_t1_loop.trips) : Fin 2 → Nat :=
  let c0_i32 : BitVec 32 := 0#32
  let c1_i32 : BitVec 32 := 1#32
  let arg27 : BitVec 32 := Scf.iv c0_i32 c1_i32 k0_t1
  let v236 : Index := Scalar.indexCast arg27
  let c0_161 : Index := 0#32
  ![v236.toNat, 0]
def k0_off5 (k0_t1 : Fin k0_t1_loop.trips) : Fin 3 → Nat :=
  let c0_i32 : BitVec 32 := 0#32
  let c1_i32 : BitVec 32 := 1#32
  let arg27 : BitVec 32 := Scf.iv c0_i32 c1_i32 k0_t1
  let v253 : Index := Scalar.indexCast arg27
  let c0_166 : Index := 0#32
  let c0_167 : Index := 0#32
  ![v253.toNat, 0, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x256x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x96 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x96 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S64x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S64x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S128x16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S16x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S256x96 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== SecondIdeal.lean ====
variable {F : FTy → Type} [FloatOps F] [Named F]
def κ : String → Option EReal := fun
  | "inv_sqrt_hd" => some (((Real.sqrt 2)⁻¹ : ℝ) : EReal)
  | "no_clamp" => some ⊤
  | _ => none
-- ==== TransformerIdeal.lean ====
abbrev S16x16x128 : Shape := ⟨3, ![16, 16, 128]⟩
abbrev S8x16 : Shape := ⟨2, ![8, 16]⟩
abbrev S3x16x16 : Shape := ⟨3, ![3, 16, 16]⟩
abbrev S3x16x256 : Shape := ⟨3, ![3, 16, 256]⟩
abbrev S3x256 : Shape := ⟨2, ![3, 256]⟩
abbrev S3x256x16 : Shape := ⟨3, ![3, 256, 16]⟩
abbrev S3x16 : Shape := ⟨2, ![3, 16]⟩
abbrev S16 : Shape := ⟨1, ![16]⟩
abbrev S128x96 : Shape := ⟨2, ![128, 96]⟩
abbrev S96 : Shape := ⟨1, ![96]⟩
abbrev S256x8x16 : Shape := ⟨3, ![256, 8, 16]⟩
abbrev S1x8x16 : Shape := ⟨3, ![1, 8, 16]⟩
abbrev S1x16x16 : Shape := ⟨3, ![1, 16, 16]⟩
abbrev S16x16 : Shape := ⟨2, ![16, 16]⟩
abbrev S256x8x8x2 : Shape := ⟨4, ![256, 8, 8, 2]⟩
abbrev S256x8x2x8 : Shape := ⟨4, ![256, 8, 2, 8]⟩
abbrev S256x8x8x8 : Shape := ⟨4, ![256, 8, 8, 8]⟩
abbrev S_ : Shape := ⟨0, ![]⟩
abbrev S256x8x8 : Shape := ⟨3, ![256, 8, 8]⟩
abbrev S256x8x8x1 : Shape := ⟨4, ![256, 8, 8, 1]⟩
abbrev S1x16 : Shape := ⟨2, ![1, 16]⟩
abbrev S256x8 : Shape := ⟨2, ![256, 8]⟩
abbrev S256x8x1 : Shape := ⟨3, ![256, 8, 1]⟩
abbrev S1x1x16 : Shape := ⟨3, ![1, 1, 16]⟩
abbrev S1x16x256 : Shape := ⟨3, ![1, 16, 256]⟩
abbrev S16x256 : Shape := ⟨2, ![16, 256]⟩
abbrev S256x8x256 : Shape := ⟨3, ![256, 8, 256]⟩
abbrev S1x256 : Shape := ⟨2, ![1, 256]⟩
abbrev S256 : Shape := ⟨1, ![256]⟩
abbrev S1x1x256 : Shape := ⟨3, ![1, 1, 256]⟩
abbrev S1x256x16 : Shape := ⟨3, ![1, 256, 16]⟩
abbrev S256x16 : Shape := ⟨2, ![256, 16]⟩
abbrev S16x16x8x16 : Shape := ⟨4, ![16, 16, 8, 16]⟩
abbrev S16x16x16x8 : Shape := ⟨4, ![16, 16, 16, 8]⟩
abbrev S16x16x96 : Shape := ⟨3, ![16, 16, 96]⟩
abbrev S1x1x96 : Shape := ⟨3, ![1, 1, 96]⟩
abbrev S256x96 : Shape := ⟨2, ![256, 96]⟩

abbrev nBuf : Space → Nat
  | .hbm => 593
  | .vmem => 0
  | .smem => 0
  | _ => 0

abbrev hbmTy0_0 (i : Nat) : BufTy := match i % 128 with
  | 0 => ⟨S16x16x128, .f32⟩
  | 1 => ⟨S8x16, .f32⟩
  | 2 => ⟨S3x16x16, .f32⟩
  | 3 => ⟨S3x16x16, .f32⟩
  | 4 => ⟨S3x16x16, .f32⟩
  | 5 => ⟨S3x16x16, .f32⟩
  | 6 => ⟨S3x16x256, .f32⟩
  | 7 => ⟨S3x256, .f32⟩
  | 8 => ⟨S3x256x16, .f32⟩
  | 9 => ⟨S3x16, .f32⟩
  | 10 => ⟨S3x16, .f32⟩
  | 11 => ⟨S3x16, .f32⟩
  | 12 => ⟨S3x16, .f32⟩
  | 13 => ⟨S3x16, .f32⟩
  | 14 => ⟨S16, .f32⟩
  | 15 => ⟨S16, .f32⟩
  | 16 => ⟨S128x96, .f32⟩
  | 17 => ⟨S96, .f32⟩
  | 18 => ⟨S256x8x16, .f32⟩
  | 19 => ⟨S1x8x16, .f32⟩
  | 20 => ⟨S256x8x16, .f32⟩
  | 21 => ⟨S256x8x16, .f32⟩
  | 22 => ⟨S1x16x16, .f32⟩
  | 23 => ⟨S16x16, .f32⟩
  | 24 => ⟨S256x8x16, .f32⟩
  | 25 => ⟨S1x16x16, .f32⟩
  | 26 => ⟨S16x16, .f32⟩
  | 27 => ⟨S256x8x16, .f32⟩
  | 28 => ⟨S1x16x16, .f32⟩
  | 29 => ⟨S16x16, .f32⟩
  | 30 => ⟨S256x8x16, .f32⟩
  | 31 => ⟨S256x8x8x2, .f32⟩
  | 32 => ⟨S256x8x8x2, .f32⟩
  | 33 => ⟨S256x8x8x2, .f32⟩
  | 34 => ⟨S256x8x8x2, .f32⟩
  | 35 => ⟨S256x8x8x2, .f32⟩
  | 36 => ⟨S256x8x8x2, .f32⟩
  | 37 => ⟨S256x8x2x8, .f32⟩
  | 38 => ⟨S256x8x8x8, .f32⟩
  | 39 => ⟨S_, .f32⟩
  | 40 => ⟨S_, .f32⟩
  | 41 => ⟨S_, .f32⟩
  | 42 => ⟨S256x8x8x8, .f32⟩
  | 43 => ⟨S256x8x8x8, .f32⟩
  | 44 => ⟨S_, .f32⟩
  | 45 => ⟨S256x8x8, .f32⟩
  | 46 => ⟨S_, .f32⟩
  | 47 => ⟨S256x8x8, .f32⟩
  | 48 => ⟨S256x8x8, .f32⟩
  | 49 => ⟨S256x8x8x1, .f32⟩
  | 50 => ⟨S256x8x8x8, .f32⟩
  | 51 => ⟨S256x8x8x8, .f32⟩
  | 52 => ⟨S256x8x8x8, .f32⟩
  | 53 => ⟨S_, .f32⟩
  | 54 => ⟨S256x8x8, .f32⟩
  | 55 => ⟨S256x8x8x1, .f32⟩
  | 56 => ⟨S256x8x8x8, .f32⟩
  | 57 => ⟨S256x8x8x8, .f32⟩
  | 58 => ⟨S256x8x8x2, .f32⟩
  | 59 => ⟨S256x8x8x2, .f32⟩
  | 60 => ⟨S256x8x16, .f32⟩
  | 61 => ⟨S1x16x16, .f32⟩
  | 62 => ⟨S16x16, .f32⟩
  | 63 => ⟨S256x8x16, .f32⟩
  | 64 => ⟨S256x8x16, .f32⟩
  | 65 => ⟨S1x16, .f32⟩
  | 66 => ⟨S16, .f32⟩
  | 67 => ⟨S1x16, .f32⟩
  | 68 => ⟨S16, .f32⟩
  | 69 => ⟨S_, .f32⟩
  | 70 => ⟨S256x8, .f32⟩
  | 71 => ⟨S256x8x1, .f32⟩
  | 72 => ⟨S_, .f32⟩
  | 73 => ⟨S256x8x1, .f32⟩
  | 74 => ⟨S256x8x1, .f32⟩
  | 75 => ⟨S_, .i32⟩
  | 76 => ⟨S_, .f32⟩
  | 77 => ⟨S256x8, .f32⟩
  | 78 => ⟨S256x8x1, .f32⟩
  | 79 => ⟨S_, .f32⟩
  | 80 => ⟨S256x8x1, .f32⟩
  | 81 => ⟨S256x8x1, .f32⟩
  | 82 => ⟨S256x8x16, .f32⟩
  | 83 => ⟨S256x8x16, .f32⟩
  | 84 => ⟨S256x8x16, .f32⟩
  | 85 => ⟨S_, .f32⟩
  | 86 => ⟨S_, .f32⟩
  | 87 => ⟨S_, .f32⟩
  | 88 => ⟨S_, .f32⟩
  | 89 => ⟨S256x8, .f32⟩
  | 90 => ⟨S256x8x1, .f32⟩
  | 91 => ⟨S256x8x1, .f32⟩
  | 92 => ⟨S256x8x1, .f32⟩
  | 93 => ⟨S_, .f32⟩
  | 94 => ⟨S_, .i1⟩
  | 95 => ⟨S_, .f32⟩
  | 96 => ⟨S_, .f32⟩
  | 97 => ⟨S256x8x1, .f32⟩
  | 98 => ⟨S256x8x1, .f32⟩
  | 99 => ⟨S256x8x16, .f32⟩
  | 100 => ⟨S256x8x16, .f32⟩
  | 101 => ⟨S_, .f32⟩
  | 102 => ⟨S256x8x1, .f32⟩
  | 103 => ⟨S256x8x1, .f32⟩
  | 104 => ⟨S256x8x1, .f32⟩
  | 105 => ⟨S256x8x16, .f32⟩
  | 106 => ⟨S256x8x16, .f32⟩
  | 107 => ⟨S1x1x16, .f32⟩
  | 108 => ⟨S256x8x16, .f32⟩
  | 109 => ⟨S256x8x16, .f32⟩
  | 110 => ⟨S1x1x16, .f32⟩
  | 111 => ⟨S256x8x16, .f32⟩
  | 112 => ⟨S256x8x16, .f32⟩
  | 113 => ⟨S1x16x256, .f32⟩
  | 114 => ⟨S16x256, .f32⟩
  | 115 => ⟨S256x8x256, .f32⟩
  | 116 => ⟨S1x256, .f32⟩
  | 117 => ⟨S256, .f32⟩
  | 118 => ⟨S1x1x256, .f32⟩
  | 119 => ⟨S256x8x256, .f32⟩
  | 120 => ⟨S256x8x256, .f32⟩
  | 121 => ⟨S256x8x256, .f32⟩
  | 122 => ⟨S256x8x256, .f32⟩
  | 123 => ⟨S_, .f32⟩
  | 124 => ⟨S256x8x256, .f32⟩
  | 125 => ⟨S256x8x256, .f32⟩
  | 126 => ⟨S256x8x256, .f32⟩
  | 127 => ⟨S_, .f32⟩
  | _ => ⟨S16x16x128, .f32⟩

abbrev hbmTy0_1 (i : Nat) : BufTy := match i % 128 with
  | 0 => ⟨S256x8x256, .f32⟩
  | 1 => ⟨S256x8x256, .f32⟩
  | 2 => ⟨S256x8x256, .f32⟩
  | 3 => ⟨S_, .f32⟩
  | 4 => ⟨S256x8x256, .f32⟩
  | 5 => ⟨S256x8x256, .f32⟩
  | 6 => ⟨S_, .f32⟩
  | 7 => ⟨S256x8x256, .f32⟩
  | 8 => ⟨S256x8x256, .f32⟩
  | 9 => ⟨S256x8x256, .f32⟩
  | 10 => ⟨S1x256x16, .f32⟩
  | 11 => ⟨S256x16, .f32⟩
  | 12 => ⟨S256x8x16, .f32⟩
  | 13 => ⟨S1x16, .f32⟩
  | 14 => ⟨S16, .f32⟩
  | 15 => ⟨S1x1x16, .f32⟩
  | 16 => ⟨S256x8x16, .f32⟩
  | 17 => ⟨S256x8x16, .f32⟩
  | 18 => ⟨S256x8x16, .f32⟩
  | 19 => ⟨S1x16, .f32⟩
  | 20 => ⟨S16, .f32⟩
  | 21 => ⟨S1x16, .f32⟩
  | 22 => ⟨S16, .f32⟩
  | 23 => ⟨S_, .f32⟩
  | 24 => ⟨S256x8, .f32⟩
  | 25 => ⟨S256x8x1, .f32⟩
  | 26 => ⟨S_, .f32⟩
  | 27 => ⟨S256x8x1, .f32⟩
  | 28 => ⟨S256x8x1, .f32⟩
  | 29 => ⟨S_, .i32⟩
  | 30 => ⟨S_, .f32⟩
  | 31 => ⟨S256x8, .f32⟩
  | 32 => ⟨S256x8x1, .f32⟩
  | 33 => ⟨S_, .f32⟩
  | 34 => ⟨S256x8x1, .f32⟩
  | 35 => ⟨S256x8x1, .f32⟩
  | 36 => ⟨S256x8x16, .f32⟩
  | 37 => ⟨S256x8x16, .f32⟩
  | 38 => ⟨S256x8x16, .f32⟩
  | 39 => ⟨S_, .f32⟩
  | 40 => ⟨S_, .f32⟩
  | 41 => ⟨S_, .f32⟩
  | 42 => ⟨S_, .f32⟩
  | 43 => ⟨S256x8, .f32⟩
  | 44 => ⟨S256x8x1, .f32⟩
  | 45 => ⟨S256x8x1, .f32⟩
  | 46 => ⟨S256x8x1, .f32⟩
  | 47 => ⟨S_, .f32⟩
  | 48 => ⟨S_, .i1⟩
  | 49 => ⟨S_, .f32⟩
  | 50 => ⟨S_, .f32⟩
  | 51 => ⟨S256x8x1, .f32⟩
  | 52 => ⟨S256x8x1, .f32⟩
  | 53 => ⟨S256x8x16, .f32⟩
  | 54 => ⟨S256x8x16, .f32⟩
  | 55 => ⟨S_, .f32⟩
  | 56 => ⟨S256x8x1, .f32⟩
  | 57 => ⟨S256x8x1, .f32⟩
  | 58 => ⟨S256x8x1, .f32⟩
  | 59 => ⟨S256x8x16, .f32⟩
  | 60 => ⟨S256x8x16, .f32⟩
  | 61 => ⟨S1x1x16, .f32⟩
  | 62 => ⟨S256x8x16, .f32⟩
  | 63 => ⟨S256x8x16, .f32⟩
  | 64 => ⟨S1x1x16, .f32⟩
  | 65 => ⟨S256x8x16, .f32⟩
  | 66 => ⟨S256x8x16, .f32⟩
  | 67 => ⟨S1x16x16, .f32⟩
  | 68 => ⟨S16x16, .f32⟩
  | 69 => ⟨S256x8x16, .f32⟩
  | 70 => ⟨S1x16x16, .f32⟩
  | 71 => ⟨S16x16, .f32⟩
  | 72 => ⟨S256x8x16, .f32⟩
  | 73 => ⟨S1x16x16, .f32⟩
  | 74 => ⟨S16x16, .f32⟩
  | 75 => ⟨S256x8x16, .f32⟩
  | 76 => ⟨S256x8x8x2, .f32⟩
  | 77 => ⟨S256x8x8x2, .f32⟩
  | 78 => ⟨S256x8x8x2, .f32⟩
  | 79 => ⟨S256x8x8x2, .f32⟩
  | 80 => ⟨S256x8x8x2, .f32⟩
  | 81 => ⟨S256x8x8x2, .f32⟩
  | 82 => ⟨S256x8x2x8, .f32⟩
  | 83 => ⟨S256x8x8x8, .f32⟩
  | 84 => ⟨S_, .f32⟩
  | 85 => ⟨S_, .f32⟩
  | 86 => ⟨S_, .f32⟩
  | 87 => ⟨S256x8x8x8, .f32⟩
  | 88 => ⟨S256x8x8x8, .f32⟩
  | 89 => ⟨S_, .f32⟩
  | 90 => ⟨S256x8x8, .f32⟩
  | 91 => ⟨S_, .f32⟩
  | 92 => ⟨S256x8x8, .f32⟩
  | 93 => ⟨S256x8x8, .f32⟩
  | 94 => ⟨S256x8x8x1, .f32⟩
  | 95 => ⟨S256x8x8x8, .f32⟩
  | 96 => ⟨S256x8x8x8, .f32⟩
  | 97 => ⟨S256x8x8x8, .f32⟩
  | 98 => ⟨S_, .f32⟩
  | 99 => ⟨S256x8x8, .f32⟩
  | 100 => ⟨S256x8x8x1, .f32⟩
  | 101 => ⟨S256x8x8x8, .f32⟩
  | 102 => ⟨S256x8x8x8, .f32⟩
  | 103 => ⟨S256x8x8x2, .f32⟩
  | 104 => ⟨S256x8x8x2, .f32⟩
  | 105 => ⟨S256x8x16, .f32⟩
  | 106 => ⟨S1x16x16, .f32⟩
  | 107 => ⟨S16x16, .f32⟩
  | 108 => ⟨S256x8x16, .f32⟩
  | 109 => ⟨S256x8x16, .f32⟩
  | 110 => ⟨S1x16, .f32⟩
  | 111 => ⟨S16, .f32⟩
  | 112 => ⟨S1x16, .f32⟩
  | 113 => ⟨S16, .f32⟩
  | 114 => ⟨S_, .f32⟩
  | 115 => ⟨S256x8, .f32⟩
  | 116 => ⟨S256x8x1, .f32⟩
  | 117 => ⟨S_, .f32⟩
  | 118 => ⟨S256x8x1, .f32⟩
  | 119 => ⟨S256x8x1, .f32⟩
  | 120 => ⟨S_, .i32⟩
  | 121 => ⟨S_, .f32⟩
  | 122 => ⟨S256x8, .f32⟩
  | 123 => ⟨S256x8x1, .f32⟩
  | 124 => ⟨S_, .f32⟩
  | 125 => ⟨S256x8x1, .f32⟩
  | 126 => ⟨S256x8x1, .f32⟩
  | 127 => ⟨S256x8x16, .f32⟩
  | _ => ⟨S16x16x128, .f32⟩

abbrev hbmTy0_2 (i : Nat) : BufTy := match i % 128 with
  | 0 => ⟨S256x8x16, .f32⟩
  | 1 => ⟨S256x8x16, .f32⟩
  | 2 => ⟨S_, .f32⟩
  | 3 => ⟨S_, .f32⟩
  | 4 => ⟨S_, .f32⟩
  | 5 => ⟨S_, .f32⟩
  | 6 => ⟨S256x8, .f32⟩
  | 7 => ⟨S256x8x1, .f32⟩
  | 8 => ⟨S256x8x1, .f32⟩
  | 9 => ⟨S256x8x1, .f32⟩
  | 10 => ⟨S_, .f32⟩
  | 11 => ⟨S_, .i1⟩
  | 12 => ⟨S_, .f32⟩
  | 13 => ⟨S_, .f32⟩
  | 14 => ⟨S256x8x1, .f32⟩
  | 15 => ⟨S256x8x1, .f32⟩
  | 16 => ⟨S256x8x16, .f32⟩
  | 17 => ⟨S256x8x16, .f32⟩
  | 18 => ⟨S_, .f32⟩
  | 19 => ⟨S256x8x1, .f32⟩
  | 20 => ⟨S256x8x1, .f32⟩
  | 21 => ⟨S256x8x1, .f32⟩
  | 22 => ⟨S256x8x16, .f32⟩
  | 23 => ⟨S256x8x16, .f32⟩
  | 24 => ⟨S1x1x16, .f32⟩
  | 25 => ⟨S256x8x16, .f32⟩
  | 26 => ⟨S256x8x16, .f32⟩
  | 27 => ⟨S1x1x16, .f32⟩
  | 28 => ⟨S256x8x16, .f32⟩
  | 29 => ⟨S256x8x16, .f32⟩
  | 30 => ⟨S1x16x256, .f32⟩
  | 31 => ⟨S16x256, .f32⟩
  | 32 => ⟨S256x8x256, .f32⟩
  | 33 => ⟨S1x256, .f32⟩
  | 34 => ⟨S256, .f32⟩
  | 35 => ⟨S1x1x256, .f32⟩
  | 36 => ⟨S256x8x256, .f32⟩
  | 37 => ⟨S256x8x256, .f32⟩
  | 38 => ⟨S256x8x256, .f32⟩
  | 39 => ⟨S256x8x256, .f32⟩
  | 40 => ⟨S_, .f32⟩
  | 41 => ⟨S256x8x256, .f32⟩
  | 42 => ⟨S256x8x256, .f32⟩
  | 43 => ⟨S256x8x256, .f32⟩
  | 44 => ⟨S_, .f32⟩
  | 45 => ⟨S256x8x256, .f32⟩
  | 46 => ⟨S256x8x256, .f32⟩
  | 47 => ⟨S256x8x256, .f32⟩
  | 48 => ⟨S_, .f32⟩
  | 49 => ⟨S256x8x256, .f32⟩
  | 50 => ⟨S256x8x256, .f32⟩
  | 51 => ⟨S_, .f32⟩
  | 52 => ⟨S256x8x256, .f32⟩
  | 53 => ⟨S256x8x256, .f32⟩
  | 54 => ⟨S256x8x256, .f32⟩
  | 55 => ⟨S1x256x16, .f32⟩
  | 56 => ⟨S256x16, .f32⟩
  | 57 => ⟨S256x8x16, .f32⟩
  | 58 => ⟨S1x16, .f32⟩
  | 59 => ⟨S16, .f32⟩
  | 60 => ⟨S1x1x16, .f32⟩
  | 61 => ⟨S256x8x16, .f32⟩
  | 62 => ⟨S256x8x16, .f32⟩
  | 63 => ⟨S256x8x16, .f32⟩
  | 64 => ⟨S1x16, .f32⟩
  | 65 => ⟨S16, .f32⟩
  | 66 => ⟨S1x16, .f32⟩
  | 67 => ⟨S16, .f32⟩
  | 68 => ⟨S_, .f32⟩
  | 69 => ⟨S256x8, .f32⟩
  | 70 => ⟨S256x8x1, .f32⟩
  | 71 => ⟨S_, .f32⟩
  | 72 => ⟨S256x8x1, .f32⟩
  | 73 => ⟨S256x8x1, .f32⟩
  | 74 => ⟨S_, .i32⟩
  | 75 => ⟨S_, .f32⟩
  | 76 => ⟨S256x8, .f32⟩
  | 77 => ⟨S256x8x1, .f32⟩
  | 78 => ⟨S_, .f32⟩
  | 79 => ⟨S256x8x1, .f32⟩
  | 80 => ⟨S256x8x1, .f32⟩
  | 81 => ⟨S256x8x16, .f32⟩
  | 82 => ⟨S256x8x16, .f32⟩
  | 83 => ⟨S256x8x16, .f32⟩
  | 84 => ⟨S_, .f32⟩
  | 85 => ⟨S_, .f32⟩
  | 86 => ⟨S_, .f32⟩
  | 87 => ⟨S_, .f32⟩
  | 88 => ⟨S256x8, .f32⟩
  | 89 => ⟨S256x8x1, .f32⟩
  | 90 => ⟨S256x8x1, .f32⟩
  | 91 => ⟨S256x8x1, .f32⟩
  | 92 => ⟨S_, .f32⟩
  | 93 => ⟨S_, .i1⟩
  | 94 => ⟨S_, .f32⟩
  | 95 => ⟨S_, .f32⟩
  | 96 => ⟨S256x8x1, .f32⟩
  | 97 => ⟨S256x8x1, .f32⟩
  | 98 => ⟨S256x8x16, .f32⟩
  | 99 => ⟨S256x8x16, .f32⟩
  | 100 => ⟨S_, .f32⟩
  | 101 => ⟨S256x8x1, .f32⟩
  | 102 => ⟨S256x8x1, .f32⟩
  | 103 => ⟨S256x8x1, .f32⟩
  | 104 => ⟨S256x8x16, .f32⟩
  | 105 => ⟨S256x8x16, .f32⟩
  | 106 => ⟨S1x1x16, .f32⟩
  | 107 => ⟨S256x8x16, .f32⟩
  | 108 => ⟨S256x8x16, .f32⟩
  | 109 => ⟨S1x1x16, .f32⟩
  | 110 => ⟨S256x8x16, .f32⟩
  | 111 => ⟨S256x8x16, .f32⟩
  | 112 => ⟨S1x16x16, .f32⟩
  | 113 => ⟨S16x16, .f32⟩
  | 114 => ⟨S256x8x16, .f32⟩
  | 115 => ⟨S1x16x16, .f32⟩
  | 116 => ⟨S16x16, .f32⟩
  | 117 => ⟨S256x8x16, .f32⟩
  | 118 => ⟨S1x16x16, .f32⟩
  | 119 => ⟨S16x16, .f32⟩
  | 120 => ⟨S256x8x16, .f32⟩
  | 121 => ⟨S256x8x8x2, .f32⟩
  | 122 => ⟨S256x8x8x2, .f32⟩
  | 123 => ⟨S256x8x8x2, .f32⟩
  | 124 => ⟨S256x8x8x2, .f32⟩
  | 125 => ⟨S256x8x8x2, .f32⟩
  | 126 => ⟨S256x8x8x2, .f32⟩
  | 127 => ⟨S256x8x2x8, .f32⟩
  | _ => ⟨S16x16x128, .f32⟩

abbrev hbmTy0_3 (i : Nat) : BufTy := match i % 128 with
  | 0 => ⟨S256x8x8x8, .f32⟩
  | 1 => ⟨S_, .f32⟩
  | 2 => ⟨S_, .f32⟩
  | 3 => ⟨S_, .f32⟩
  | 4 => ⟨S256x8x8x8, .f32⟩
  | 5 => ⟨S256x8x8x8, .f32⟩
  | 6 => ⟨S_, .f32⟩
  | 7 => ⟨S256x8x8, .f32⟩
  | 8 => ⟨S_, .f32⟩
  | 9 => ⟨S256x8x8, .f32⟩
  | 10 => ⟨S256x8x8, .f32⟩
  | 11 => ⟨S256x8x8x1, .f32⟩
  | 12 => ⟨S256x8x8x8, .f32⟩
  | 13 => ⟨S256x8x8x8, .f32⟩
  | 14 => ⟨S256x8x8x8, .f32⟩
  | 15 => ⟨S_, .f32⟩
  | 16 => ⟨S256x8x8, .f32⟩
  | 17 => ⟨S256x8x8x1, .f32⟩
  | 18 => ⟨S256x8x8x8, .f32⟩
  | 19 => ⟨S256x8x8x8, .f32⟩
  | 20 => ⟨S256x8x8x2, .f32⟩
  | 21 => ⟨S256x8x8x2, .f32⟩
  | 22 => ⟨S256x8x16, .f32⟩
  | 23 => ⟨S1x16x16, .f32⟩
  | 24 => ⟨S16x16, .f32⟩
  | 25 => ⟨S256x8x16, .f32⟩
  | 26 => ⟨S256x8x16, .f32⟩
  | 27 => ⟨S1x16, .f32⟩
  | 28 => ⟨S16, .f32⟩
  | 29 => ⟨S1x16, .f32⟩
  | 30 => ⟨S16, .f32⟩
  | 31 => ⟨S_, .f32⟩
  | 32 => ⟨S256x8, .f32⟩
  | 33 => ⟨S256x8x1, .f32⟩
  | 34 => ⟨S_, .f32⟩
  | 35 => ⟨S256x8x1, .f32⟩
  | 36 => ⟨S256x8x1, .f32⟩
  | 37 => ⟨S_, .i32⟩
  | 38 => ⟨S_, .f32⟩
  | 39 => ⟨S256x8, .f32⟩
  | 40 => ⟨S256x8x1, .f32⟩
  | 41 => ⟨S_, .f32⟩
  | 42 => ⟨S256x8x1, .f32⟩
  | 43 => ⟨S256x8x1, .f32⟩
  | 44 => ⟨S256x8x16, .f32⟩
  | 45 => ⟨S256x8x16, .f32⟩
  | 46 => ⟨S256x8x16, .f32⟩
  | 47 => ⟨S_, .f32⟩
  | 48 => ⟨S_, .f32⟩
  | 49 => ⟨S_, .f32⟩
  | 50 => ⟨S_, .f32⟩
  | 51 => ⟨S256x8, .f32⟩
  | 52 => ⟨S256x8x1, .f32⟩
  | 53 => ⟨S256x8x1, .f32⟩
  | 54 => ⟨S256x8x1, .f32⟩
  | 55 => ⟨S_, .f32⟩
  | 56 => ⟨S_, .i1⟩
  | 57 => ⟨S_, .f32⟩
  | 58 => ⟨S_, .f32⟩
  | 59 => ⟨S256x8x1, .f32⟩
  | 60 => ⟨S256x8x1, .f32⟩
  | 61 => ⟨S256x8x16, .f32⟩
  | 62 => ⟨S256x8x16, .f32⟩
  | 63 => ⟨S_, .f32⟩
  | 64 => ⟨S256x8x1, .f32⟩
  | 65 => ⟨S256x8x1, .f32⟩
  | 66 => ⟨S256x8x1, .f32⟩
  | 67 => ⟨S256x8x16, .f32⟩
  | 68 => ⟨S256x8x16, .f32⟩
  | 69 => ⟨S1x1x16, .f32⟩
  | 70 => ⟨S256x8x16, .f32⟩
  | 71 => ⟨S256x8x16, .f32⟩
  | 72 => ⟨S1x1x16, .f32⟩
  | 73 => ⟨S256x8x16, .f32⟩
  | 74 => ⟨S256x8x16, .f32⟩
  | 75 => ⟨S1x16x256, .f32⟩
  | 76 => ⟨S16x256, .f32⟩
  | 77 => ⟨S256x8x256, .f32⟩
  | 78 => ⟨S1x256, .f32⟩
  | 79 => ⟨S256, .f32⟩
  | 80 => ⟨S1x1x256, .f32⟩
  | 81 => ⟨S256x8x256, .f32⟩
  | 82 => ⟨S256x8x256, .f32⟩
  | 83 => ⟨S256x8x256, .f32⟩
  | 84 => ⟨S256x8x256, .f32⟩
  | 85 => ⟨S_, .f32⟩
  | 86 => ⟨S256x8x256, .f32⟩
  | 87 => ⟨S256x8x256, .f32⟩
  | 88 => ⟨S256x8x256, .f32⟩
  | 89 => ⟨S_, .f32⟩
  | 90 => ⟨S256x8x256, .f32⟩
  | 91 => ⟨S256x8x256, .f32⟩
  | 92 => ⟨S256x8x256, .f32⟩
  | 93 => ⟨S_, .f32⟩
  | 94 => ⟨S256x8x256, .f32⟩
  | 95 => ⟨S256x8x256, .f32⟩
  | 96 => ⟨S_, .f32⟩
  | 97 => ⟨S256x8x256, .f32⟩
  | 98 => ⟨S256x8x256, .f32⟩
  | 99 => ⟨S256x8x256, .f32⟩
  | 100 => ⟨S1x256x16, .f32⟩
  | 101 => ⟨S256x16, .f32⟩
  | 102 => ⟨S256x8x16, .f32⟩
  | 103 => ⟨S1x16, .f32⟩
  | 104 => ⟨S16, .f32⟩
  | 105 => ⟨S1x1x16, .f32⟩
  | 106 => ⟨S256x8x16, .f32⟩
  | 107 => ⟨S256x8x16, .f32⟩
  | 108 => ⟨S256x8x16, .f32⟩
  | 109 => ⟨S1x16, .f32⟩
  | 110 => ⟨S16, .f32⟩
  | 111 => ⟨S1x16, .f32⟩
  | 112 => ⟨S16, .f32⟩
  | 113 => ⟨S_, .f32⟩
  | 114 => ⟨S256x8, .f32⟩
  | 115 => ⟨S256x8x1, .f32⟩
  | 116 => ⟨S_, .f32⟩
  | 117 => ⟨S256x8x1, .f32⟩
  | 118 => ⟨S256x8x1, .f32⟩
  | 119 => ⟨S_, .i32⟩
  | 120 => ⟨S_, .f32⟩
  | 121 => ⟨S256x8, .f32⟩
  | 122 => ⟨S256x8x1, .f32⟩
  | 123 => ⟨S_, .f32⟩
  | 124 => ⟨S256x8x1, .f32⟩
  | 125 => ⟨S256x8x1, .f32⟩
  | 126 => ⟨S256x8x16, .f32⟩
  | 127 => ⟨S256x8x16, .f32⟩
  | _ => ⟨S16x16x128, .f32⟩

abbrev hbmTy0_4 (i : Nat) : BufTy := match i % 128 with
  | 0 => ⟨S256x8x16, .f32⟩
  | 1 => ⟨S_, .f32⟩
  | 2 => ⟨S_, .f32⟩
  | 3 => ⟨S_, .f32⟩
  | 4 => ⟨S_, .f32⟩
  | 5 => ⟨S256x8, .f32⟩
  | 6 => ⟨S256x8x1, .f32⟩
  | 7 => ⟨S256x8x1, .f32⟩
  | 8 => ⟨S256x8x1, .f32⟩
  | 9 => ⟨S_, .f32⟩
  | 10 => ⟨S_, .i1⟩
  | 11 => ⟨S_, .f32⟩
  | 12 => ⟨S_, .f32⟩
  | 13 => ⟨S256x8x1, .f32⟩
  | 14 => ⟨S256x8x1, .f32⟩
  | 15 => ⟨S256x8x16, .f32⟩
  | 16 => ⟨S256x8x16, .f32⟩
  | 17 => ⟨S_, .f32⟩
  | 18 => ⟨S256x8x1, .f32⟩
  | 19 => ⟨S256x8x1, .f32⟩
  | 20 => ⟨S256x8x1, .f32⟩
  | 21 => ⟨S256x8x16, .f32⟩
  | 22 => ⟨S256x8x16, .f32⟩
  | 23 => ⟨S1x1x16, .f32⟩
  | 24 => ⟨S256x8x16, .f32⟩
  | 25 => ⟨S256x8x16, .f32⟩
  | 26 => ⟨S1x1x16, .f32⟩
  | 27 => ⟨S256x8x16, .f32⟩
  | 28 => ⟨S256x8x16, .f32⟩
  | 29 => ⟨S_, .f32⟩
  | 30 => ⟨S256x8, .f32⟩
  | 31 => ⟨S256x8x1, .f32⟩
  | 32 => ⟨S_, .f32⟩
  | 33 => ⟨S256x8x1, .f32⟩
  | 34 => ⟨S256x8x1, .f32⟩
  | 35 => ⟨S_, .i32⟩
  | 36 => ⟨S_, .f32⟩
  | 37 => ⟨S256x8, .f32⟩
  | 38 => ⟨S256x8x1, .f32⟩
  | 39 => ⟨S_, .f32⟩
  | 40 => ⟨S256x8x1, .f32⟩
  | 41 => ⟨S256x8x1, .f32⟩
  | 42 => ⟨S256x8x16, .f32⟩
  | 43 => ⟨S256x8x16, .f32⟩
  | 44 => ⟨S256x8x16, .f32⟩
  | 45 => ⟨S_, .f32⟩
  | 46 => ⟨S_, .f32⟩
  | 47 => ⟨S_, .f32⟩
  | 48 => ⟨S_, .f32⟩
  | 49 => ⟨S256x8, .f32⟩
  | 50 => ⟨S256x8x1, .f32⟩
  | 51 => ⟨S256x8x1, .f32⟩
  | 52 => ⟨S256x8x1, .f32⟩
  | 53 => ⟨S_, .f32⟩
  | 54 => ⟨S_, .i1⟩
  | 55 => ⟨S_, .f32⟩
  | 56 => ⟨S_, .f32⟩
  | 57 => ⟨S256x8x1, .f32⟩
  | 58 => ⟨S256x8x1, .f32⟩
  | 59 => ⟨S256x8x16, .f32⟩
  | 60 => ⟨S256x8x16, .f32⟩
  | 61 => ⟨S_, .f32⟩
  | 62 => ⟨S256x8x1, .f32⟩
  | 63 => ⟨S256x8x1, .f32⟩
  | 64 => ⟨S256x8x1, .f32⟩
  | 65 => ⟨S256x8x16, .f32⟩
  | 66 => ⟨S256x8x16, .f32⟩
  | 67 => ⟨S1x1x16, .f32⟩
  | 68 => ⟨S256x8x16, .f32⟩
  | 69 => ⟨S256x8x16, .f32⟩
  | 70 => ⟨S1x1x16, .f32⟩
  | 71 => ⟨S256x8x16, .f32⟩
  | 72 => ⟨S256x8x16, .f32⟩
  | 73 => ⟨S16x16x8x16, .f32⟩
  | 74 => ⟨S16x16x16x8, .f32⟩
  | 75 => ⟨S16x16x128, .f32⟩
  | 76 => ⟨S16x16x96, .f32⟩
  | 77 => ⟨S1x1x96, .f32⟩
  | 78 => ⟨S16x16x96, .f32⟩
  | 79 => ⟨S16x16x96, .f32⟩
  | 80 => ⟨S256x96, .f32⟩
  | _ => ⟨S16x16x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x16x128, .f32⟩

abbrev bufTy : (tb : Table) → Fin (tcTables nBuf tb) → BufTy
  | .hbm, ⟨i, _⟩ => hbmTy i
  | _, _ => ⟨S16x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_0 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_c : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_cst_2 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_v12 : Ref sig .tc := ⟨.hbm, 92, rfl⟩
abbrev main_call0_cst_3 : Ref sig .tc := ⟨.hbm, 93, rfl⟩
abbrev main_call0_v13 : Ref sig .tc := ⟨.hbm, 94, rfl⟩
abbrev main_call0_cst_4 : Ref sig .tc := ⟨.hbm, 95, rfl⟩
abbrev main_call0_call0_v0 : Ref sig .tc := ⟨.hbm, 96, rfl⟩
abbrev main_call0_call0_v1 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_5 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_6 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_7 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_8 : Ref sig .tc := ⟨.hbm, 131, rfl⟩
abbrev main_v81 : Ref sig .tc := ⟨.hbm, 132, rfl⟩
abbrev main_v82 : Ref sig .tc := ⟨.hbm, 133, rfl⟩
abbrev main_cst_9 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_10 : Ref sig .tc := ⟨.hbm, 151, rfl⟩
abbrev main_v99 : Ref sig .tc := ⟨.hbm, 152, rfl⟩
abbrev main_v100 : Ref sig .tc := ⟨.hbm, 153, rfl⟩
abbrev main_cst_11 : Ref sig .tc := ⟨.hbm, 154, rfl⟩
abbrev main_v101 : Ref sig .tc := ⟨.hbm, 155, rfl⟩
abbrev main_v102 : Ref sig .tc := ⟨.hbm, 156, rfl⟩
abbrev main_c_12 : Ref sig .tc := ⟨.hbm, 157, rfl⟩
abbrev main_call1_cst : Ref sig .tc := ⟨.hbm, 158, rfl⟩
abbrev main_call1_v0 : Ref sig .tc := ⟨.hbm, 159, rfl⟩
abbrev main_call1_v1 : Ref sig .tc := ⟨.hbm, 160, rfl⟩
abbrev main_call1_cst_0 : Ref sig .tc := ⟨.hbm, 161, rfl⟩
abbrev main_call1_v2 : Ref sig .tc := ⟨.hbm, 162, rfl⟩
abbrev main_call1_v3 : Ref sig .tc := ⟨.hbm, 163, rfl⟩
abbrev main_call1_v4 : Ref sig .tc := ⟨.hbm, 164, rfl⟩
abbrev main_call1_v5 : Ref sig .tc := ⟨.hbm, 165, rfl⟩
abbrev main_call1_v6 : Ref sig .tc := ⟨.hbm, 166, rfl⟩
abbrev main_call1_v7 : Ref sig .tc := ⟨.hbm, 167, rfl⟩
abbrev main_call1_cst_1 : Ref sig .tc := ⟨.hbm, 168, rfl⟩
abbrev main_call1_v8 : Ref sig .tc := ⟨.hbm, 169, rfl⟩
abbrev main_call1_cst_2 : Ref sig .tc := ⟨.hbm, 170, rfl⟩
abbrev main_call1_v9 : Ref sig .tc := ⟨.hbm, 171, rfl⟩
abbrev main_call1_v10 : Ref sig .tc := ⟨.hbm, 172, rfl⟩
abbrev main_call1_v11 : Ref sig .tc := ⟨.hbm, 173, rfl⟩
abbrev main_call1_v12 : Ref sig .tc := ⟨.hbm, 174, rfl⟩
abbrev main_call1_cst_3 : Ref sig .tc := ⟨.hbm, 175, rfl⟩
abbrev main_call1_v13 : Ref sig .tc := ⟨.hbm, 176, rfl⟩
abbrev main_call1_cst_4 : Ref sig .tc := ⟨.hbm, 177, rfl⟩
abbrev main_call1_call0_v0 : Ref sig .tc := ⟨.hbm, 178, rfl⟩
abbrev main_call1_call0_v1 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_cst_13 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_cst_14 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_cst_15 : Ref sig .tc := ⟨.hbm, 217, rfl⟩
abbrev main_v138 : Ref sig .tc := ⟨.hbm, 218, rfl⟩
abbrev main_cst_16 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_cst_17 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_cst_18 : Ref sig .tc := ⟨.hbm, 242, rfl⟩
abbrev main_v160 : Ref sig .tc := ⟨.hbm, 243, rfl⟩
abbrev main_v161 : Ref sig .tc := ⟨.hbm, 244, rfl⟩
abbrev main_cst_19 : Ref sig .tc := ⟨.hbm, 245, rfl⟩
abbrev main_v162 : Ref sig .tc := ⟨.hbm, 246, rfl⟩
abbrev main_v163 : Ref sig .tc := ⟨.hbm, 247, rfl⟩
abbrev main_c_20 : Ref sig .tc := ⟨.hbm, 248, rfl⟩
abbrev main_call2_cst : Ref sig .tc := ⟨.hbm, 249, rfl⟩
abbrev main_call2_v0 : Ref sig .tc := ⟨.hbm, 250, rfl⟩
abbrev main_call2_v1 : Ref sig .tc := ⟨.hbm, 251, rfl⟩
abbrev main_call2_cst_0 : Ref sig .tc := ⟨.hbm, 252, rfl⟩
abbrev main_call2_v2 : Ref sig .tc := ⟨.hbm, 253, rfl⟩
abbrev main_call2_v3 : Ref sig .tc := ⟨.hbm, 254, rfl⟩
abbrev main_call2_v4 : Ref sig .tc := ⟨.hbm, 255, rfl⟩
abbrev main_call2_v5 : Ref sig .tc := ⟨.hbm, 256, rfl⟩
abbrev main_call2_v6 : Ref sig .tc := ⟨.hbm, 257, rfl⟩
abbrev main_call2_v7 : Ref sig .tc := ⟨.hbm, 258, rfl⟩
abbrev main_call2_cst_1 : Ref sig .tc := ⟨.hbm, 259, rfl⟩
abbrev main_call2_v8 : Ref sig .tc := ⟨.hbm, 260, rfl⟩
abbrev main_call2_cst_2 : Ref sig .tc := ⟨.hbm, 261, rfl⟩
abbrev main_call2_v9 : Ref sig .tc := ⟨.hbm, 262, rfl⟩
abbrev main_call2_v10 : Ref sig .tc := ⟨.hbm, 263, rfl⟩
abbrev main_call2_v11 : Ref sig .tc := ⟨.hbm, 264, rfl⟩
abbrev main_call2_v12 : Ref sig .tc := ⟨.hbm, 265, rfl⟩
abbrev main_call2_cst_3 : Ref sig .tc := ⟨.hbm, 266, rfl⟩
abbrev main_call2_v13 : Ref sig .tc := ⟨.hbm, 267, rfl⟩
abbrev main_call2_cst_4 : Ref sig .tc := ⟨.hbm, 268, rfl⟩
abbrev main_call2_call0_v0 : Ref sig .tc := ⟨.hbm, 269, rfl⟩
abbrev main_call2_call0_v1 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_cst_21 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_v171 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_v182 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_cst_22 : Ref sig .tc := ⟨.hbm, 296, rfl⟩
abbrev main_v188 : Ref sig .tc := ⟨.hbm, 297, rfl⟩
abbrev main_v189 : Ref sig .tc := ⟨.hbm, 298, rfl⟩
abbrev main_v190 : Ref sig .tc := ⟨.hbm, 299, rfl⟩
abbrev main_cst_23 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_cst_24 : Ref sig .tc := ⟨.hbm, 304, rfl⟩
abbrev main_v194 : Ref sig .tc := ⟨.hbm, 305, rfl⟩
abbrev main_v195 : Ref sig .tc := ⟨.hbm, 306, rfl⟩
abbrev main_cst_25 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_v206 : Ref sig .tc := ⟨.hbm, 318, rfl⟩
abbrev main_v207 : Ref sig .tc := ⟨.hbm, 319, rfl⟩
abbrev main_v208 : Ref sig .tc := ⟨.hbm, 320, rfl⟩
abbrev main_v209 : Ref sig .tc := ⟨.hbm, 321, rfl⟩
abbrev main_v210 : Ref sig .tc := ⟨.hbm, 322, rfl⟩
abbrev main_v211 : Ref sig .tc := ⟨.hbm, 323, rfl⟩
abbrev main_cst_26 : Ref sig .tc := ⟨.hbm, 324, rfl⟩
abbrev main_v212 : Ref sig .tc := ⟨.hbm, 325, rfl⟩
abbrev main_v213 : Ref sig .tc := ⟨.hbm, 326, rfl⟩
abbrev main_cst_27 : Ref sig .tc := ⟨.hbm, 327, rfl⟩
abbrev main_v214 : Ref sig .tc := ⟨.hbm, 328, rfl⟩
abbrev main_v215 : Ref sig .tc := ⟨.hbm, 329, rfl⟩
abbrev main_c_28 : Ref sig .tc := ⟨.hbm, 330, rfl⟩
abbrev main_call3_cst : Ref sig .tc := ⟨.hbm, 331, rfl⟩
abbrev main_call3_v0 : Ref sig .tc := ⟨.hbm, 332, rfl⟩
abbrev main_call3_v1 : Ref sig .tc := ⟨.hbm, 333, rfl⟩
abbrev main_call3_cst_0 : Ref sig .tc := ⟨.hbm, 334, rfl⟩
abbrev main_call3_v2 : Ref sig .tc := ⟨.hbm, 335, rfl⟩
abbrev main_call3_v3 : Ref sig .tc := ⟨.hbm, 336, rfl⟩
abbrev main_call3_v4 : Ref sig .tc := ⟨.hbm, 337, rfl⟩
abbrev main_call3_v5 : Ref sig .tc := ⟨.hbm, 338, rfl⟩
abbrev main_call3_v6 : Ref sig .tc := ⟨.hbm, 339, rfl⟩
abbrev main_call3_v7 : Ref sig .tc := ⟨.hbm, 340, rfl⟩
abbrev main_call3_cst_1 : Ref sig .tc := ⟨.hbm, 341, rfl⟩
abbrev main_call3_v8 : Ref sig .tc := ⟨.hbm, 342, rfl⟩
abbrev main_call3_cst_2 : Ref sig .tc := ⟨.hbm, 343, rfl⟩
abbrev main_call3_v9 : Ref sig .tc := ⟨.hbm, 344, rfl⟩
abbrev main_call3_v10 : Ref sig .tc := ⟨.hbm, 345, rfl⟩
abbrev main_call3_v11 : Ref sig .tc := ⟨.hbm, 346, rfl⟩
abbrev main_call3_v12 : Ref sig .tc := ⟨.hbm, 347, rfl⟩
abbrev main_call3_cst_3 : Ref sig .tc := ⟨.hbm, 348, rfl⟩
abbrev main_call3_v13 : Ref sig .tc := ⟨.hbm, 349, rfl⟩
abbrev main_call3_cst_4 : Ref sig .tc := ⟨.hbm, 350, rfl⟩
abbrev main_call3_call0_v0 : Ref sig .tc := ⟨.hbm, 351, rfl⟩
abbrev main_call3_call0_v1 : Ref sig .tc := ⟨.hbm, 352, rfl⟩
abbrev main_v216 : Ref sig .tc := ⟨.hbm, 353, rfl⟩
abbrev main_v217 : Ref sig .tc := ⟨.hbm, 354, rfl⟩
abbrev main_v218 : Ref sig .tc := ⟨.hbm, 355, rfl⟩
abbrev main_cst_29 : Ref sig .tc := ⟨.hbm, 356, rfl⟩
abbrev main_v219 : Ref sig .tc := ⟨.hbm, 357, rfl⟩
abbrev main_v220 : Ref sig .tc := ⟨.hbm, 358, rfl⟩
abbrev main_v221 : Ref sig .tc := ⟨.hbm, 359, rfl⟩
abbrev main_v222 : Ref sig .tc := ⟨.hbm, 360, rfl⟩
abbrev main_v223 : Ref sig .tc := ⟨.hbm, 361, rfl⟩
abbrev main_v224 : Ref sig .tc := ⟨.hbm, 362, rfl⟩
abbrev main_v225 : Ref sig .tc := ⟨.hbm, 363, rfl⟩
abbrev main_v226 : Ref sig .tc := ⟨.hbm, 364, rfl⟩
abbrev main_v227 : Ref sig .tc := ⟨.hbm, 365, rfl⟩
abbrev main_v228 : Ref sig .tc := ⟨.hbm, 366, rfl⟩
abbrev main_v229 : Ref sig .tc := ⟨.hbm, 367, rfl⟩
abbrev main_v230 : Ref sig .tc := ⟨.hbm, 368, rfl⟩
abbrev main_v231 : Ref sig .tc := ⟨.hbm, 369, rfl⟩
abbrev main_v232 : Ref sig .tc := ⟨.hbm, 370, rfl⟩
abbrev main_v233 : Ref sig .tc := ⟨.hbm, 371, rfl⟩
abbrev main_v234 : Ref sig .tc := ⟨.hbm, 372, rfl⟩
abbrev main_v235 : Ref sig .tc := ⟨.hbm, 373, rfl⟩
abbrev main_v236 : Ref sig .tc := ⟨.hbm, 374, rfl⟩
abbrev main_v237 : Ref sig .tc := ⟨.hbm, 375, rfl⟩
abbrev main_v238 : Ref sig .tc := ⟨.hbm, 376, rfl⟩
abbrev main_v239 : Ref sig .tc := ⟨.hbm, 377, rfl⟩
abbrev main_v240 : Ref sig .tc := ⟨.hbm, 378, rfl⟩
abbrev main_v241 : Ref sig .tc := ⟨.hbm, 379, rfl⟩
abbrev main_v242 : Ref sig .tc := ⟨.hbm, 380, rfl⟩
abbrev main_v243 : Ref sig .tc := ⟨.hbm, 381, rfl⟩
abbrev main_v244 : Ref sig .tc := ⟨.hbm, 382, rfl⟩
abbrev main_v245 : Ref sig .tc := ⟨.hbm, 383, rfl⟩
abbrev main_v246 : Ref sig .tc := ⟨.hbm, 384, rfl⟩
abbrev main_cst_30 : Ref sig .tc := ⟨.hbm, 385, rfl⟩
abbrev main_v247 : Ref sig .tc := ⟨.hbm, 386, rfl⟩
abbrev main_v248 : Ref sig .tc := ⟨.hbm, 387, rfl⟩
abbrev main_v249 : Ref sig .tc := ⟨.hbm, 388, rfl⟩
abbrev main_v250 : Ref sig .tc := ⟨.hbm, 389, rfl⟩
abbrev main_cst_31 : Ref sig .tc := ⟨.hbm, 390, rfl⟩
abbrev main_v251 : Ref sig .tc := ⟨.hbm, 391, rfl⟩
abbrev main_cst_32 : Ref sig .tc := ⟨.hbm, 392, rfl⟩
abbrev main_v252 : Ref sig .tc := ⟨.hbm, 393, rfl⟩
abbrev main_v253 : Ref sig .tc := ⟨.hbm, 394, rfl⟩
abbrev main_v254 : Ref sig .tc := ⟨.hbm, 395, rfl⟩
abbrev main_v255 : Ref sig .tc := ⟨.hbm, 396, rfl⟩
abbrev main_v256 : Ref sig .tc := ⟨.hbm, 397, rfl⟩
abbrev main_v257 : Ref sig .tc := ⟨.hbm, 398, rfl⟩
abbrev main_cst_33 : Ref sig .tc := ⟨.hbm, 399, rfl⟩
abbrev main_v258 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_v262 : Ref sig .tc := ⟨.hbm, 404, rfl⟩
abbrev main_v263 : Ref sig .tc := ⟨.hbm, 405, rfl⟩
abbrev main_v264 : Ref sig .tc := ⟨.hbm, 406, rfl⟩
abbrev main_v265 : Ref sig .tc := ⟨.hbm, 407, rfl⟩
abbrev main_v266 : Ref sig .tc := ⟨.hbm, 408, rfl⟩
abbrev main_v267 : Ref sig .tc := ⟨.hbm, 409, rfl⟩
abbrev main_v268 : Ref sig .tc := ⟨.hbm, 410, rfl⟩
abbrev main_v269 : Ref sig .tc := ⟨.hbm, 411, rfl⟩
abbrev main_v270 : Ref sig .tc := ⟨.hbm, 412, rfl⟩
abbrev main_v271 : Ref sig .tc := ⟨.hbm, 413, rfl⟩
abbrev main_v272 : Ref sig .tc := ⟨.hbm, 414, rfl⟩
abbrev main_cst_34 : Ref sig .tc := ⟨.hbm, 415, rfl⟩
abbrev main_v273 : Ref sig .tc := ⟨.hbm, 416, rfl⟩
abbrev main_v274 : Ref sig .tc := ⟨.hbm, 417, rfl⟩
abbrev main_cst_35 : Ref sig .tc := ⟨.hbm, 418, rfl⟩
abbrev main_v275 : Ref sig .tc := ⟨.hbm, 419, rfl⟩
abbrev main_v276 : Ref sig .tc := ⟨.hbm, 420, rfl⟩
abbrev main_c_36 : Ref sig .tc := ⟨.hbm, 421, rfl⟩
abbrev main_call4_cst : Ref sig .tc := ⟨.hbm, 422, rfl⟩
abbrev main_call4_v0 : Ref sig .tc := ⟨.hbm, 423, rfl⟩
abbrev main_call4_v1 : Ref sig .tc := ⟨.hbm, 424, rfl⟩
abbrev main_call4_cst_0 : Ref sig .tc := ⟨.hbm, 425, rfl⟩
abbrev main_call4_v2 : Ref sig .tc := ⟨.hbm, 426, rfl⟩
abbrev main_call4_v3 : Ref sig .tc := ⟨.hbm, 427, rfl⟩
abbrev main_call4_v4 : Ref sig .tc := ⟨.hbm, 428, rfl⟩
abbrev main_call4_v5 : Ref sig .tc := ⟨.hbm, 429, rfl⟩
abbrev main_call4_v6 : Ref sig .tc := ⟨.hbm, 430, rfl⟩
abbrev main_call4_v7 : Ref sig .tc := ⟨.hbm, 431, rfl⟩
abbrev main_call4_cst_1 : Ref sig .tc := ⟨.hbm, 432, rfl⟩
abbrev main_call4_v8 : Ref sig .tc := ⟨.hbm, 433, rfl⟩
abbrev main_call4_cst_2 : Ref sig .tc := ⟨.hbm, 434, rfl⟩
abbrev main_call4_v9 : Ref sig .tc := ⟨.hbm, 435, rfl⟩
abbrev main_call4_v10 : Ref sig .tc := ⟨.hbm, 436, rfl⟩
abbrev main_call4_v11 : Ref sig .tc := ⟨.hbm, 437, rfl⟩
abbrev main_call4_v12 : Ref sig .tc := ⟨.hbm, 438, rfl⟩
abbrev main_call4_cst_3 : Ref sig .tc := ⟨.hbm, 439, rfl⟩
abbrev main_call4_v13 : Ref sig .tc := ⟨.hbm, 440, rfl⟩
abbrev main_call4_cst_4 : Ref sig .tc := ⟨.hbm, 441, rfl⟩
abbrev main_call4_call0_v0 : Ref sig .tc := ⟨.hbm, 442, rfl⟩
abbrev main_call4_call0_v1 : Ref sig .tc := ⟨.hbm, 443, rfl⟩
abbrev main_v277 : Ref sig .tc := ⟨.hbm, 444, rfl⟩
abbrev main_v278 : Ref sig .tc := ⟨.hbm, 445, rfl⟩
abbrev main_v279 : Ref sig .tc := ⟨.hbm, 446, rfl⟩
abbrev main_cst_37 : Ref sig .tc := ⟨.hbm, 447, rfl⟩
abbrev main_v280 : Ref sig .tc := ⟨.hbm, 448, rfl⟩
abbrev main_v281 : Ref sig .tc := ⟨.hbm, 449, rfl⟩
abbrev main_v282 : Ref sig .tc := ⟨.hbm, 450, rfl⟩
abbrev main_v283 : Ref sig .tc := ⟨.hbm, 451, rfl⟩
abbrev main_v284 : Ref sig .tc := ⟨.hbm, 452, rfl⟩
abbrev main_v285 : Ref sig .tc := ⟨.hbm, 453, rfl⟩
abbrev main_v286 : Ref sig .tc := ⟨.hbm, 454, rfl⟩
abbrev main_v287 : Ref sig .tc := ⟨.hbm, 455, rfl⟩
abbrev main_v288 : Ref sig .tc := ⟨.hbm, 456, rfl⟩
abbrev main_v289 : Ref sig .tc := ⟨.hbm, 457, rfl⟩
abbrev main_v290 : Ref sig .tc := ⟨.hbm, 458, rfl⟩
abbrev main_v291 : Ref sig .tc := ⟨.hbm, 459, rfl⟩
abbrev main_v292 : Ref sig .tc := ⟨.hbm, 460, rfl⟩
abbrev main_v293 : Ref sig .tc := ⟨.hbm, 461, rfl⟩
abbrev main_v294 : Ref sig .tc := ⟨.hbm, 462, rfl⟩
abbrev main_v295 : Ref sig .tc := ⟨.hbm, 463, rfl⟩
abbrev main_v296 : Ref sig .tc := ⟨.hbm, 464, rfl⟩
abbrev main_v297 : Ref sig .tc := ⟨.hbm, 465, rfl⟩
abbrev main_v298 : Ref sig .tc := ⟨.hbm, 466, rfl⟩
abbrev main_v299 : Ref sig .tc := ⟨.hbm, 467, rfl⟩
abbrev main_v300 : Ref sig .tc := ⟨.hbm, 468, rfl⟩
abbrev main_cst_38 : Ref sig .tc := ⟨.hbm, 469, rfl⟩
abbrev main_v301 : Ref sig .tc := ⟨.hbm, 470, rfl⟩
abbrev main_v302 : Ref sig .tc := ⟨.hbm, 471, rfl⟩
abbrev main_v303 : Ref sig .tc := ⟨.hbm, 472, rfl⟩
abbrev main_cst_39 : Ref sig .tc := ⟨.hbm, 473, rfl⟩
abbrev main_v304 : Ref sig .tc := ⟨.hbm, 474, rfl⟩
abbrev main_v305 : Ref sig .tc := ⟨.hbm, 475, rfl⟩
abbrev main_v306 : Ref sig .tc := ⟨.hbm, 476, rfl⟩
abbrev main_cst_40 : Ref sig .tc := ⟨.hbm, 477, rfl⟩
abbrev main_v307 : Ref sig .tc := ⟨.hbm, 478, rfl⟩
abbrev main_v308 : Ref sig .tc := ⟨.hbm, 479, rfl⟩
abbrev main_cst_41 : Ref sig .tc := ⟨.hbm, 480, rfl⟩
abbrev main_v309 : Ref sig .tc := ⟨.hbm, 481, rfl⟩
abbrev main_v310 : Ref sig .tc := ⟨.hbm, 482, rfl⟩
abbrev main_v311 : Ref sig .tc := ⟨.hbm, 483, rfl⟩
abbrev main_v312 : Ref sig .tc := ⟨.hbm, 484, rfl⟩
abbrev main_v313 : Ref sig .tc := ⟨.hbm, 485, rfl⟩
abbrev main_v314 : Ref sig .tc := ⟨.hbm, 486, rfl⟩
abbrev main_v315 : Ref sig .tc := ⟨.hbm, 487, rfl⟩
abbrev main_v316 : Ref sig .tc := ⟨.hbm, 488, rfl⟩
abbrev main_v317 : Ref sig .tc := ⟨.hbm, 489, rfl⟩
abbrev main_v318 : Ref sig .tc := ⟨.hbm, 490, rfl⟩
abbrev main_v319 : Ref sig .tc := ⟨.hbm, 491, rfl⟩
abbrev main_v320 : Ref sig .tc := ⟨.hbm, 492, rfl⟩
abbrev main_v321 : Ref sig .tc := ⟨.hbm, 493, rfl⟩
abbrev main_v322 : Ref sig .tc := ⟨.hbm, 494, rfl⟩
abbrev main_v323 : Ref sig .tc := ⟨.hbm, 495, rfl⟩
abbrev main_v324 : Ref sig .tc := ⟨.hbm, 496, rfl⟩
abbrev main_cst_42 : Ref sig .tc := ⟨.hbm, 497, rfl⟩
abbrev main_v325 : Ref sig .tc := ⟨.hbm, 498, rfl⟩
abbrev main_v326 : Ref sig .tc := ⟨.hbm, 499, rfl⟩
abbrev main_cst_43 : Ref sig .tc := ⟨.hbm, 500, rfl⟩
abbrev main_v327 : Ref sig .tc := ⟨.hbm, 501, rfl⟩
abbrev main_v328 : Ref sig .tc := ⟨.hbm, 502, rfl⟩
abbrev main_c_44 : Ref sig .tc := ⟨.hbm, 503, rfl⟩
abbrev main_call5_cst : Ref sig .tc := ⟨.hbm, 504, rfl⟩
abbrev main_call5_v0 : Ref sig .tc := ⟨.hbm, 505, rfl⟩
abbrev main_call5_v1 : Ref sig .tc := ⟨.hbm, 506, rfl⟩
abbrev main_call5_cst_0 : Ref sig .tc := ⟨.hbm, 507, rfl⟩
abbrev main_call5_v2 : Ref sig .tc := ⟨.hbm, 508, rfl⟩
abbrev main_call5_v3 : Ref sig .tc := ⟨.hbm, 509, rfl⟩
abbrev main_call5_v4 : Ref sig .tc := ⟨.hbm, 510, rfl⟩
abbrev main_call5_v5 : Ref sig .tc := ⟨.hbm, 511, rfl⟩
abbrev main_call5_v6 : Ref sig .tc := ⟨.hbm, 512, rfl⟩
abbrev main_call5_v7 : Ref sig .tc := ⟨.hbm, 513, rfl⟩
abbrev main_call5_cst_1 : Ref sig .tc := ⟨.hbm, 514, rfl⟩
abbrev main_call5_v8 : Ref sig .tc := ⟨.hbm, 515, rfl⟩
abbrev main_call5_cst_2 : Ref sig .tc := ⟨.hbm, 516, rfl⟩
abbrev main_call5_v9 : Ref sig .tc := ⟨.hbm, 517, rfl⟩
abbrev main_call5_v10 : Ref sig .tc := ⟨.hbm, 518, rfl⟩
abbrev main_call5_v11 : Ref sig .tc := ⟨.hbm, 519, rfl⟩
abbrev main_call5_v12 : Ref sig .tc := ⟨.hbm, 520, rfl⟩
abbrev main_call5_cst_3 : Ref sig .tc := ⟨.hbm, 521, rfl⟩
abbrev main_call5_v13 : Ref sig .tc := ⟨.hbm, 522, rfl⟩
abbrev main_call5_cst_4 : Ref sig .tc := ⟨.hbm, 523, rfl⟩
abbrev main_call5_call0_v0 : Ref sig .tc := ⟨.hbm, 524, rfl⟩
abbrev main_call5_call0_v1 : Ref sig .tc := ⟨.hbm, 525, rfl⟩
abbrev main_v329 : Ref sig .tc := ⟨.hbm, 526, rfl⟩
abbrev main_v330 : Ref sig .tc := ⟨.hbm, 527, rfl⟩
abbrev main_v331 : Ref sig .tc := ⟨.hbm, 528, rfl⟩
abbrev main_cst_45 : Ref sig .tc := ⟨.hbm, 529, rfl⟩
abbrev main_v332 : Ref sig .tc := ⟨.hbm, 530, rfl⟩
abbrev main_v333 : Ref sig .tc := ⟨.hbm, 531, rfl⟩
abbrev main_v334 : Ref sig .tc := ⟨.hbm, 532, rfl⟩
abbrev main_v335 : Ref sig .tc := ⟨.hbm, 533, rfl⟩
abbrev main_v336 : Ref sig .tc := ⟨.hbm, 534, rfl⟩
abbrev main_v337 : Ref sig .tc := ⟨.hbm, 535, rfl⟩
abbrev main_v338 : Ref sig .tc := ⟨.hbm, 536, rfl⟩
abbrev main_v339 : Ref sig .tc := ⟨.hbm, 537, rfl⟩
abbrev main_v340 : Ref sig .tc := ⟨.hbm, 538, rfl⟩
abbrev main_v341 : Ref sig .tc := ⟨.hbm, 539, rfl⟩
abbrev main_v342 : Ref sig .tc := ⟨.hbm, 540, rfl⟩
abbrev main_cst_46 : Ref sig .tc := ⟨.hbm, 541, rfl⟩
abbrev main_v343 : Ref sig .tc := ⟨.hbm, 542, rfl⟩
abbrev main_v344 : Ref sig .tc := ⟨.hbm, 543, rfl⟩
abbrev main_cst_47 : Ref sig .tc := ⟨.hbm, 544, rfl⟩
abbrev main_v345 : Ref sig .tc := ⟨.hbm, 545, rfl⟩
abbrev main_v346 : Ref sig .tc := ⟨.hbm, 546, rfl⟩
abbrev main_c_48 : Ref sig .tc := ⟨.hbm, 547, rfl⟩
abbrev main_call6_cst : Ref sig .tc := ⟨.hbm, 548, rfl⟩
abbrev main_call6_v0 : Ref sig .tc := ⟨.hbm, 549, rfl⟩
abbrev main_call6_v1 : Ref sig .tc := ⟨.hbm, 550, rfl⟩
abbrev main_call6_cst_0 : Ref sig .tc := ⟨.hbm, 551, rfl⟩
abbrev main_call6_v2 : Ref sig .tc := ⟨.hbm, 552, rfl⟩
abbrev main_call6_v3 : Ref sig .tc := ⟨.hbm, 553, rfl⟩
abbrev main_call6_v4 : Ref sig .tc := ⟨.hbm, 554, rfl⟩
abbrev main_call6_v5 : Ref sig .tc := ⟨.hbm, 555, rfl⟩
abbrev main_call6_v6 : Ref sig .tc := ⟨.hbm, 556, rfl⟩
abbrev main_call6_v7 : Ref sig .tc := ⟨.hbm, 557, rfl⟩
abbrev main_call6_cst_1 : Ref sig .tc := ⟨.hbm, 558, rfl⟩
abbrev main_call6_v8 : Ref sig .tc := ⟨.hbm, 559, rfl⟩
abbrev main_call6_cst_2 : Ref sig .tc := ⟨.hbm, 560, rfl⟩
abbrev main_call6_v9 : Ref sig .tc := ⟨.hbm, 561, rfl⟩
abbrev main_call6_v10 : Ref sig .tc := ⟨.hbm, 562, rfl⟩
abbrev main_call6_v11 : Ref sig .tc := ⟨.hbm, 563, rfl⟩
abbrev main_call6_v12 : Ref sig .tc := ⟨.hbm, 564, rfl⟩
abbrev main_call6_cst_3 : Ref sig .tc := ⟨.hbm, 565, rfl⟩
abbrev main_call6_v13 : Ref sig .tc := ⟨.hbm, 566, rfl⟩
abbrev main_call6_cst_4 : Ref sig .tc := ⟨.hbm, 567, rfl⟩
abbrev main_call6_call0_v0 : Ref sig .tc := ⟨.hbm, 568, rfl⟩
abbrev main_call6_call0_v1 : Ref sig .tc := ⟨.hbm, 569, rfl⟩
abbrev main_v347 : Ref sig .tc := ⟨.hbm, 570, rfl⟩
abbrev main_v348 : Ref sig .tc := ⟨.hbm, 571, rfl⟩
abbrev main_v349 : Ref sig .tc := ⟨.hbm, 572, rfl⟩
abbrev main_cst_49 : Ref sig .tc := ⟨.hbm, 573, rfl⟩
abbrev main_v350 : Ref sig .tc := ⟨.hbm, 574, rfl⟩
abbrev main_v351 : Ref sig .tc := ⟨.hbm, 575, rfl⟩
abbrev main_v352 : Ref sig .tc := ⟨.hbm, 576, rfl⟩
abbrev main_v353 : Ref sig .tc := ⟨.hbm, 577, rfl⟩
abbrev main_v354 : Ref sig .tc := ⟨.hbm, 578, rfl⟩
abbrev main_v355 : Ref sig .tc := ⟨.hbm, 579, rfl⟩
abbrev main_v356 : Ref sig .tc := ⟨.hbm, 580, rfl⟩
abbrev main_v357 : Ref sig .tc := ⟨.hbm, 581, rfl⟩
abbrev main_v358 : Ref sig .tc := ⟨.hbm, 582, rfl⟩
abbrev main_v359 : Ref sig .tc := ⟨.hbm, 583, rfl⟩
abbrev main_v360 : Ref sig .tc := ⟨.hbm, 584, rfl⟩
abbrev main_v361 : Ref sig .tc := ⟨.hbm, 585, rfl⟩
abbrev main_v362 : Ref sig .tc := ⟨.hbm, 586, rfl⟩
abbrev main_v363 : Ref sig .tc := ⟨.hbm, 587, rfl⟩
abbrev main_v364 : Ref sig .tc := ⟨.hbm, 588, rfl⟩
abbrev main_v365 : Ref sig .tc := ⟨.hbm, 589, rfl⟩
abbrev main_v366 : Ref sig .tc := ⟨.hbm, 590, rfl⟩
abbrev main_v367 : Ref sig .tc := ⟨.hbm, 591, rfl⟩
abbrev main_v368 : Ref sig .tc := ⟨.hbm, 592, rfl⟩

abbrev nD : Nat := 1
abbrev τ : Topo := Topo.v7x

variable {F : FTy → Type} [FloatOps F]
-- ==== Proof.BitsFrame.lean ====
/-
  The frame of `Second`, over the run of its call.
-/
module

public import proofs.«01_k».proof.Proof.BitsRun
public import Idealize.ShloMosaic.Lib.Claim

@[expose] public section

set_option maxRecDepth 16384

noncomputable section

namespace Cert.Second.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (26): nothing reads what the kernel leaves in them, so nothing
    of it is named (Lib/Pipeline/Dat.lean `Dat.toRForget`). -/
def forgets0 : Fin 27 → Bool := fun w => w.val == 26

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, h⟩ => Pipeline.Dat.unnamed (cfg := cfg0) ⟨26, h⟩ t
    | ⟨_ + 27, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ (∃ d, owns (c : Thread nD τ) (ms0_26 t) fullShare d))

set_option maxHeartbeats 2400000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 26) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A launch that leaves the read arrays and the untouched ones as it found them keeps the arguments. -/
theorem kept_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c)),
      (Pipeline.RDat.FramePost.arr_in h c 6 rfl).trans ((hA c 6).trans (V_main_arg7 m c)),
      (Pipeline.RDat.FramePost.arr_in h c 7 rfl).trans ((hA c 7).trans (V_main_arg8 m c)),
      (Pipeline.RDat.FramePost.arr_in h c 8 rfl).trans ((hA c 8).trans (V_main_arg9 m c)),
      (Pipeline.RDat.FramePost.arr_in h c 9 rfl).trans ((hA c 9).trans (V_main_arg10 m c)),
      (Pipeline.RDat.FramePost.arr_in h c 10 rfl).trans ((hA c 10).trans (V_main_arg11 m c)),
      (Pipeline.RDat.FramePost.arr_in h c 11 rfl).trans ((hA c 11).trans (V_main_arg12 m c)),
      (Pipeline.RDat.FramePost.arr_in h c 12 rfl).trans ((hA c 12).trans (V_main_arg13 m c)),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      (Pipeline.RDat.FramePost.arr_in h c 15 rfl).trans ((hA c 15).trans (V_main_arg16 m c)),
      ((h c).2 main_arg17 (Pipeline.mem_restRefs_of main_arg17 (by decide) (by decide))).trans (V_main_arg17 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  kept_of m ρ (fun c => (dats m 0 c).toRForget forgets0) (A_eq m) (run_main m ρ)

/-- THE FRAME: `Cert.quiescent_Second`'s statement (Defs.lean) at any `F` — Proof.lean cites it at `Bits`:
    `theorem Cert.Proof.claim : Cert.Claim := ⟨Cert.Second.Gen.facts, fun m ρ _ => Cert.Second.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Second.Gen

end
-- ==== Proof.SecondRun.lean ====
/-
  The run of the second call of `SecondIdeal`: what its body leaves in its result.
-/
module

public import proofs.«01_k».proof.Proof.Gen.SecondIdeal.Frame.Runs

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 16000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S256x128 .f32) (harg0 : arg0.IsWhole) (arg1 : Memref sig .tc .vmem S3x16x16 .f32) (harg1 : arg1.IsWhole) (arg2 : Memref sig .tc .vmem S3x16x16 .f32) (harg2 : arg2.IsWhole) (arg3 : Memref sig .tc .vmem S3x16x16 .f32) (harg3 : arg3.IsWhole) (arg4 : Memref sig .tc .vmem S3x16x16 .f32) (harg4 : arg4.IsWhole) (arg5 : Memref sig .tc .vmem S3x16x256 .f32) (harg5 : arg5.IsWhole) (arg6 : Memref sig .tc .vmem S3x256 .f32) (harg6 : arg6.IsWhole) (arg7 : Memref sig .tc .vmem S3x256x16 .f32) (harg7 : arg7.IsWhole) (arg8 : Memref sig .tc .vmem S3x16 .f32) (harg8 : arg8.IsWhole) (arg9 : Memref sig .tc .vmem S3x16 .f32) (harg9 : arg9.IsWhole) (arg10 : Memref sig .tc .vmem S3x16 .f32) (harg10 : arg10.IsWhole) (arg11 : Memref sig .tc .vmem S3x16 .f32) (harg11 : arg11.IsWhole) (arg12 : Memref sig .tc .vmem S3x16 .f32) (harg12 : arg12.IsWhole) (arg13 : Memref sig .tc .vmem S1x16 .f32) (harg13 : arg13.IsWhole) (arg14 : Memref sig .tc .vmem S1x16 .f32) (harg14 : arg14.IsWhole) (arg15 : Memref sig .tc .vmem S128x96 .f32) (harg15 : arg15.IsWhole) (arg16 : Memref sig .tc .vmem S1x96 .f32) (harg16 : arg16.IsWhole) (arg17 : Memref sig .tc .vmem S1x128 .f32) (harg17 : arg17.IsWhole) (arg18 : Memref sig .tc .vmem S128x64 .f32) (harg18 : arg18.IsWhole) (arg19 : Memref sig .tc .vmem S64x128 .f32) (harg19 : arg19.IsWhole) (arg20 : Memref sig .tc .vmem S64x64 .f32) (harg20 : arg20.IsWhole) (arg21 : Memref sig .tc .vmem S128x16 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S16x128 .f32) (harg25 : arg25.IsWhole) (arg26 : Memref sig .tc .vmem S256x96 .f32) (harg26 : arg26.IsWhole)
    (x0 : Vec F S256x128 .f32) (x1 : Vec F S3x16x16 .f32) (x2 : Vec F S3x16x16 .f32) (x3 : Vec F S3x16x16 .f32) (x4 : Vec F S3x16x16 .f32) (x5 : Vec F S3x16x256 .f32) (x6 : Vec F S3x256 .f32) (x7 : Vec F S3x256x16 .f32) (x8 : Vec F S3x16 .f32) (x9 : Vec F S3x16 .f32) (x10 : Vec F S3x16 .f32) (x11 : Vec F S3x16 .f32) (x12 : Vec F S3x16 .f32) (x13 : Vec F S1x16 .f32) (x14 : Vec F S1x16 .f32) (x15 : Vec F S128x96 .f32) (x16 : Vec F S1x96 .f32) (x17 : Vec F S1x128 .f32) (x18 : Vec F S128x64 .f32) (x19 : Vec F S64x128 .f32) (x20 : Vec F S64x64 .f32) (x21 : Vec F S128x16 .f32) (x22 : Vec F S128x128 .f32) (x23 : Vec F S128x128 .f32) (x24 : Vec F S128x128 .f32) (x25 : Vec F S16x128 .f32) :
    { L26 : List (View.Piece (Elt F) S256x96 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ (∃ d, owns (c : Thread nD τ) arg26 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ (∃ f, arg26.view.loc (c : Thread nD τ) ↦[arg26.view.set]{fullShare} arg26.view.writes (Elt F) f L26)) -∗ K ⟨⟩))
          ⊢ wp frame (wpE (defs₀ (F := F)) Variants.none c none) E (cc0__k2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    simp only [cc0__k2_body_eq_skeleton]; unfold cc0__k2_body_skel
    simp only [k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H25]
    · iexists _; isplitr; · ipureintro; exact harg25.read_unread _
      iexact H25
    iexists _; iexact H26

end Cert.SecondIdeal.Gen

end
-- ==== Proof.SecondFrame.lean ====
/-
  The frame of `SecondIdeal`, over the run of its call.
-/
module

public import proofs.«01_k».proof.Proof.SecondRun
public import Idealize.ShloMosaic.Lib.Claim

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 26 tile its block (1 store of `S256x96`, checked by the kernel's evaluation: Lib/Ring.lean `Piece.tiledL`, linear in the pieces, through a loop's `@[irreducible]` trip theorem too), so they cover it. -/
theorem cover0_A_26 (c : Dev nD) (arg0 : Memref sig .tc .vmem S256x128 .f32) (harg0 : arg0.IsWhole) (arg1 : Memref sig .tc .vmem S3x16x16 .f32) (harg1 : arg1.IsWhole) (arg2 : Memref sig .tc .vmem S3x16x16 .f32) (harg2 : arg2.IsWhole) (arg3 : Memref sig .tc .vmem S3x16x16 .f32) (harg3 : arg3.IsWhole) (arg4 : Memref sig .tc .vmem S3x16x16 .f32) (harg4 : arg4.IsWhole) (arg5 : Memref sig .tc .vmem S3x16x256 .f32) (harg5 : arg5.IsWhole) (arg6 : Memref sig .tc .vmem S3x256 .f32) (harg6 : arg6.IsWhole) (arg7 : Memref sig .tc .vmem S3x256x16 .f32) (harg7 : arg7.IsWhole) (arg8 : Memref sig .tc .vmem S3x16 .f32) (harg8 : arg8.IsWhole) (arg9 : Memref sig .tc .vmem S3x16 .f32) (harg9 : arg9.IsWhole) (arg10 : Memref sig .tc .vmem S3x16 .f32) (harg10 : arg10.IsWhole) (arg11 : Memref sig .tc .vmem S3x16 .f32) (harg11 : arg11.IsWhole) (arg12 : Memref sig .tc .vmem S3x16 .f32) (harg12 : arg12.IsWhole) (arg13 : Memref sig .tc .vmem S1x16 .f32) (harg13 : arg13.IsWhole) (arg14 : Memref sig .tc .vmem S1x16 .f32) (harg14 : arg14.IsWhole) (arg15 : Memref sig .tc .vmem S128x96 .f32) (harg15 : arg15.IsWhole) (arg16 : Memref sig .tc .vmem S1x96 .f32) (harg16 : arg16.IsWhole) (arg17 : Memref sig .tc .vmem S1x128 .f32) (harg17 : arg17.IsWhole) (arg18 : Memref sig .tc .vmem S128x64 .f32) (harg18 : arg18.IsWhole) (arg19 : Memref sig .tc .vmem S64x128 .f32) (harg19 : arg19.IsWhole) (arg20 : Memref sig .tc .vmem S64x64 .f32) (harg20 : arg20.IsWhole) (arg21 : Memref sig .tc .vmem S128x16 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S16x128 .f32) (harg25 : arg25.IsWhole) (arg26 : Memref sig .tc .vmem S256x96 .f32) (harg26 : arg26.IsWhole)
    (x0 : Vec F S256x128 .f32) (x1 : Vec F S3x16x16 .f32) (x2 : Vec F S3x16x16 .f32) (x3 : Vec F S3x16x16 .f32) (x4 : Vec F S3x16x16 .f32) (x5 : Vec F S3x16x256 .f32) (x6 : Vec F S3x256 .f32) (x7 : Vec F S3x256x16 .f32) (x8 : Vec F S3x16 .f32) (x9 : Vec F S3x16 .f32) (x10 : Vec F S3x16 .f32) (x11 : Vec F S3x16 .f32) (x12 : Vec F S3x16 .f32) (x13 : Vec F S1x16 .f32) (x14 : Vec F S1x16 .f32) (x15 : Vec F S128x96 .f32) (x16 : Vec F S1x96 .f32) (x17 : Vec F S1x128 .f32) (x18 : Vec F S128x64 .f32) (x19 : Vec F S64x128 .f32) (x20 : Vec F S64x64 .f32) (x21 : Vec F S128x16 .f32) (x22 : Vec F S128x128 .f32) (x23 : Vec F S128x128 .f32) (x24 : Vec F S128x128 .f32) (x25 : Vec F S16x128 .f32) (y : S256x96.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24 x25).1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24 x25).1 S256x96.size (by sl_kernel_rfl) y

/-- What the run leaves in output 26's staging buffer: its pieces read back over junk. -/
def out0_A_26 (c : Dev nD) (arg0 : Memref sig .tc .vmem S256x128 .f32) (harg0 : arg0.IsWhole) (arg1 : Memref sig .tc .vmem S3x16x16 .f32) (harg1 : arg1.IsWhole) (arg2 : Memref sig .tc .vmem S3x16x16 .f32) (harg2 : arg2.IsWhole) (arg3 : Memref sig .tc .vmem S3x16x16 .f32) (harg3 : arg3.IsWhole) (arg4 : Memref sig .tc .vmem S3x16x16 .f32) (harg4 : arg4.IsWhole) (arg5 : Memref sig .tc .vmem S3x16x256 .f32) (harg5 : arg5.IsWhole) (arg6 : Memref sig .tc .vmem S3x256 .f32) (harg6 : arg6.IsWhole) (arg7 : Memref sig .tc .vmem S3x256x16 .f32) (harg7 : arg7.IsWhole) (arg8 : Memref sig .tc .vmem S3x16 .f32) (harg8 : arg8.IsWhole) (arg9 : Memref sig .tc .vmem S3x16 .f32) (harg9 : arg9.IsWhole) (arg10 : Memref sig .tc .vmem S3x16 .f32) (harg10 : arg10.IsWhole) (arg11 : Memref sig .tc .vmem S3x16 .f32) (harg11 : arg11.IsWhole) (arg12 : Memref sig .tc .vmem S3x16 .f32) (harg12 : arg12.IsWhole) (arg13 : Memref sig .tc .vmem S1x16 .f32) (harg13 : arg13.IsWhole) (arg14 : Memref sig .tc .vmem S1x16 .f32) (harg14 : arg14.IsWhole) (arg15 : Memref sig .tc .vmem S128x96 .f32) (harg15 : arg15.IsWhole) (arg16 : Memref sig .tc .vmem S1x96 .f32) (harg16 : arg16.IsWhole) (arg17 : Memref sig .tc .vmem S1x128 .f32) (harg17 : arg17.IsWhole) (arg18 : Memref sig .tc .vmem S128x64 .f32) (harg18 : arg18.IsWhole) (arg19 : Memref sig .tc .vmem S64x128 .f32) (harg19 : arg19.IsWhole) (arg20 : Memref sig .tc .vmem S64x64 .f32) (harg20 : arg20.IsWhole) (arg21 : Memref sig .tc .vmem S128x16 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S16x128 .f32) (harg25 : arg25.IsWhole) (arg26 : Memref sig .tc .vmem S256x96 .f32) (harg26 : arg26.IsWhole)
    (x0 : Vec F S256x128 .f32) (x1 : Vec F S3x16x16 .f32) (x2 : Vec F S3x16x16 .f32) (x3 : Vec F S3x16x16 .f32) (x4 : Vec F S3x16x16 .f32) (x5 : Vec F S3x16x256 .f32) (x6 : Vec F S3x256 .f32) (x7 : Vec F S3x256x16 .f32) (x8 : Vec F S3x16 .f32) (x9 : Vec F S3x16 .f32) (x10 : Vec F S3x16 .f32) (x11 : Vec F S3x16 .f32) (x12 : Vec F S3x16 .f32) (x13 : Vec F S1x16 .f32) (x14 : Vec F S1x16 .f32) (x15 : Vec F S128x96 .f32) (x16 : Vec F S1x96 .f32) (x17 : Vec F S1x128 .f32) (x18 : Vec F S128x64 .f32) (x19 : Vec F S64x128 .f32) (x20 : Vec F S64x64 .f32) (x21 : Vec F S128x16 .f32) (x22 : Vec F S128x128 .f32) (x23 : Vec F S128x128 .f32) (x24 : Vec F S128x128 .f32) (x25 : Vec F S16x128 .f32) : Vec F S256x96 .f32 :=
  VO0_26.read (Elt F) (VO0_26.writes (Elt F) VO0_26.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24 x25).1)

/-! ## What the outputs hold after each point -/

/-- What the outputs' staging buffers hold after the body at point `t`: the run's contents at
    the point's memrefs and input blocks. -/
def outsAt0 (c : Dev nD) (t : Fin cfg0.N) : Vec F S256x96 .f32 :=
  out0_A_26 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (outsAt0 m c t)
    | ⟨_ + 27, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2400000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  unfold outsAt0
  unfold out0_A_26
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  iintro ⟨H0, H1, H2, H3, H4, H5, H6, H7, H8, H9, H10, H11, H12, H13, H14, H15, H16, H17, H18, H19, H20, H21, H22, H23, H24, H25, ⟨%e26, H26⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  unfold owns; iexists _; isplitr
  swap; · iexact H26
  ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_SecondIdeal`'s statement (Defs.lean) at any `F` — Proof.lean cites it at `Bits`:
    `theorem Cert.Proof.claim : Cert.Claim := ⟨Cert.SecondIdeal.Gen.facts, fun m ρ _ => Cert.SecondIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.SecondIdeal.Gen

end
-- ==== Proof.Consts.lean ====
/-
  The float constants of the two programs as extended reals.
-/
module

public import Idealize.ShloMosaic.PureOps.Ideal

@[expose] public section

noncomputable section

namespace Cert.Interp

open Idealize.ShloMosaic

/-- The kernel's score factor is minus one hundred. -/
theorem word_neg_hundred : Ideal.ofBits .f32 0xC2C80000#32 = ((-100 : ℝ) : EReal) := by
  simp [Ideal.ofBits, Ideal.ieee, -EReal.coe_mul, -EReal.coe_neg]; norm_num

/-- The reference's score factor is one hundred. -/
theorem word_hundred : Ideal.ofBits .f32 0x42C80000#32 = ((100 : ℝ) : EReal) := by
  simp [Ideal.ofBits, Ideal.ieee, -EReal.coe_mul]; norm_num

/-- The score off the mask is minus infinity. -/
theorem word_bot : Ideal.ofBits .f32 0xFF800000#32 = ⊥ := by
  simp [Ideal.ofBits, Ideal.ieee]

/-- The number of windows. -/
theorem word_eight : Ideal.ofBits .f32 0x41000000#32 = ((8 : ℝ) : EReal) := by
  simp [Ideal.ofBits, Ideal.ieee, -EReal.coe_mul]; norm_num

/-- The number of steps between the reference points. -/
theorem word_steps : Ideal.ofBits .f32 0x42FE0000#32 = ((127 : ℝ) : EReal) := by
  simp [Ideal.ofBits, Ideal.ieee, -EReal.coe_mul]; norm_num

/-- Zero. -/
theorem word_zero : Ideal.ofBits .f32 0x00000000#32 = 0 := by
  simp [Ideal.ofBits, Ideal.ieee]

/-- One eighth. -/
theorem word_e1 : Ideal.ofBits .f32 0x3E000000#32 = ((1 / 8 : ℝ) : EReal) := by
  simp [Ideal.ofBits, Ideal.ieee, -EReal.coe_mul]; norm_num

/-- Two eighths. -/
theorem word_e2 : Ideal.ofBits .f32 0x3E800000#32 = ((2 / 8 : ℝ) : EReal) := by
  simp [Ideal.ofBits, Ideal.ieee, -EReal.coe_mul]; norm_num

/-- Three eighths. -/
theorem word_e3 : Ideal.ofBits .f32 0x3EC00000#32 = ((3 / 8 : ℝ) : EReal) := by
  simp [Ideal.ofBits, Ideal.ieee, -EReal.coe_mul]; norm_num

/-- Four eighths. -/
theorem word_e4 : Ideal.ofBits .f32 0x3F000000#32 = ((4 / 8 : ℝ) : EReal) := by
  simp [Ideal.ofBits, Ideal.ieee, -EReal.coe_mul]; norm_num

/-- Five eighths. -/
theorem word_e5 : Ideal.ofBits .f32 0x3F200000#32 = ((5 / 8 : ℝ) : EReal) := by
  simp [Ideal.ofBits, Ideal.ieee, -EReal.coe_mul]; norm_num

/-- Six eighths. -/
theorem word_e6 : Ideal.ofBits .f32 0x3F400000#32 = ((6 / 8 : ℝ) : EReal) := by
  simp [Ideal.ofBits, Ideal.ieee, -EReal.coe_mul]; norm_num

/-- Seven eighths. -/
theorem word_e7 : Ideal.ofBits .f32 0x3F600000#32 = ((7 / 8 : ℝ) : EReal) := by
  simp [Ideal.ofBits, Ideal.ieee, -EReal.coe_mul]; norm_num

/-- One. -/
theorem word_e8 : Ideal.ofBits .f32 0x3F800000#32 = 1 := by
  simp [Ideal.ofBits, Ideal.ieee, -EReal.coe_mul]; norm_num

end Cert.Interp
-- ==== Proof.Softmax.lean ====
/-
  The masked softmax average, as a kernel without a running maximum forms it, on the extended reals: no program is named here.
-/
module

public import Idealize.ShloMosaic.PureOps.Ideal
public import Idealize.ShloMosaic.Lib.Pointwise

@[expose] public section

noncomputable section

namespace Cert.Interp

open Idealize.ShloMosaic

variable {T : Type} [Fintype T]

/-- A nonnegative real factor passes through a finite sum of extended reals. -/
theorem sum_mul_real (f : T → EReal) (c : ℝ) (hc : 0 ≤ c) :
    (∑ t, f t) * (c : EReal) = ∑ t, f t * (c : EReal) := by
  classical
  have key : ∀ s : Finset T, (∑ t ∈ s, f t) * (c : EReal) = ∑ t ∈ s, f t * (c : EReal) := by
    intro s
    induction s using Finset.induction_on with
    | empty => simp
    | insert a s ha ih =>
      rw [Finset.sum_insert ha, Finset.sum_insert ha, mul_comm,
        EReal.left_distrib_of_nonneg_of_ne_top (by exact_mod_cast hc) (EReal.coe_ne_top c), mul_comm _ (f a),
        mul_comm _ (∑ t ∈ s, f t), ih]
  exact key _

/-- A finite sum of reals is the same sum in the extended reals. -/
theorem coe_sum (f : T → ℝ) : ((∑ t, f t : ℝ) : EReal) = ∑ t, (f t : EReal) := by
  classical
  have key : ∀ s : Finset T, ((∑ t ∈ s, f t : ℝ) : EReal) = ∑ t ∈ s, (f t : EReal) := by
    intro s
    induction s using Finset.induction_on with
    | empty => simp
    | insert a s ha ih => rw [Finset.sum_insert ha, Finset.sum_insert ha, EReal.coe_add, ih]
  exact key _

/-- The largest of finitely many scores, each real or `⊥` and at least one real, is real. -/
theorem fold_max_real (sc : T → EReal) (hsc : ∀ t, sc t = ⊥ ∨ ∃ r : ℝ, sc t = r) (t₀ : T) (r₀ : ℝ) (h₀ : sc t₀ = r₀) :
    ∃ m : ℝ, max ⊥ (Finset.univ.fold max ⊥ sc) = (m : EReal) := by
  have e : Finset.univ.fold max ⊥ sc = Finset.univ.sup sc := rfl
  rw [e, max_eq_right bot_le]
  obtain ⟨t₁, -, h₁⟩ := Finset.exists_mem_eq_sup (Finset.univ : Finset T) ⟨t₀, Finset.mem_univ _⟩ sc
  rw [h₁]
  rcases hsc t₁ with hb | hr
  · have := Finset.le_sup (f := sc) (Finset.mem_univ t₀)
    rw [h₁, hb, h₀] at this
    exact absurd this (by simp)
  · exact hr

/-- The average of `h` with the weights `exp (-100 (ρ - τ)²)` over the masked positions, divided by the sum of the weights
    where that is positive, is the softmax average of the scores `-100 (ρ - τ)²`, which are `⊥` off the mask; both are `0`
    where the mask is empty. `ρ` is real, and so is `τ` under the mask; `h` is any. -/
theorem average_eq (ρ : ℝ) (τ h : T → EReal) (M : T → Prop) [DecidablePred M] [Decidable (∃ t, M t)]
    (hτ : ∀ t, M t → ∃ r : ℝ, τ t = r) :
    (∑ t, h t * (Ideal.exp (((-100 : ℝ) : EReal) * (((ρ : EReal) - τ t) * ((ρ : EReal) - τ t))) * if M t then 1 else 0))
      * Ideal.div 1 (if 0 < ∑ t, Ideal.exp (((-100 : ℝ) : EReal) * (((ρ : EReal) - τ t) * ((ρ : EReal) - τ t))) * (if M t then 1 else 0)
          then ∑ t, Ideal.exp (((-100 : ℝ) : EReal) * (((ρ : EReal) - τ t) * ((ρ : EReal) - τ t))) * (if M t then 1 else 0) else 1)
    = (∑ t, Ideal.div
          (Ideal.exp ((if M t then -(((ρ : EReal) - τ t) * ((ρ : EReal) - τ t)) * ((100 : ℝ) : EReal) else ⊥)
            - max ⊥ (Finset.univ.fold max ⊥ fun t => if M t then -(((ρ : EReal) - τ t) * ((ρ : EReal) - τ t)) * ((100 : ℝ) : EReal) else ⊥)))
          (∑ t, Ideal.exp ((if M t then -(((ρ : EReal) - τ t) * ((ρ : EReal) - τ t)) * ((100 : ℝ) : EReal) else ⊥)
            - max ⊥ (Finset.univ.fold max ⊥ fun t => if M t then -(((ρ : EReal) - τ t) * ((ρ : EReal) - τ t)) * ((100 : ℝ) : EReal) else ⊥)))
          * h t) * (if ∃ t, M t then 1 else 0) := by
  by_cases hM : ∃ t, M t
  · obtain ⟨t₀, ht₀⟩ := hM
    have hr : ∃ r : T → ℝ, ∀ t, M t → τ t = r t := by
      refine ⟨fun t => (τ t).toReal, fun t ht => ?_⟩
      obtain ⟨r, e⟩ := hτ t ht
      show τ t = ((τ t).toReal : EReal)
      rw [e, EReal.toReal_coe]
    obtain ⟨r, hr⟩ := hr
    let s : T → ℝ := fun t => -100 * ((ρ - r t) * (ρ - r t))
    let a : T → ℝ := fun t => if M t then Real.exp (s t) else 0
    have hw : ∀ t, Ideal.exp (((-100 : ℝ) : EReal) * (((ρ : EReal) - τ t) * ((ρ : EReal) - τ t))) * (if M t then 1 else 0) = (a t : EReal) := by
      intro t
      by_cases ht : M t
      · rw [if_pos ht, hr t ht, mul_one, ← EReal.coe_sub, ← EReal.coe_mul, ← EReal.coe_mul]
        show ((Real.exp _ : ℝ) : EReal) = _
        simp only [a, if_pos ht, s]
      · simp only [a, if_neg ht, mul_zero, EReal.coe_zero]
    have hs : ∀ t, (if M t then -(((ρ : EReal) - τ t) * ((ρ : EReal) - τ t)) * ((100 : ℝ) : EReal) else ⊥) = if M t then (s t : EReal) else ⊥ := by
      intro t
      by_cases ht : M t
      · rw [if_pos ht, if_pos ht, hr t ht, ← EReal.coe_sub, ← EReal.coe_mul, ← EReal.coe_neg, ← EReal.coe_mul]
        congr 1
        simp only [s]; ring
      · rw [if_neg ht, if_neg ht]
    simp only [hw, hs]
    obtain ⟨m, hm⟩ := fold_max_real (fun t => if M t then (s t : EReal) else ⊥)
      (fun t => by by_cases ht : M t
                   · exact Or.inr ⟨s t, if_pos ht⟩
                   · exact Or.inl (if_neg ht)) t₀ (s t₀) (if_pos ht₀)
    rw [hm]
    have he : ∀ t, Ideal.exp ((if M t then (s t : EReal) else ⊥) - (m : EReal)) = ((a t * Real.exp (-m) : ℝ) : EReal) := by
      intro t
      by_cases ht : M t
      · rw [if_pos ht, ← EReal.coe_sub]
        show ((Real.exp _ : ℝ) : EReal) = _
        simp only [a, if_pos ht]
        rw [sub_eq_add_neg, Real.exp_add]
      · rw [if_neg ht, EReal.bot_sub]
        simp only [a, if_neg ht, zero_mul, EReal.coe_zero]
        rfl
    simp only [he]
    have ha : ∀ t, 0 ≤ a t := fun t => by
      by_cases ht : M t
      · simp only [a, if_pos ht]; exact (Real.exp_pos _).le
      · simp only [a, if_neg ht]; exact le_refl _
    have hZ : 0 < ∑ t, a t :=
      Finset.sum_pos' (fun t _ => ha t) ⟨t₀, Finset.mem_univ _, by simp only [a, if_pos ht₀]; exact Real.exp_pos _⟩
    rw [← coe_sum, ← coe_sum, if_pos (by exact_mod_cast hZ), Ideal.div_coe hZ.ne', one_mul, if_pos ⟨t₀, ht₀⟩, mul_one,
      sum_mul_real _ _ (by positivity)]
    refine Finset.sum_congr rfl fun t _ => ?_
    rw [← Finset.sum_mul, Ideal.div_coe (mul_pos hZ (Real.exp_pos _)).ne', mul_assoc, ← EReal.coe_mul, ← EReal.coe_mul, mul_comm]
    congr 2
    have := (Real.exp_pos (-m)).ne'
    have := hZ.ne'
    field_simp
  · have hn : ∀ t, ¬ M t := fun t ht => hM ⟨t, ht⟩
    rw [if_neg hM, mul_zero]
    simp only [if_neg (hn _), mul_zero, Finset.sum_const_zero, zero_mul]

end Cert.Interp
-- ==== Proof.Spec.lean ====
/-
  The interpolated representation as one function of the five argument arrays, coordinate by coordinate; no program is named here.
-/
module

public import proofs.«01_k».proof.Proof.Softmax

@[expose] public section

noncomputable section

namespace Cert.Interp

open Idealize.ShloMosaic

/-- The observations: batch, time step, and lane (sixteen values, sixteen observation flags, the time). -/
abbrev Data := (⟨3, ![16, 2048, 33]⟩ : Shape).Idx → EReal

/-- The first layer's weights. -/
abbrev Weights1 := (⟨2, ![16, 128]⟩ : Shape).Idx → EReal

/-- The first layer's offsets. -/
abbrev Bias1 := (⟨1, ![128]⟩ : Shape).Idx → EReal

/-- The second layer's weights. -/
abbrev Weights2 := (⟨2, ![128, 16]⟩ : Shape).Idx → EReal

/-- The second layer's offsets. -/
abbrev Bias2 := (⟨1, ![16]⟩ : Shape).Idx → EReal

/-- The two-layer map of one observation, at one output lane. -/
def hidden (x : Data) (w1 : Weights1) (b1 : Bias1) (w2 : Weights2) (b2 : Bias2) (b : Fin 16) (t : Fin 2048) (d : Fin 16) : EReal :=
  (∑ k : Fin 128, max (∑ e : Fin 16, x (ix3 b t ⟨e.val, by omega⟩) * x (ix3 b t ⟨16 + e.val, by omega⟩) * w1 (ix2 e k) + b1 (ix1 k)) 0
    * w2 (ix2 k d)) + b2 (ix1 d)

/-- Whether the observation at step `t` counts for window `p`: its time lies in the window's closed interval, an eighth
    long, and something was observed. -/
def counted (x : Data) (b : Fin 16) (p : Fin 8) (t : Fin 2048) : BitVec 1 :=
  IntOp.andi
    (IntOp.andi (BitVec.ofBool (decide (((p.val / 8 : ℝ) : EReal) ≤ x (ix3 b t 32))))
      (BitVec.ofBool (decide (x (ix3 b t 32) ≤ (((1 + p.val : ℕ) / 8 : ℝ) : EReal)))))
    (BitVec.ofBool (decide (0 < ∑ e : Fin 16, x (ix3 b t ⟨16 + e.val, by omega⟩))))

/-- Reference point `l` of the 128 evenly spaced ones from 0 to 1. -/
def point (l : Fin 128) : ℝ := if l.val < 127 then (l.val : ℝ) / 127 else 1

/-- Three tests joined: the first two hold where the joined bit is set. -/
theorem both_of_and : ∀ a b c : Bool,
    IntOp.andi (IntOp.andi (BitVec.ofBool a) (BitVec.ofBool b)) (BitVec.ofBool c) = 1#1 → a = true ∧ b = true := by
  decide

/-- A counted observation's time is real. -/
theorem time_real (x : Data) (b : Fin 16) (p : Fin 8) (t : Fin 2048) (h : counted x b p t = 1#1) :
    ∃ r : ℝ, x (ix3 b t 32) = r := by
  obtain ⟨h1, h2⟩ := both_of_and _ _ _ h
  replace h1 := of_decide_eq_true h1
  replace h2 := of_decide_eq_true h2
  refine ⟨(x (ix3 b t 32)).toReal, (EReal.coe_toReal ?_ ?_).symm⟩
  · intro e; rw [e] at h2; exact absurd h2 (by simp)
  · intro e; rw [e] at h1; exact absurd h1 (by simp)

/-- The masked score of step `t` against reference point `l`. -/
def score (x : Data) (b : Fin 16) (l : Fin 128) (t : Fin 2048) : EReal :=
  if counted x b ⟨l.val / 16, by omega⟩ t = 1#1
  then -(((point l : EReal) - x (ix3 b t 32)) * ((point l : EReal) - x (ix3 b t 32))) * ((100 : ℝ) : EReal) else ⊥

/-- The interpolated representation: the softmax average of the observations' two-layer maps over the steps counted in the
    point's window, and `0` where no step counts. -/
def interpolated (x : Data) (w1 : Weights1) (b1 : Bias1) (w2 : Weights2) (b2 : Bias2) (b d : Fin 16) (l : Fin 128) : EReal :=
  (∑ t, Ideal.div (Ideal.exp (score x b l t - max ⊥ (Finset.univ.fold max ⊥ (score x b l))))
      (∑ t, Ideal.exp (score x b l t - max ⊥ (Finset.univ.fold max ⊥ (score x b l))))
    * hidden x w1 b1 w2 b2 b t d)
  * (if ∃ t, counted x b ⟨l.val / 16, by omega⟩ t = 1#1 then 1 else 0)

/-- The weight of step `t` for reference point `l` that needs no maximum. -/
def weight (x : Data) (b : Fin 16) (l : Fin 128) (t : Fin 2048) : EReal :=
  Ideal.exp (((-100 : ℝ) : EReal) * (((point l : EReal) - x (ix3 b t 32)) * ((point l : EReal) - x (ix3 b t 32))))
    * (if counted x b ⟨l.val / 16, by omega⟩ t = 1#1 then 1 else 0)

/-- The average with those weights is the interpolated representation. -/
theorem weighted_eq (x : Data) (w1 : Weights1) (b1 : Bias1) (w2 : Weights2) (b2 : Bias2) (b d : Fin 16) (l : Fin 128) :
    (∑ t, hidden x w1 b1 w2 b2 b t d * weight x b l t)
      * Ideal.div 1 (if 0 < ∑ t, weight x b l t then ∑ t, weight x b l t else 1)
    = interpolated x w1 b1 w2 b2 b d l :=
  average_eq (point l) (fun t => x (ix3 b t 32)) (fun t => hidden x w1 b1 w2 b2 b t d)
    (fun t => counted x b ⟨l.val / 16, by omega⟩ t = 1#1) fun t ht => time_real x b _ t ht

end Cert.Interp
-- ==== Proof.Block.lean ====
/-
  One batch's part of a grid point: what the kernel's body leaves for a slab of observations, given its other operands.
-/
module

public import proofs.«01_k».proof.Proof.Gen.KernelIdeal.Frame
public import Idealize.ShloMosaic.Lib.Pointwise
public import proofs.«01_k».proof.Proof.Consts
public import proofs.«01_k».proof.Proof.Spec

@[expose] public section

noncomputable section

namespace Cert.Interp

open Idealize.ShloMosaic Cert.KernelIdeal Cert.KernelIdeal.Gen

variable (x : Data) (w1 : Weights1) (b1 : Bias1) (w2 : Weights2) (b2 : Bias2) (b : Fin 16)
variable (s : Vec Ideal S1x33x2048 .f32) (v1 : Vec Ideal S16x128 .f32) (c1 : Vec Ideal S128x1 .f32) (v2 : Vec Ideal S128x16 .f32) (c2 : Vec Ideal S16x1 .f32) (lo hi : Vec Ideal S8x1 .f32) (x8 : Vec Ideal S8x128 .f32) (rf : Vec Ideal S1x128 .f32)

/-- The body's result for one slab of observations: the first slab's payloads, over any operands. -/
def body : FVec Ideal S1x16x128 .f32 := k0_pay7 (k0_pay4 s) (k0_pay5 s v1 c1 v2 c2) (k0_pay6 s lo hi) x8 rf

/-- The second slab's result is the same body. -/
theorem body_second :
    k0_pay15 (k0_pay12 (k0_pay11 s v1) c1 v2 c2) (k0_pay13 (k0_pay9 s) (k0_pay10 s) lo hi x8) (k0_pay14 (k0_pay10 s) rf) (Scalar.ofBits .f32 0xC2C80000#32)
      = body s v1 c1 v2 c2 lo hi x8 rf := rfl

/-- The third slab's result is the same body. -/
theorem body_third :
    k0_pay22 (k0_pay20 (k0_pay17 s) (k0_pay18 s) (k0_pay19 s v1 c1 v2) c2 lo hi x8 rf) (k0_pay21 (k0_pay17 s) (k0_pay18 s) (k0_pay19 s v1 c1 v2) c2 lo hi x8 rf)
      = body s v1 c1 v2 c2 lo hi x8 rf := rfl

/-- The fourth slab's result is the same body. -/
theorem body_fourth :
    k0_pay1 (k0_pay29 (k0_pay25 s) (k0_pay26 s v1 c1 v2 c2) (k0_pay27 s) (k0_pay28 s lo) hi x8 rf)
      = body s v1 c1 v2 c2 lo hi x8 rf := rfl

/-- A bit as a number. -/
theorem bit_value (u : BitVec 1) : FloatOps.sitofp (F := Ideal) FTy.f32 (BitVec.setWidth 32 u) = if u = 1#1 then 1 else 0 := by
  show (((BitVec.setWidth 32 u).toInt : ℝ) : EReal) = _
  rcases BitVec.eq_zero_or_eq_one u with rfl | rfl
  · rw [show (BitVec.setWidth 32 0#1).toInt = 0 from rfl, if_neg (by decide)]; simp
  · rw [show (BitVec.setWidth 32 1#1).toInt = 1 from rfl, if_pos rfl]; simp

variable (hs : ∀ f t, s (ix3 0 f t) = x (ix3 b t f))
include hs

/-- The body's two-layer map, transposed. -/
theorem body_hidden (h1 : ∀ e k, v1 (ix2 e k) = w1 (ix2 e k)) (hc1 : ∀ k, c1 (ix2 k 0) = b1 (ix1 k))
    (h2 : ∀ k d, v2 (ix2 k d) = w2 (ix2 k d)) (hc2 : ∀ d, c2 (ix2 d 0) = b2 (ix1 d)) (d : Fin 16) (t : Fin 2048) :
    k0_pay5 s v1 c1 v2 c2 (ix2 d t) = hidden x w1 b1 w2 b2 b t d := by
  pointwise [k0_pay5, k0_pay3, k0_pay2]
  unfold hidden
  simp only [hs, h1, h2, hc1, hc2]
  congr 1
  refine Finset.sum_congr rfl fun k _ => ?_
  rw [mul_comm]
  congr 3
  exact Finset.sum_congr rfl fun e _ => mul_comm _ _

/-- The body's mask. -/
theorem body_mask (hlo : ∀ p : Fin 8, lo (ix2 p 0) = ((p.val / 8 : ℝ) : EReal)) (hhi : ∀ p : Fin 8, hi (ix2 p 0) = (((1 + p.val : ℕ) / 8 : ℝ) : EReal))
    (p : Fin 8) (t : Fin 2048) :
    k0_pay6 s lo hi (ix2 p t) = if counted x b p t = 1#1 then 1 else 0 := by
  pointwise [k0_pay6, k0_pay4, k0_pay3, k0_pay2]
  rw [bit_value]
  simp only [hs, hlo, hhi]
  rfl

/-- The body's result is the interpolated representation of its batch. -/
theorem body_eq (h1 : ∀ e k, v1 (ix2 e k) = w1 (ix2 e k)) (hc1 : ∀ k, c1 (ix2 k 0) = b1 (ix1 k))
    (h2 : ∀ k d, v2 (ix2 k d) = w2 (ix2 k d)) (hc2 : ∀ d, c2 (ix2 d 0) = b2 (ix1 d))
    (hlo : ∀ p : Fin 8, lo (ix2 p 0) = ((p.val / 8 : ℝ) : EReal)) (hhi : ∀ p : Fin 8, hi (ix2 p 0) = (((1 + p.val : ℕ) / 8 : ℝ) : EReal))
    (hx8 : ∀ (p : Fin 8) (l : Fin 128), x8 (ix2 p l) = if l.val / 16 = p.val then 1 else 0) (hrf : ∀ l, rf (ix2 0 l) = (point l : EReal))
    (d : Fin 16) (l : Fin 128) :
    body s v1 c1 v2 c2 lo hi x8 rf (ix3 0 d l) = interpolated x w1 b1 w2 b2 b d l := by
  have hsel : ∀ t, (∑ p : Fin 8, k0_pay6 s lo hi (ix2 p t) * x8 (ix2 p l))
      = if counted x b ⟨l.val / 16, by omega⟩ t = 1#1 then 1 else 0 := fun t => by
    simp only [body_mask x b s lo hi hs hlo hhi, hx8]
    rw [Finset.sum_eq_single (⟨l.val / 16, by omega⟩ : Fin 8)]
    · rw [if_pos rfl, mul_one]
    · intro p _ hp
      have hne : ¬ l.val / 16 = p.val := fun h => hp (Fin.ext h.symm)
      simp only [if_neg hne, mul_zero]
    · intro h; exact absurd (Finset.mem_univ _) h
  have htau : ∀ t, k0_pay4 s (ix2 0 t) = x (ix3 b t 32) := fun t => by
    pointwise [k0_pay4, k0_pay3, k0_pay2]
    exact hs 32 t
  have hh := body_hidden x w1 b1 w2 b2 b s v1 c1 v2 c2 hs h1 hc1 h2 hc2
  rw [← weighted_eq]
  unfold body
  generalize k0_pay4 s = tau at htau
  generalize k0_pay5 s v1 c1 v2 c2 = h at hh
  generalize k0_pay6 s lo hi = tm at hsel
  pointwise [k0_pay7]
  simp only [hsel, htau, hh, hrf, word_neg_hundred]
  rfl

end Cert.Interp
-- ==== Proof.Slab.lean ====
/-
  What one grid point writes: the four slabs of its block.
-/
module

public import proofs.«01_k».proof.Proof.Gen.KernelIdeal.Frame
public import Idealize.ShloMosaic.Lib.Pipeline.ValueKit
public import proofs.«01_k».proof.Proof.Block

@[expose] public section

noncomputable section

namespace Cert.Interp

open Idealize.ShloMosaic Idealize.ShloMosaic.TcCoe Cert.KernelIdeal Cert.KernelIdeal.Gen

/-- One slab of a block of observations, out of any block. -/
theorem slab_read (x0 : Vec Ideal S4x33x2048 .f32) (k : Fin 4) (h : ∀ i : Fin 3, (![k.val, 0, 0] : Fin 3 → ℕ) i + S1x33x2048.size i ≤ S4x33x2048.size i) (f : Fin 33) (t : Fin 2048) :
    (View.ld x0 (Rect.unit (s := S4x33x2048) ![k.val, 0, 0] S1x33x2048.size h) : Vec Ideal S1x33x2048 .f32) (ix3 0 f t) = x0 (ix3 k f t) := by
  pointwise []

/-- The load of the first layer's weights is the whole operand. -/
theorem whole_1 (X : Vec Ideal S16x128 .f32) : (View.ld X r0_1 : Vec Ideal S16x128 .f32) = X := by
  funext i
  idx_vars i
  pointwise []

/-- The load of the first layer's offsets is the whole operand. -/
theorem whole_2 (X : Vec Ideal S128x1 .f32) : (View.ld X r0_2 : Vec Ideal S128x1 .f32) = X := by
  funext i
  idx_vars i
  pointwise []
  rw [Subsingleton.elim i1 0]

/-- The load of the second layer's weights is the whole operand. -/
theorem whole_3 (X : Vec Ideal S128x16 .f32) : (View.ld X r0_3 : Vec Ideal S128x16 .f32) = X := by
  funext i
  idx_vars i
  pointwise []

/-- The load of the second layer's offsets is the whole operand. -/
theorem whole_4 (X : Vec Ideal S16x1 .f32) : (View.ld X r0_4 : Vec Ideal S16x1 .f32) = X := by
  funext i
  idx_vars i
  pointwise []
  rw [Subsingleton.elim i1 0]

/-- The load of the windows' ends is the whole operand. -/
theorem whole_5 (X : Vec Ideal S8x1 .f32) : (View.ld X r0_5 : Vec Ideal S8x1 .f32) = X := by
  funext i
  idx_vars i
  pointwise []
  rw [Subsingleton.elim i1 0]

/-- The load of the spreading table is the whole operand. -/
theorem whole_6 (X : Vec Ideal S8x128 .f32) : (View.ld X r0_6 : Vec Ideal S8x128 .f32) = X := by
  funext i
  idx_vars i
  pointwise []

/-- The load of the reference points is the whole operand. -/
theorem whole_7 (X : Vec Ideal S1x128 .f32) : (View.ld X r0_7 : Vec Ideal S1x128 .f32) = X := by
  funext i
  idx_vars i
  pointwise []
  rw [Subsingleton.elim i0 0]

/-- A slab's place in the block that is written. -/
theorem slab_place (k : Fin 4) (h : ∀ i : Fin 3, (![k.val, 0, 0] : Fin 3 → ℕ) i + S1x16x128.size i ≤ S4x16x128.size i) (d : Fin 16) (l : Fin 128) :
    ((Rect.unit (s := S4x16x128) ![k.val, 0, 0] S1x16x128.size h).emb (ix3 0 d l) : S4x16x128.Idx) = ix3 k d l := by
  blk_ext

/-- One slab's result, over any blocks of the operands. -/
theorem piece_eq
    (x : Data) (w1 : Weights1) (b1 : Bias1) (w2 : Weights2) (b2 : Bias2) (g : Fin 4 → Fin 16)
    (x0 : Vec Ideal S4x33x2048 .f32) (x1 : Vec Ideal S16x128 .f32) (x2 : Vec Ideal S128x1 .f32) (x3 : Vec Ideal S128x16 .f32) (x4 : Vec Ideal S16x1 .f32) (x5 x6 : Vec Ideal S8x1 .f32) (x7 : Vec Ideal S8x128 .f32) (x8 : Vec Ideal S1x128 .f32)
    (h0 : ∀ k f t, x0 (ix3 k f t) = x (ix3 (g k) t f))
    (h1 : ∀ e k, x1 (ix2 e k) = w1 (ix2 e k)) (h2 : ∀ k, x2 (ix2 k 0) = b1 (ix1 k))
    (h3 : ∀ k d, x3 (ix2 k d) = w2 (ix2 k d)) (h4 : ∀ d, x4 (ix2 d 0) = b2 (ix1 d))
    (h5 : ∀ p : Fin 8, x5 (ix2 p 0) = ((p.val / 8 : ℝ) : EReal)) (h6 : ∀ p : Fin 8, x6 (ix2 p 0) = (((1 + p.val : ℕ) / 8 : ℝ) : EReal))
    (h7 : ∀ (p : Fin 8) (l : Fin 128), x7 (ix2 p l) = if l.val / 16 = p.val then 1 else 0) (h8 : ∀ l, x8 (ix2 0 l) = (point l : EReal))
    (k : Fin 4) (h : ∀ i : Fin 3, (![k.val, 0, 0] : Fin 3 → ℕ) i + S1x33x2048.size i ≤ S4x33x2048.size i)
    (h' : ∀ i : Fin 3, (![k.val, 0, 0] : Fin 3 → ℕ) i + S1x16x128.size i ≤ S4x16x128.size i) (y : S1x16x128.Idx) :
    body (View.ld x0 (Rect.unit (s := S4x33x2048) ![k.val, 0, 0] S1x33x2048.size h) : Vec Ideal S1x33x2048 .f32)
        x1 x2 x3 x4 x5 x6 x7 x8 y
      = (fun i : S4x16x128.Idx => interpolated x w1 b1 w2 b2 (g (i 0)) (i 1) (i 2)) ((Rect.unit (s := S4x16x128) ![k.val, 0, 0] S1x16x128.size h').emb y) := by
  idx_vars y
  obtain rfl : y0 = 0 := Subsingleton.elim _ _
  rw [slab_place]
  exact body_eq x w1 b1 w2 b2 (g k) _ x1 x2 x3 x4 x5 x6 x7 x8 (fun f t => (slab_read x0 k h f t).trans (h0 k f t)) h1 h2 h3 h4 h5 h6 h7 h8 y1 y2

/-- The block a grid point writes, over any blocks of its operands. -/
theorem out_eq
    (x : Data) (w1 : Weights1) (b1 : Bias1) (w2 : Weights2) (b2 : Bias2) (g : Fin 4 → Fin 16)
    (x0 : Vec Ideal S4x33x2048 .f32) (x1 : Vec Ideal S16x128 .f32) (x2 : Vec Ideal S128x1 .f32) (x3 : Vec Ideal S128x16 .f32) (x4 : Vec Ideal S16x1 .f32) (x5 x6 : Vec Ideal S8x1 .f32) (x7 : Vec Ideal S8x128 .f32) (x8 : Vec Ideal S1x128 .f32)
    (h0 : ∀ k f t, x0 (ix3 k f t) = x (ix3 (g k) t f))
    (h1 : ∀ e k, x1 (ix2 e k) = w1 (ix2 e k)) (h2 : ∀ k, x2 (ix2 k 0) = b1 (ix1 k))
    (h3 : ∀ k d, x3 (ix2 k d) = w2 (ix2 k d)) (h4 : ∀ d, x4 (ix2 d 0) = b2 (ix1 d))
    (h5 : ∀ p : Fin 8, x5 (ix2 p 0) = ((p.val / 8 : ℝ) : EReal)) (h6 : ∀ p : Fin 8, x6 (ix2 p 0) = (((1 + p.val : ℕ) / 8 : ℝ) : EReal))
    (h7 : ∀ (p : Fin 8) (l : Fin 128), x7 (ix2 p l) = if l.val / 16 = p.val then 1 else 0) (h8 : ∀ l, x8 (ix2 0 l) = (point l : EReal))
    (y : S4x16x128.Idx) :
    out0_9 x0 x1 x2 x3 x4 x5 x6 x7 x8 y = interpolated x w1 b1 w2 b2 (g (y 0)) (y 1) (y 2) := by
  have P := piece_eq x w1 b1 w2 b2 g x0 x1 x2 x3 x4 x5 x6 x7 x8 h0 h1 h2 h3 h4 h5 h6 h7 h8
  unfold_out out0_9
  simp only [whole_1, whole_2, whole_3, whole_4, whole_5, whole_6, whole_7]
  refine View.canon_apply_of_pieces (Val := Elt Ideal) (e := .f32) (fun i : S4x16x128.Idx => (interpolated x w1 b1 w2 b2 (g (i 0)) (i 1) (i 2) : EReal)) _ ?_ y (cover0_9 _ _ _ _ y)
  intro p hp z
  rcases List.mem_cons.mp hp with rfl | hp
  · exact (congrFun (body_fourth ..) z).trans (P 3 inb_S4x33x2048_S1x33x2048_3_0_0 inb_S4x16x128_S1x16x128_3_0_0 z)
  rcases List.mem_cons.mp hp with rfl | hp
  · exact (congrFun (body_third ..) z).trans (P 2 inb_S4x33x2048_S1x33x2048_2_0_0 inb_S4x16x128_S1x16x128_2_0_0 z)
  rcases List.mem_cons.mp hp with rfl | hp
  · exact (congrFun (body_second ..) z).trans (P 1 inb_S4x33x2048_S1x33x2048_1_0_0 inb_S4x16x128_S1x16x128_1_0_0 z)
  rcases List.mem_cons.mp hp with rfl | hp
  · exact P 0 inb_S4x33x2048_S1x33x2048_0_0_0 inb_S4x16x128_S1x16x128_0_0_0 z
  · exact absurd hp List.not_mem_nil

end Cert.Interp
-- ==== Proof.RefStages.lean ====
/-
  The reference's stages, element by element: the two-layer map, the windows' ends, the reference points, the mask and the scores.
-/
module

public import proofs.«01_k».proof.Proof.Gen.ReferenceIdeal.Read
public import proofs.«01_k».proof.Proof.Consts
public import proofs.«01_k».proof.Proof.Spec

@[expose] public section

noncomputable section

namespace Cert.Interp

open Idealize.ShloMosaic Cert.ReferenceIdeal Cert.ReferenceIdeal.Read

variable (x0 : (⟨S16x2048x33, .f32⟩ : BufTy).Contents (Elt Ideal)) (x1 : (⟨S16x128, .f32⟩ : BufTy).Contents (Elt Ideal)) (x2 : (⟨S128, .f32⟩ : BufTy).Contents (Elt Ideal)) (x3 : (⟨S128x16, .f32⟩ : BufTy).Contents (Elt Ideal)) (x4 : (⟨S16, .f32⟩ : BufTy).Contents (Elt Ideal))

/-- The reference's two-layer map. -/
theorem ref_hidden (b : Fin 16) (t : Fin 2048) (d : Fin 16) :
    val_main_v16 x0 x1 x2 x3 x4 (ix3 b t d) = hidden x0 x1 x2 x3 x4 b t d := by
  pointwise [val_main_v16, val_main_v15, val_main_v14, val_main_v13, val_main_v12, val_main_v11, val_main_v10, val_main_v9, val_main_v8, val_main_v7, val_main_v1, val_main_v0, val_main_call2_v0, val_main_call2_cst]
  rfl

/-- A small count, as the float the host's row of indices holds. -/
theorem count_real (n : ℕ) (h : n < 128) : FloatOps.sitofp (F := Ideal) FTy.f32 (BitVec.ofNat 32 n) = ((n : ℝ) : EReal) := by
  show (((BitVec.ofNat 32 n).toInt : ℝ) : EReal) = _
  have : (BitVec.ofNat 32 n).toInt = (n : ℤ) := by
    rw [BitVec.toInt_eq_toNat_of_lt (by rw [BitVec.toNat_ofNat]; omega), BitVec.toNat_ofNat]
    congr 1; omega
  rw [this]; norm_cast

/-- The window's ends are eighths. -/
theorem ref_edge (p : Fin 9) : val_main_v4 (F := Ideal) (ix1 p) = ((p.val / 8 : ℝ) : EReal) := by
  pointwise [val_main_v4, val_main_call0_v15, val_main_call0_v16, val_main_call0_v14, val_main_call0_v13, val_main_call0_v12, val_main_call0_v11, val_main_call0_v10, val_main_call0_v9, val_main_call0_v8, val_main_call0_v7, val_main_call0_v6, val_main_call0_v5, val_main_call0_v4, val_main_call0_v1, val_main_call0_v0, val_main_cst, val_main_cst_0, val_main_call0_cst_0, val_main_call0_cst_1]
  have e0 : id (constant (F := Ideal) S_ FTy.f32 0#32) (ix0 : S_.Idx) = (0 : EReal) := word_zero
  have e1 : id (constant (F := Ideal) S_ FTy.f32 1065353216#32) (ix0 : S_.Idx) = (1 : EReal) := word_e8
  rw [e0, e1]
  split
  · rw [word_eight, Ideal.div_coe (by norm_num), count_real _ (by omega), zero_mul, zero_add, one_mul, ← EReal.coe_mul]
    congr 1; ring
  · have : p.val = 8 := by omega
    rw [this]; norm_num

/-- The reference points. -/
theorem ref_point (l : Fin 128) : val_main_v5 (F := Ideal) (ix1 l) = (point l : EReal) := by
  pointwise [val_main_v5, val_main_call1_v15, val_main_call1_v16, val_main_call1_v14, val_main_call1_v13, val_main_call1_v12, val_main_call1_v11, val_main_call1_v10, val_main_call1_v9, val_main_call1_v8, val_main_call1_v7, val_main_call1_v6, val_main_call1_v5, val_main_call1_v4, val_main_call1_v1, val_main_call1_v0, val_main_cst_1, val_main_cst_2, val_main_call1_cst_0, val_main_call1_cst_1]
  have e0 : id (constant (F := Ideal) S_ FTy.f32 0#32) (ix0 : S_.Idx) = (0 : EReal) := word_zero
  have e1 : id (constant (F := Ideal) S_ FTy.f32 1065353216#32) (ix0 : S_.Idx) = (1 : EReal) := word_e8
  rw [e0, e1]
  unfold point
  split
  · rw [word_steps, Ideal.div_coe (by norm_num), count_real _ (by omega), zero_mul, zero_add, one_mul, ← EReal.coe_mul]
    congr 1; ring
  · norm_num

/-- The reference's mask. -/
theorem ref_counted (b : Fin 16) (p : Fin 8) (t : Fin 2048) : val_main_v35 x0 (ix3 b p t) = counted x0 b p t := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_3, val_main_cst_4, val_main_v1, val_main_v2, val_main_v3]
  rw [ref_edge, ref_edge]
  rfl

/-- The reference's scores. -/
theorem ref_score (b : Fin 16) (l : Fin 128) (t : Fin 2048) :
    val_main_v46 x0 (ix4 b (⟨l.val / 16, by omega⟩ : Fin 8) (⟨l.val % 16, by omega⟩ : Fin 16) t) = score x0 b l t := by
  pointwise [val_main_v46, val_main_v45, val_main_v44, val_main_v43, val_main_v42, val_main_v41, val_main_v40, val_main_v39, val_main_v38, val_main_v37, val_main_v36, val_main_v6, val_main_cst_5, val_main_cst_6, val_main_call3_v1, val_main_call3_v2, val_main_call3_v0, val_main_v2, val_main_v3]
  have eb : id (constant (F := Ideal) S_ FTy.f32 4286578688#32) (ix0 : S_.Idx) = (⊥ : EReal) := word_bot
  rw [eb, ref_point, ref_counted, word_hundred]
  rfl

end Cert.Interp
-- ==== Proof.Host.lean ====
/-
  What the kernel's launch finds in its operands: the host operations before it, read at coordinates.
-/
module

public import proofs.«01_k».proof.Proof.Gen.KernelIdeal.Frame
public import Idealize.ShloMosaic.Lib.StableHlo.ReadAt
public import proofs.«01_k».proof.Proof.Consts
public import proofs.«01_k».proof.Proof.RefStages

@[expose] public section

noncomputable section

namespace Cert.Interp

open Idealize.ShloMosaic Idealize.ShloMosaic.TcCoe Cert.KernelIdeal Cert.KernelIdeal.Gen

variable (m : (ℓ : Loc nD τ sig) → Buf (Elt Ideal) ℓ) (c : Dev nD)

/-- The observations, transposed. -/
theorem host_data (b : Fin 16) (f : Fin 33) (t : Fin 2048) :
    (V m c main_v4 : S16x33x2048.Idx → EReal) (ix3 b f t) = (m ((c : Thread nD τ).loc main_arg0) : S16x2048x33.Idx → EReal) (ix3 b t f) := by
  unfold V
  after_reads_at

/-- The first layer's offsets, as a column. -/
theorem host_bias1 (k : Fin 128) :
    (V m c main_v5 : S128x1.Idx → EReal) (ix2 k 0) = (m ((c : Thread nD τ).loc main_arg2) : S128.Idx → EReal) (ix1 k) := by
  unfold V
  after_reads_at

/-- The second layer's offsets, as a column. -/
theorem host_bias2 (d : Fin 16) :
    (V m c main_v6 : S16x1.Idx → EReal) (ix2 d 0) = (m ((c : Thread nD τ).loc main_arg4) : S16.Idx → EReal) (ix1 d) := by
  unfold V
  after_reads_at

/-- The reference points, as a row. -/
theorem host_point (l : Fin 128) : (V m c main_v3 : S1x128.Idx → EReal) (ix2 0 l) = (point l : EReal) := by
  unfold V
  after_reads_at
  unfold point
  split
  · rename_i hl
    show (StableHlo.upto (List.flatten [hostOps0, hostOps0_1, hostOps0_2]) (fun b => m (c, b)) 27 (Proc.tc.devRef main_call0_v15) : S127.Idx → EReal) (ix1 (⟨l.val, hl⟩ : Fin 127)) = _
    after_reads_at
    have e0 : id (constant (F := Ideal) S_ FTy.f32 0#32) (ix0 : S_.Idx) = (0 : EReal) := word_zero
    have e1 : id (constant (F := Ideal) S_ FTy.f32 1065353216#32) (ix0 : S_.Idx) = (1 : EReal) := word_e8
    rw [e0, e1, word_steps, Ideal.div_coe (by norm_num), count_real _ (by omega), zero_mul, zero_add, one_mul, ← EReal.coe_mul]
    congr 1; ring
  · show (StableHlo.upto (List.flatten [hostOps0, hostOps0_1, hostOps0_2]) (fun b => m (c, b)) 27 (Proc.tc.devRef main_call0_v16) : S1.Idx → EReal) (ix1 (⟨l.val - 127, by omega⟩ : Fin 1)) = _
    after_reads_at
    exact word_e8.trans (by norm_num)

/-- The words of the windows' lower ends. -/
theorem lo_word : ∀ p : Fin 8, lit0 (S8.rowMajor (ix1 p))
    = (![0x00000000#32, 0x3E000000#32, 0x3E800000#32, 0x3EC00000#32, 0x3F000000#32, 0x3F200000#32, 0x3F400000#32, 0x3F600000#32] : Fin 8 → BitVec 32) p := by
  decide +kernel

/-- The words of the windows' upper ends. -/
theorem hi_word : ∀ p : Fin 8, lit1 (S8.rowMajor (ix1 p))
    = (![0x3E000000#32, 0x3E800000#32, 0x3EC00000#32, 0x3F000000#32, 0x3F200000#32, 0x3F400000#32, 0x3F600000#32, 0x3F800000#32] : Fin 8 → BitVec 32) p := by
  decide +kernel

/-- The words that spread the windows over the reference points. -/
theorem spread_word : ∀ (p : Fin 8) (l : Fin 128), lit2 (S8x128.rowMajor (ix2 p l)) = if l.val / 16 = p.val then 0x3F800000#32 else 0x00000000#32 := by
  decide +kernel

/-- The windows' lower ends. -/
theorem host_lo (p : Fin 8) : (V m c main_v0 : S8x1.Idx → EReal) (ix2 p 0) = ((p.val / 8 : ℝ) : EReal) := by
  unfold V
  after_reads_at
  rw [lo_word]
  fin_cases p
  · exact word_zero.trans (by norm_num)
  · exact word_e1.trans (by norm_num)
  · exact word_e2.trans (by norm_num)
  · exact word_e3.trans (by norm_num)
  · exact word_e4.trans (by norm_num)
  · exact word_e5.trans (by norm_num)
  · exact word_e6.trans (by norm_num)
  · exact word_e7.trans (by norm_num)

/-- The windows' upper ends. -/
theorem host_hi (p : Fin 8) : (V m c main_v1 : S8x1.Idx → EReal) (ix2 p 0) = (((1 + p.val : ℕ) / 8 : ℝ) : EReal) := by
  unfold V
  after_reads_at
  rw [hi_word]
  fin_cases p
  · exact word_e1.trans (by norm_num)
  · exact word_e2.trans (by norm_num)
  · exact word_e3.trans (by norm_num)
  · exact word_e4.trans (by norm_num)
  · exact word_e5.trans (by norm_num)
  · exact word_e6.trans (by norm_num)
  · exact word_e7.trans (by norm_num)
  · exact word_e8.trans (by norm_num)

/-- The table that spreads the windows over the reference points. -/
theorem host_spread (p : Fin 8) (l : Fin 128) :
    (V m c main_cst_1 : S8x128.Idx → EReal) (ix2 p l) = if l.val / 16 = p.val then (1 : EReal) else (0 : EReal) := by
  unfold V
  after_reads_at
  rw [spread_word]
  split
  · exact word_e8
  · exact word_zero

end Cert.Interp
-- ==== Proof.Array.lean ====
/-
  The kernel's result array after its run: every block in its place.
-/
module

public import proofs.«01_k».proof.Proof.Gen.KernelIdeal.Value
public import Idealize.ShloMosaic.Lib.Pipeline.ValueKit
public import proofs.«01_k».proof.Proof.Slab
public import proofs.«01_k».proof.Proof.Host

@[expose] public section

noncomputable section

namespace Cert.Interp

open Idealize.ShloMosaic Idealize.ShloMosaic.TcCoe Cert.KernelIdeal Cert.KernelIdeal.Gen

/-- Block `t` of the observations at point `t`. -/
theorem idx0 : ∀ t : Fin cfg0.N, win0_0.index t = ![t.val, 0, 0] := (by decide +kernel : ∀ t : Fin grid0.N, _)
/-- The one block of operand 1 at point `t`. -/
theorem idx1 : ∀ t : Fin cfg0.N, win0_1.index t = ![0, 0] := (by decide +kernel : ∀ t : Fin grid0.N, _)
/-- The one block of operand 2 at point `t`. -/
theorem idx2 : ∀ t : Fin cfg0.N, win0_2.index t = ![0, 0] := (by decide +kernel : ∀ t : Fin grid0.N, _)
/-- The one block of operand 3 at point `t`. -/
theorem idx3 : ∀ t : Fin cfg0.N, win0_3.index t = ![0, 0] := (by decide +kernel : ∀ t : Fin grid0.N, _)
/-- The one block of operand 4 at point `t`. -/
theorem idx4 : ∀ t : Fin cfg0.N, win0_4.index t = ![0, 0] := (by decide +kernel : ∀ t : Fin grid0.N, _)
/-- The one block of operand 5 at point `t`. -/
theorem idx5 : ∀ t : Fin cfg0.N, win0_5.index t = ![0, 0] := (by decide +kernel : ∀ t : Fin grid0.N, _)
/-- The one block of operand 6 at point `t`. -/
theorem idx6 : ∀ t : Fin cfg0.N, win0_6.index t = ![0, 0] := (by decide +kernel : ∀ t : Fin grid0.N, _)
/-- The one block of operand 7 at point `t`. -/
theorem idx7 : ∀ t : Fin cfg0.N, win0_7.index t = ![0, 0] := (by decide +kernel : ∀ t : Fin grid0.N, _)
/-- The one block of operand 8 at point `t`. -/
theorem idx8 : ∀ t : Fin cfg0.N, win0_8.index t = ![0, 0] := (by decide +kernel : ∀ t : Fin grid0.N, _)
/-- Block `t` of the result at point `t`. -/
theorem idx9 : ∀ t : Fin cfg0.N, win0_9.index t = ![t.val, 0, 0] := (by decide +kernel : ∀ t : Fin grid0.N, _)

variable (m : (ℓ : Loc nD τ sig) → Buf (Elt Ideal) ℓ) (c : Dev nD)

/-- A point's bound. -/
theorem point_lt (t : Fin cfg0.N) : t.val < 4 := lt_of_lt_of_eq t.isLt N_0

/-- Block `t` of the observations, read. -/
theorem read0 (t : Fin cfg0.N) (k : Fin 4) (f : Fin 33) (t' : Fin 2048) :
    (iblk m c 0 t : S4x33x2048.Idx → EReal) (ix3 k f t') = (V m c main_v4 : S16x33x2048.Idx → EReal) (ix3 ⟨t.val * 4 + k.val, by have h := point_lt t; omega⟩ f t') := by
  simp only [iblk]
  generalize V m c = W
  blk_ext [idx0]

/-- The block of operand 1, read. -/
theorem read1 (t : Fin cfg0.N) (e : Fin 16) (k : Fin 128) :
    (iblk m c 1 t : S16x128.Idx → EReal) (ix2 e k) = (V m c main_arg1 : S16x128.Idx → EReal) (ix2 e k) := by
  simp only [iblk]
  generalize V m c = W
  blk_ext [idx1]

/-- The block of operand 2, read. -/
theorem read2 (t : Fin cfg0.N) (k : Fin 128) :
    (iblk m c 2 t : S128x1.Idx → EReal) (ix2 k 0) = (V m c main_v5 : S128x1.Idx → EReal) (ix2 k 0) := by
  simp only [iblk]
  generalize V m c = W
  blk_ext [idx2]

/-- The block of operand 3, read. -/
theorem read3 (t : Fin cfg0.N) (k : Fin 128) (d : Fin 16) :
    (iblk m c 3 t : S128x16.Idx → EReal) (ix2 k d) = (V m c main_arg3 : S128x16.Idx → EReal) (ix2 k d) := by
  simp only [iblk]
  generalize V m c = W
  blk_ext [idx3]

/-- The block of operand 4, read. -/
theorem read4 (t : Fin cfg0.N) (d : Fin 16) :
    (iblk m c 4 t : S16x1.Idx → EReal) (ix2 d 0) = (V m c main_v6 : S16x1.Idx → EReal) (ix2 d 0) := by
  simp only [iblk]
  generalize V m c = W
  blk_ext [idx4]

/-- The block of operand 5, read. -/
theorem read5 (t : Fin cfg0.N) (p : Fin 8) :
    (iblk m c 5 t : S8x1.Idx → EReal) (ix2 p 0) = (V m c main_v0 : S8x1.Idx → EReal) (ix2 p 0) := by
  simp only [iblk]
  generalize V m c = W
  blk_ext [idx5]

/-- The block of operand 6, read. -/
theorem read6 (t : Fin cfg0.N) (p : Fin 8) :
    (iblk m c 6 t : S8x1.Idx → EReal) (ix2 p 0) = (V m c main_v1 : S8x1.Idx → EReal) (ix2 p 0) := by
  simp only [iblk]
  generalize V m c = W
  blk_ext [idx6]

/-- The block of operand 7, read. -/
theorem read7 (t : Fin cfg0.N) (p : Fin 8) (l : Fin 128) :
    (iblk m c 7 t : S8x128.Idx → EReal) (ix2 p l) = (V m c main_cst_1 : S8x128.Idx → EReal) (ix2 p l) := by
  simp only [iblk]
  generalize V m c = W
  blk_ext [idx7]

/-- The block of operand 8, read. -/
theorem read8 (t : Fin cfg0.N) (l : Fin 128) :
    (iblk m c 8 t : S1x128.Idx → EReal) (ix2 0 l) = (V m c main_v3 : S1x128.Idx → EReal) (ix2 0 l) := by
  simp only [iblk]
  generalize V m c = W
  blk_ext [idx8]

/-- Where block `t` of the result lies in the array. -/
theorem place9 (t : Fin cfg0.N) (y : S4x16x128.Idx) :
    ((win0_9.blk t).view.emb y : S16x16x128.Idx) = ix3 ⟨t.val * 4 + (y 0).val, by have h := point_lt t; have h' : (y 0).val < 4 := (y 0).isLt; omega⟩ (y 1) (y 2) := by
  blk_ext [idx9]

/-- The launched arguments as the functions the specification takes. -/
def spec : S16x16x128.Idx → EReal := fun i =>
  interpolated (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- The result array. -/
theorem arr_eq : (dats m 0 c).arrAt 9 cfg0.N = spec m c := by
  refine (dats m 0 c).arrAt_eq_of_covers 9 _ (by decide +kernel) fun t hf y => ?_
  blk_simp
  rw [after0_9]
  refine (out_eq (m ((c : Thread nD τ).loc main_arg0)) (m ((c : Thread nD τ).loc main_arg1)) (m ((c : Thread nD τ).loc main_arg2))
    (m ((c : Thread nD τ).loc main_arg3)) (m ((c : Thread nD τ).loc main_arg4))
    (fun k => ⟨t.val * 4 + k.val, by have h := point_lt t; omega⟩) _ _ _ _ _ _ _ _ _
    (fun k f t' => (read0 m c t k f t').trans (host_data m c _ f t'))
    (fun e k => (read1 m c t e k).trans (congrFun (V_main_arg1 m c) _)) (fun k => (read2 m c t k).trans (host_bias1 m c k))
    (fun k d => (read3 m c t k d).trans (congrFun (V_main_arg3 m c) _)) (fun d => (read4 m c t d).trans (host_bias2 m c d))
    (fun p => (read5 m c t p).trans (host_lo m c p)) (fun p => (read6 m c t p).trans (host_hi m c p))
    (fun p l => (read7 m c t p l).trans (host_spread m c p l)) (fun l => (read8 m c t l).trans (host_point m c l)) y).trans ?_
  exact (congrArg (spec m c) (place9 t y)).symm

end Cert.Interp
-- ==== Proof.Ref.lean ====
/-
  The reference's result, element by element: the interpolated representation.
-/
module

public import proofs.«01_k».proof.Proof.RefStages
public import Idealize.ShloMosaic.Lib.Routing.OpsOrder

@[expose] public section

noncomputable section

namespace Cert.Interp

open Idealize.ShloMosaic Cert.ReferenceIdeal Cert.ReferenceIdeal.Read

variable (x0 : (⟨S16x2048x33, .f32⟩ : BufTy).Contents (Elt Ideal)) (x1 : (⟨S16x128, .f32⟩ : BufTy).Contents (Elt Ideal)) (x2 : (⟨S128, .f32⟩ : BufTy).Contents (Elt Ideal)) (x3 : (⟨S128x16, .f32⟩ : BufTy).Contents (Elt Ideal)) (x4 : (⟨S16, .f32⟩ : BufTy).Contents (Elt Ideal))

/-- The largest entry of a row, over any array of scores. -/
theorem row_max (s : S16x8x16x2048.Idx → EReal) (b : Fin 16) (p : Fin 8) (r : Fin 16) :
    (Host.reduce (FloatOps.maximumf (F := Ideal) (φ := .f32)) s (val_main_cst_7 (F := Ideal)) Gen.reducesTo_S16x8x16x2048_S16x8x16_d3 Gen.h_S_) (ix3 b p r)
      = Finset.univ.fold max ⊥ fun t => s (ix4 b p r t) := by
  pointwise [val_main_cst_7]
  rw [word_bot]

/-- The larger of `-∞` and an array, element by element. -/
theorem floor_max (s : FVec Ideal S16x8x16 .f32) (b : Fin 16) (p : Fin 8) (r : Fin 16) :
    (maximumf (val_main_v48 (F := Ideal)) s) (ix3 b p r) = max ⊥ (s (ix3 b p r)) := by
  pointwise [val_main_v48, val_main_cst_8]
  rw [word_bot]

/-- The reference's largest score of a row. -/
theorem ref_max (b : Fin 16) (p : Fin 8) (r : Fin 16) :
    val_main_v49 x0 (ix3 b p r) = max ⊥ (Finset.univ.fold max ⊥ fun t => val_main_v46 x0 (ix4 b p r t)) := by
  unfold val_main_v49
  rw [floor_max]
  unfold val_main_v47
  rw [row_max]

/-- The exponential of a score less its row's largest. -/
theorem ref_exp (b : Fin 16) (p : Fin 8) (r : Fin 16) (t : Fin 2048) :
    val_main_v53 x0 (ix4 b p r t) = Ideal.exp (val_main_v46 x0 (ix4 b p r t) - val_main_v49 x0 (ix3 b p r)) := by
  pointwise [val_main_v53, val_main_v52, val_main_v51, val_main_v50]

/-- Whether any step of the row counts. -/
theorem ref_any (b : Fin 16) (p : Fin 8) :
    FloatOps.uitofp (F := Ideal) FTy.f32 (val_main_v58 x0 (ix2 b p)) = if ∃ t, counted x0 b p t = 1#1 then 1 else 0 := by
  pointwise [val_main_v58]
  simp only [ref_counted]
  generalize hb : Finset.fold IntOp.ori (val_main_c (F := Ideal) (Shape.Idx.first Gen.h_S_)) _ (Finset.univ : Finset (Fin 2048)) = u
  have hu : u = 1#1 ↔ ∃ t, counted x0 b p t = 1#1 := by
    rw [← hb, show val_main_c (F := Ideal) (Shape.Idx.first Gen.h_S_) = 0#1 from rfl, Routing.fold_ori]
    simp
  by_cases h : ∃ t, counted x0 b p t = 1#1
  · rw [if_pos h, hu.mpr h]
    show (((1#1 : BitVec 1).toNat : ℝ) : EReal) = 1
    simp
  · rw [if_neg h]
    rcases BitVec.eq_zero_or_eq_one u with rfl | rfl
    · show (((0#1 : BitVec 1).toNat : ℝ) : EReal) = 0
      simp
    · exact absurd (hu.mp rfl) h

/-- The softmax average of one window's reference point, before the axes are put in order. -/
theorem ref_average (b : Fin 16) (p : Fin 8) (r d : Fin 16) :
    val_main_v63 x0 x1 x2 x3 x4 (ix4 b p r d)
      = (∑ t, Ideal.div (val_main_v53 x0 (ix4 b p r t)) (∑ t, val_main_v53 x0 (ix4 b p r t)) * val_main_v16 x0 x1 x2 x3 x4 (ix3 b t d))
        * FloatOps.uitofp (F := Ideal) FTy.f32 (val_main_v58 x0 (ix2 b p)) := by
  pointwise [val_main_v63, val_main_v62, val_main_v61, val_main_v60, val_main_v59, val_main_v57, val_main_v56, val_main_v55, val_main_v54, val_main_cst_9]

/-- The result's axes: point `l` is point `l % 16` of window `l / 16`. -/
theorem ref_order (b d : Fin 16) (l : Fin 128) :
    val_main_v65 x0 x1 x2 x3 x4 (ix3 b d l)
      = val_main_v63 x0 x1 x2 x3 x4 (ix4 b (⟨l.val / 16, by omega⟩ : Fin 8) (⟨l.val % 16, by omega⟩ : Fin 16) d) := by
  pointwise [val_main_v65, val_main_v64]

/-- The reference's result. -/
theorem ref_eq (b d : Fin 16) (l : Fin 128) :
    val_main_v65 x0 x1 x2 x3 x4 (ix3 b d l) = interpolated x0 x1 x2 x3 x4 b d l := by
  rw [ref_order, ref_average, ref_any]
  simp only [ref_exp, ref_max, ref_score, ref_hidden]
  rfl

end Cert.Interp
-- ==== Proof.Equal.lean ====
/-
  The two runs end with one array.
-/
module

public import proofs.«01_k».proof.Defs
public import proofs.«01_k».proof.Proof.Gen.ReferenceIdeal.Run
public import proofs.«01_k».proof.Proof.Array
public import proofs.«01_k».proof.Proof.Ref

@[expose] public section

noncomputable section

namespace Cert.Interp

open Idealize.ShloMosaic Idealize.ShloMosaic.TcCoe Idealize.SL.Sem

/-- The reference's result is the specification's array at the arguments. -/
theorem reference_eq (m' : (ℓ : Loc ReferenceIdeal.nD ReferenceIdeal.τ ReferenceIdeal.sig) → Buf (Elt Ideal) ℓ) (c : Dev ReferenceIdeal.nD)
    (i : ReferenceIdeal.S16x16x128.Idx) :
    (ReferenceIdeal.Value.res_main_v65 m' c : ReferenceIdeal.S16x16x128.Idx → EReal) i
      = interpolated (m' ((c.tc : Thread ReferenceIdeal.nD ReferenceIdeal.τ).loc ReferenceIdeal.main_arg0))
          (m' ((c.tc : Thread ReferenceIdeal.nD ReferenceIdeal.τ).loc ReferenceIdeal.main_arg1))
          (m' ((c.tc : Thread ReferenceIdeal.nD ReferenceIdeal.τ).loc ReferenceIdeal.main_arg2))
          (m' ((c.tc : Thread ReferenceIdeal.nD ReferenceIdeal.τ).loc ReferenceIdeal.main_arg3))
          (m' ((c.tc : Thread ReferenceIdeal.nD ReferenceIdeal.τ).loc ReferenceIdeal.main_arg4)) (i 0) (i 1) (i 2) := by
  rw [ReferenceIdeal.Read.val_main_v65_eq]
  idx_vars i
  exact ref_eq _ _ _ _ _ _ _ _

/-- The kernel's run and the reference's end with equal results. -/
theorem algebraic : Cert.algebraic_KernelIdeal_ReferenceIdeal := by
  intro m g m' g' _ hargs
  refine ⟨fun c => spec m c, (θ_run _ _ _).mono (fun r h c => ?_) (KernelIdeal.Value.run_blocks m g),
    (θ_run _ _ _).mono (fun r h c => ?_) (ReferenceIdeal.Value.run m' g')⟩
  · have hc := h c
    exact ⟨hc.1.trans (arr_eq m c), hc.2⟩
  · have hc := h c
    refine ⟨hc.1.trans ?_, hc.2⟩
    obtain ⟨a0, a1, a2, a3, a4⟩ := hargs c
    funext i
    refine (reference_eq m' c i).trans ?_
    rw [a0, a1, a2, a3, a4]
    rfl

end Cert.Interp
-- ==== Proof.SecondValue.lean ====
/-
  The result of `SecondIdeal` as an array, over its frame.
-/
module

public import proofs.«01_k».proof.Proof.SecondFrame
public import Idealize.ShloMosaic.Lib.Pipeline.Value

@[expose] public section

noncomputable section

namespace Cert.SecondIdeal.Value

open Cert.SecondIdeal Cert.SecondIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 26's array: the run's contents for that window after the body (`Gen.outsAt0`), read through the window's block. -/
theorem flushed26 (c : Dev nD) (t : Fin cfg0.N) :
    (dats m 0 c).flushed 26 t = (cfg0.win 26).cut (grid0.coords t) (outsAt0 m c t) := by
  show (cfg0.win 26).cut (grid0.coords t) ((dats m 0 c).after 26 t) = _
  rw [after0_26]

/-- … so at a point where case A runs, what its write-back would write is that case's NAMED TERM for the window (`Gen.out0_A_26`: the pieces
    its run found, read back) at the point's memrefs and input blocks, and for an output the case reads back what the point before left (`Gen.outsAt0` at `t - 1`) — the kernel's one case, `Gen.outsAt0` by definition. -/
theorem flushed26_A (c : Dev nD) (t : Fin cfg0.N) :
    (dats m 0 c).flushed 26 t = (cfg0.win 26).cut (grid0.coords t) (out0_A_26 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  simp only [flushed26, outsAt0]

/-- The index map sends distinct grid points to distinct block indices (decided over the 1 point). -/
theorem idx_inj26 : ∀ t t' : Fin cfg0.N, win0_26.index t = win0_26.index t' → t = t' :=
  (by decide +kernel : ∀ t t' : Fin grid0.N, win0_26.index t = win0_26.index t' → t = t')

/-- So two flushing points' blocks share no array index (Lib/Pipeline/Cells.lean `Window.disjoint_blk`). -/
theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (idx_inj26 t t' h)

/-- BLOCK `t` OF THE FINAL ARRAY, read back through the window, is what point `t` wrote back (`flushed26`), for every
    point that writes back: no other point's block meets it. -/
theorem blocks26 (c : Dev nD) (t : Fin cfg0.N) (hf : (cfg0.win 26).flush t = true) :
    ((cfg0.win 26).blk t).view.read (Elt F) ((dats m 0 c).arrAt 26 cfg0.N) = (dats m 0 c).flushed 26 t :=
  (dats m 0 c).read_blk_arrAt_eq_flushed 26 disjoint26 cfg0.N t t.isLt hf

/-- An index that no flushing point's block covers keeps output window 26's array contents at region entry. -/
theorem entry26 (c : Dev nD) (i : S256x96.Idx) (h : ∀ t : Fin cfg0.N, (cfg0.win 26).flush t = true → i ∉ ((cfg0.win 26).blk t).view.set) :
    (dats m 0 c).arrAt 26 cfg0.N i = V m c (Pipeline.arrRef spec0 26) i := by
  rw [(dats m 0 c).arrAt_apply_of_forall_not_mem 26 cfg0.N i (fun t _ hf => h t hf), A_eq]

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v5) = (dats m 0 c).arrAt 26 cfg0.N :=
  (h c).1 26

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 1 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 1).trans (((dats m 0 c).arrAt_in 1 rfl _).trans ((A_eq m c 1).trans (V_main_arg2 m c)))

/-- After the frame run, argument `main_arg3` is as launched: input window 2 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- After the frame run, argument `main_arg4` is as launched: input window 3 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- After the frame run, argument `main_arg5` is as launched: input window 4 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 4).trans (((dats m 0 c).arrAt_in 4 rfl _).trans ((A_eq m c 4).trans (V_main_arg5 m c)))

/-- After the frame run, argument `main_arg6` is as launched: input window 5 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 5).trans (((dats m 0 c).arrAt_in 5 rfl _).trans ((A_eq m c 5).trans (V_main_arg6 m c)))

/-- After the frame run, argument `main_arg7` is as launched: input window 6 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 6).trans (((dats m 0 c).arrAt_in 6 rfl _).trans ((A_eq m c 6).trans (V_main_arg7 m c)))

/-- After the frame run, argument `main_arg8` is as launched: input window 7 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 7).trans (((dats m 0 c).arrAt_in 7 rfl _).trans ((A_eq m c 7).trans (V_main_arg8 m c)))

/-- After the frame run, argument `main_arg9` is as launched: input window 8 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 8).trans (((dats m 0 c).arrAt_in 8 rfl _).trans ((A_eq m c 8).trans (V_main_arg9 m c)))

/-- After the frame run, argument `main_arg10` is as launched: input window 9 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 9).trans (((dats m 0 c).arrAt_in 9 rfl _).trans ((A_eq m c 9).trans (V_main_arg10 m c)))

/-- After the frame run, argument `main_arg11` is as launched: input window 10 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 10).trans (((dats m 0 c).arrAt_in 10 rfl _).trans ((A_eq m c 10).trans (V_main_arg11 m c)))

/-- After the frame run, argument `main_arg12` is as launched: input window 11 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 11).trans (((dats m 0 c).arrAt_in 11 rfl _).trans ((A_eq m c 11).trans (V_main_arg12 m c)))

/-- After the frame run, argument `main_arg13` is as launched: input window 12 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 12).trans (((dats m 0 c).arrAt_in 12 rfl _).trans ((A_eq m c 12).trans (V_main_arg13 m c)))

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: input window 15 stages it and never writes it back. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).1 15).trans (((dats m 0 c).arrAt_in 15 rfl _).trans ((A_eq m c 15).trans (V_main_arg16 m c)))

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨post26 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c⟩)
    (run_main m ρ)

end Cert.SecondIdeal.Value

end
-- ==== Proof.TransReal.lean ====
/-
  One row of the three-layer transformer over the reals: no program is named here.
-/
module

public import Idealize.ShloMosaic.PureOps.Ideal
public import Idealize.ShloMosaic.Lib.Pointwise

@[expose] public section

noncomputable section

namespace Cert.Trans

open Idealize.ShloMosaic

/-- One row: eight tokens of sixteen channels. -/
abbrev Tok := Fin 8 → Fin 16 → ℝ

/-- The lane of a row that holds a token's channel. -/
def lane (i : Fin 8) (a : Fin 16) : Fin 128 := ⟨16 * i.val + a.val, by omega⟩

/-- The lane of a score row that holds a head's token. -/
def cell (h j : Fin 8) : Fin 64 := ⟨8 * h.val + j.val, by omega⟩

/-- The head of a channel. -/
def head (a : Fin 16) : Fin 8 := ⟨a.val / 2, by omega⟩

/-- A sum over the lanes is a sum over the tokens and their channels. -/
theorem sum_lane {M : Type} [AddCommMonoid M] (f : Fin 128 → M) : ∑ n, f n = ∑ i, ∑ a, f (lane i a) := by
  refine (Fintype.sum_equiv (finProdFinEquiv (m := 8) (n := 16)) (fun p => f (lane p.1 p.2)) f ?_).symm.trans (Fintype.sum_prod_type _)
  rintro ⟨i, a⟩
  refine congrArg f (Fin.ext ?_)
  change 16 * i.val + a.val = a.val + 16 * i.val
  omega

/-- A sum over the score lanes is a sum over the heads and the tokens. -/
theorem sum_cell {M : Type} [AddCommMonoid M] (f : Fin 64 → M) : ∑ n, f n = ∑ h, ∑ j, f (cell h j) := by
  refine (Fintype.sum_equiv (finProdFinEquiv (m := 8) (n := 8)) (fun p => f (cell p.1 p.2)) f ?_).symm.trans (Fintype.sum_prod_type _)
  rintro ⟨i, a⟩
  refine congrArg f (Fin.ext ?_)
  change 8 * i.val + a.val = a.val + 8 * i.val
  omega

/-- A finite sum of reals is the same sum in the extended reals. -/
theorem coe_sum {T : Type} [Fintype T] (f : T → ℝ) : ((∑ t, f t : ℝ) : EReal) = ∑ t, (f t : EReal) := by
  classical
  have key : ∀ s : Finset T, ((∑ t ∈ s, f t : ℝ) : EReal) = ∑ t ∈ s, (f t : EReal) := by
    intro s
    induction s using Finset.induction_on with
    | empty => simp
    | insert a s ha ih => rw [Finset.sum_insert ha, Finset.sum_insert ha, EReal.coe_add, ih]
  exact key _

/-- A sum of products of reals. -/
theorem coe_dot {T : Type} [Fintype T] (f g : T → EReal) (α β : T → ℝ) (hf : ∀ t, f t = (α t : EReal)) (hg : ∀ t, g t = (β t : EReal)) :
    ∑ t, f t * g t = ((∑ t, α t * β t : ℝ) : EReal) := by
  rw [coe_sum]
  exact Finset.sum_congr rfl fun t _ => by rw [hf, hg, EReal.coe_mul]

/-- A product of a row with a matrix. -/
def proj (X : Tok) (W : Fin 16 → Fin 16 → ℝ) : Tok := fun i a => ∑ c, X i c * W c a

/-- A head's score of one token against another. -/
def score (Q K : Tok) (h i j : Fin 8) : ℝ := (∑ a, if head a = h then Q i a * K j a else 0) * (Real.sqrt 2)⁻¹

/-- A head's attention: the average of the values with the exponentials of the scores as weights. -/
def attn (Q K V : Tok) : Tok := fun i a =>
  ∑ j, Real.exp (score Q K (head a) i j) / (∑ j', Real.exp (score Q K (head a) i j')) * V j a

/-- The mean of sixteen channels. -/
def mean (x : Fin 16 → ℝ) : ℝ := (∑ a, x a) * (1 / 16)

/-- The variance of sixteen channels. -/
def var (x : Fin 16 → ℝ) : ℝ := (∑ a, (x a - mean x) * (x a - mean x)) * (1 / 16)

/-- The small number added to a variance. -/
def eps : ℝ := 10995116 * (1 / 2 ^ 40)

/-- The layer norm. -/
def norm (X : Tok) (g c : Fin 16 → ℝ) : Tok := fun i a =>
  (X i a - mean (X i)) * (Real.sqrt (var (X i) + eps))⁻¹ * g a + c a

/-- The cubic factor of the activation. -/
def cub : ℝ := 12003091 * (1 / 2 ^ 28)

/-- The argument factor of the activation. -/
def arg : ℝ := 13386282 * (1 / 2 ^ 24)

/-- The activation. -/
def gelu (y : ℝ) : ℝ := y * (1 / 2 * (1 + Real.tanh (arg * (y + cub * (y * y * y)))))

/-- The two-layer map of a token. -/
def ffn (x : Fin 16 → ℝ) (W1 : Fin 16 → Fin 256 → ℝ) (b1 : Fin 256 → ℝ) (W2 : Fin 256 → Fin 16 → ℝ) (b2 : Fin 16 → ℝ) : Fin 16 → ℝ := fun c =>
  (∑ f, gelu ((∑ a, x a * W1 a f) + b1 f) * W2 f c) + b2 c

/-- The weights of one layer. -/
structure Weights where
  wq : Fin 16 → Fin 16 → ℝ
  wk : Fin 16 → Fin 16 → ℝ
  wv : Fin 16 → Fin 16 → ℝ
  wo : Fin 16 → Fin 16 → ℝ
  w1 : Fin 16 → Fin 256 → ℝ
  b1 : Fin 256 → ℝ
  w2 : Fin 256 → Fin 16 → ℝ
  b2 : Fin 16 → ℝ
  g1 : Fin 16 → ℝ
  c1 : Fin 16 → ℝ
  g2 : Fin 16 → ℝ
  c2 : Fin 16 → ℝ

/-- The attention half of a layer. -/
def mix (w : Weights) (X : Tok) : Tok := norm (fun i a => X i a + proj (attn (proj X w.wq) (proj X w.wk) (proj X w.wv)) w.wo i a) w.g1 w.c1

/-- One layer. -/
def layer (w : Weights) (X : Tok) : Tok :=
  norm (fun i a => mix w X i a + ffn (mix w X i) w.w1 w.b1 w.w2 w.b2 a) w.g2 w.c2

/-- The lane of a channel's token, the channels outermost. -/
def across (i : Fin 8) (a : Fin 16) : Fin 128 := ⟨8 * a.val + i.val, by omega⟩

/-- The last norm and the linear map of a row. -/
def out (X : Tok) (g c : Fin 16 → ℝ) (W : Fin 128 → Fin 96 → ℝ) (b : Fin 96 → ℝ) : Fin 96 → ℝ := fun f =>
  (∑ i, ∑ a, norm X g c i a * W (across i a) f) + b f

theorem eps_pos : 0 < eps := by unfold eps; norm_num

theorem var_nonneg (x : Fin 16 → ℝ) : 0 ≤ var x := by
  unfold var
  exact mul_nonneg (Finset.sum_nonneg fun a _ => mul_self_nonneg _) (by norm_num)

/-- The variance is the mean of the squares less the square of the mean. -/
theorem var_eq (x : Fin 16 → ℝ) : (∑ a, x a * x a) * (1 / 16) - mean x * mean x = var x := by
  have h : ∑ a, (x a - mean x) * (x a - mean x) = (∑ a, x a * x a) - 2 * mean x * (∑ a, x a) + 16 * (mean x * mean x) := by
    rw [Finset.mul_sum, ← Finset.sum_sub_distrib]
    have : (16 : ℝ) * (mean x * mean x) = ∑ _a : Fin 16, mean x * mean x := by simp
    rw [this, ← Finset.sum_add_distrib]
    exact Finset.sum_congr rfl fun a _ => by ring
  have hs : (∑ a, x a) = 16 * mean x := by unfold mean; ring
  unfold var
  rw [h, hs]; ring

/-- The small number as the programs' constant. -/
theorem word_eps : Ideal.ofBits .f32 0x3727C5AC#32 = (eps : EReal) := by
  unfold eps
  simp [Ideal.ofBits, Ideal.ieee, -EReal.coe_mul]

/-- The cubic factor as the programs' constant. -/
theorem word_cub : Ideal.ofBits .f32 0x3D372713#32 = (cub : EReal) := by
  unfold cub
  simp [Ideal.ofBits, Ideal.ieee, -EReal.coe_mul]

/-- The argument factor as the programs' constant. -/
theorem word_arg : Ideal.ofBits .f32 0x3F4C422A#32 = (arg : EReal) := by
  unfold arg
  simp [Ideal.ofBits, Ideal.ieee, -EReal.coe_mul]

/-- One half. -/
theorem word_half : Ideal.ofBits .f32 0x3F000000#32 = ((1 / 2 : ℝ) : EReal) := by
  simp [Ideal.ofBits, Ideal.ieee, -EReal.coe_mul]; norm_num

/-- One. -/
theorem word_one : Ideal.ofBits .f32 0x3F800000#32 = ((1 : ℝ) : EReal) := by
  simp [Ideal.ofBits, Ideal.ieee, -EReal.coe_mul]; norm_num

/-- Two. -/
theorem word_two : Ideal.ofBits .f32 0x40000000#32 = ((2 : ℝ) : EReal) := by
  simp [Ideal.ofBits, Ideal.ieee, -EReal.coe_mul]; norm_num

/-- Sixteen. -/
theorem word_sixteen : Ideal.ofBits .f32 0x41800000#32 = ((16 : ℝ) : EReal) := by
  simp [Ideal.ofBits, Ideal.ieee, -EReal.coe_mul]; norm_num

/-- One sixteenth. -/
theorem word_sixteenth : Ideal.ofBits .f32 0x3D800000#32 = ((1 / 16 : ℝ) : EReal) := by
  simp [Ideal.ofBits, Ideal.ieee, -EReal.coe_mul]; norm_num

/-- Zero. -/
theorem word_zero : Ideal.ofBits .f32 0x00000000#32 = ((0 : ℝ) : EReal) := by
  simp [Ideal.ofBits, Ideal.ieee]

/-- Minus infinity. -/
theorem word_bot : Ideal.ofBits .f32 0xFF800000#32 = ⊥ := by
  simp [Ideal.ofBits, Ideal.ieee]

/-- Plus infinity. -/
theorem word_top : Ideal.ofBits .f32 0x7F800000#32 = ⊤ := by
  simp [Ideal.ofBits, Ideal.ieee]

/-- The activation as the programs form it. -/
theorem gelu_ops (y : ℝ) :
    (y : EReal) * (((1 / 2 : ℝ) : EReal) * (((1 : ℝ) : EReal) + Ideal.tanh ((arg : EReal) * ((y : EReal) + (cub : EReal) * ((y : EReal) * ((y : EReal) * (y : EReal)))))))
      = (gelu y : EReal) := by
  unfold gelu
  rw [← EReal.coe_mul, ← EReal.coe_mul, ← EReal.coe_mul, ← EReal.coe_add, ← EReal.coe_mul, Ideal.tanh_coe, ← EReal.coe_add, ← EReal.coe_mul, ← EReal.coe_mul, mul_assoc y y y]

/-- A root's reciprocal where the variance is real. -/
theorem rsqrt_var (x : Fin 16 → ℝ) : Ideal.rsqrt ((var x + eps : ℝ) : EReal) = (((Real.sqrt (var x + eps))⁻¹ : ℝ) : EReal) := by
  have h : 0 < var x + eps := add_pos_of_nonneg_of_pos (var_nonneg x) eps_pos
  rw [Ideal.rsqrt_coe, if_neg (not_lt.mpr h.le), if_neg h.ne']

end Cert.Trans
-- ==== Proof.TransOps.lean ====
/-
  What the second call's vector operations hold in one row, over the reals.
-/
module

public import proofs.«01_k».proof.Proof.Gen.SecondIdeal.Skeleton
public import proofs.«01_k».proof.Proof.TransReal

@[expose] public section

noncomputable section

namespace Cert.Trans

open Idealize.ShloMosaic Cert.SecondIdeal Cert.SecondIdeal.Gen

/-- A vector's row holds the tokens. -/
def Holds (A : FVec Ideal S256x128 .f32) (b : Fin 256) (X : Tok) : Prop := ∀ i a, A (ix2 b (lane i a)) = (X i a : EReal)

/-- A sum of products over the lanes. -/
theorem coe_dot_lane (f g : Fin 128 → EReal) (α β : Fin 8 → Fin 16 → ℝ) (hf : ∀ i a, f (lane i a) = (α i a : EReal))
    (hg : ∀ i a, g (lane i a) = (β i a : EReal)) : ∑ n, f n * g n = ((∑ i, ∑ a, α i a * β i a : ℝ) : EReal) := by
  rw [sum_lane, coe_sum]
  exact Finset.sum_congr rfl fun i _ => coe_dot _ _ _ _ (hf i) (hg i)

/-- A sum of products over the score lanes. -/
theorem coe_dot_cell (f g : Fin 64 → EReal) (α β : Fin 8 → Fin 8 → ℝ) (hf : ∀ h j, f (cell h j) = (α h j : EReal))
    (hg : ∀ h j, g (cell h j) = (β h j : EReal)) : ∑ n, f n * g n = ((∑ h, ∑ j, α h j * β h j : ℝ) : EReal) := by
  rw [sum_cell, coe_sum]
  exact Finset.sum_congr rfl fun i _ => coe_dot _ _ _ _ (hf i) (hg i)

/-- The index of a lane. -/
theorem lane_val (i : Fin 8) (a : Fin 16) : (lane i a).val = 16 * i.val + a.val := rfl

/-- A token's channels, cut out of a row. -/
theorem cut_row (A : FVec Ideal S256x128 .f32) (b : Fin 256) (i : Fin 8) (h : S256x128.Slices ![0, 16 * i.val] S256x16) (a : Fin 16) :
    extractStridedSlice S256x16 ![0, 16 * i.val] A h (ix2 b a) = A (ix2 b (lane i a)) := by
  pointwise []
  rfl

/-- Eight parts, one token each, beside each other. -/
def beside (u0 u1 u2 u3 u4 u5 u6 u7 : FVec Ideal S256x16 .f32) : FVec Ideal S256x128 .f32 :=
  concatenate S256x128 1 [⟨S256x16, u0⟩, ⟨S256x16, u1⟩, ⟨S256x16, u2⟩, ⟨S256x16, u3⟩, ⟨S256x16, u4⟩, ⟨S256x16, u5⟩, ⟨S256x16, u6⟩, ⟨S256x16, u7⟩]
    concatenates_S256x16_S256x16_S256x16_S256x16_S256x16_S256x16_S256x16_S256x16_S256x128_d1

/-- An entry named by an equal index. -/
theorem pick (u : FVec Ideal S256x16 .f32) (b : Fin 256) (k : ℕ) (hk : k < 16) (a : Fin 16) (e : k = a.val) : u (ix2 b ⟨k, hk⟩) = u (ix2 b a) :=
  congrArg u (congrArg (ix2 b) (Fin.ext e))

set_option maxHeartbeats 1000000 in
/-- A lane of the parts beside each other. -/
theorem beside_row (u0 u1 u2 u3 u4 u5 u6 u7 : FVec Ideal S256x16 .f32) (b : Fin 256) (P : Fin 8 → Fin 16 → EReal)
    (h0 : ∀ a, u0 (ix2 b a) = P 0 a) (h1 : ∀ a, u1 (ix2 b a) = P 1 a) (h2 : ∀ a, u2 (ix2 b a) = P 2 a) (h3 : ∀ a, u3 (ix2 b a) = P 3 a)
    (h4 : ∀ a, u4 (ix2 b a) = P 4 a) (h5 : ∀ a, u5 (ix2 b a) = P 5 a) (h6 : ∀ a, u6 (ix2 b a) = P 6 a) (h7 : ∀ a, u7 (ix2 b a) = P 7 a)
    (j : Fin 8) (a : Fin 16) : beside u0 u1 u2 u3 u4 u5 u6 u7 (ix2 b (lane j a)) = P j a := by
  have hn := lane_val j a
  pointwise [beside]
  by_cases c0 : (lane j a).val < 16
  · rw [dif_pos c0]
    exact (pick u0 b _ _ a (by omega)).trans ((h0 a).trans (congrArg (fun k => P k a) (Fin.ext (show 0 = j.val by omega))))
  rw [dif_neg c0]
  by_cases c1 : (lane j a).val - 16 < 16
  · rw [dif_pos c1]
    exact (pick u1 b _ _ a (by omega)).trans ((h1 a).trans (congrArg (fun k => P k a) (Fin.ext (show 1 = j.val by omega))))
  rw [dif_neg c1]
  by_cases c2 : (lane j a).val - 16 - 16 < 16
  · rw [dif_pos c2]
    exact (pick u2 b _ _ a (by omega)).trans ((h2 a).trans (congrArg (fun k => P k a) (Fin.ext (show 2 = j.val by omega))))
  rw [dif_neg c2]
  by_cases c3 : (lane j a).val - 16 - 16 - 16 < 16
  · rw [dif_pos c3]
    exact (pick u3 b _ _ a (by omega)).trans ((h3 a).trans (congrArg (fun k => P k a) (Fin.ext (show 3 = j.val by omega))))
  rw [dif_neg c3]
  by_cases c4 : (lane j a).val - 16 - 16 - 16 - 16 < 16
  · rw [dif_pos c4]
    exact (pick u4 b _ _ a (by omega)).trans ((h4 a).trans (congrArg (fun k => P k a) (Fin.ext (show 4 = j.val by omega))))
  rw [dif_neg c4]
  by_cases c5 : (lane j a).val - 16 - 16 - 16 - 16 - 16 < 16
  · rw [dif_pos c5]
    exact (pick u5 b _ _ a (by omega)).trans ((h5 a).trans (congrArg (fun k => P k a) (Fin.ext (show 5 = j.val by omega))))
  rw [dif_neg c5]
  by_cases c6 : (lane j a).val - 16 - 16 - 16 - 16 - 16 - 16 < 16
  · rw [dif_pos c6]
    exact (pick u6 b _ _ a (by omega)).trans ((h6 a).trans (congrArg (fun k => P k a) (Fin.ext (show 6 = j.val by omega))))
  rw [dif_neg c6]
  exact (pick u7 b _ _ a (by omega)).trans ((h7 a).trans (congrArg (fun k => P k a) (Fin.ext (show 7 = j.val by omega))))

/-- One part eight times. -/
theorem eight_row (u : FVec Ideal S256x16 .f32) (b : Fin 256) (j : Fin 8) (a : Fin 16) :
    beside u u u u u u u u (ix2 b (lane j a)) = u (ix2 b a) :=
  beside_row u u u u u u u u b (fun _ a => u (ix2 b a)) (fun _ => rfl) (fun _ => rfl) (fun _ => rfl) (fun _ => rfl) (fun _ => rfl) (fun _ => rfl)
    (fun _ => rfl) (fun _ => rfl) j a

/-- A gain or a shift, repeated for the eight tokens. -/
theorem gain_row (g : Vec Ideal S1x16 .f32) (j : Fin 8) (a : Fin 16) : k0_pay16 g (ix2 0 (lane j a)) = g (ix2 0 a) := by
  have hn := lane_val j a
  pointwise [k0_pay16]
  split_ifs <;> first | exact congrArg g (congrArg (ix2 0) (Fin.ext (by simp only []; omega))) | (exfalso; omega)

/-- Eight blocks on top of each other. -/
def above (u : FVec Ideal S16x128 .f32) : FVec Ideal S128x128 .f32 :=
  concatenate S128x128 0 [⟨S16x128, u⟩, ⟨S16x128, u⟩, ⟨S16x128, u⟩, ⟨S16x128, u⟩, ⟨S16x128, u⟩, ⟨S16x128, u⟩, ⟨S16x128, u⟩, ⟨S16x128, u⟩]
    concatenates_S16x128_S16x128_S16x128_S16x128_S16x128_S16x128_S16x128_S16x128_S128x128_d0

/-- An entry of the blocks on top of each other. -/
theorem above_row (u : FVec Ideal S16x128 .f32) (j : Fin 8) (c : Fin 16) (n : Fin 128) : above u (ix2 (lane j c) n) = u (ix2 c n) := by
  have hn := lane_val j c
  pointwise [above]
  split_ifs <;> first | exact congrArg u (congrArg (fun k => ix2 k n) (Fin.ext (by simp only []; omega))) | (exfalso; omega)

/-- The scale of the scores. -/
theorem named_scale : (Named.named (F := Ideal) Cert.SecondIdeal.κ "inv_sqrt_hd" 0x3F3504F3#32 : Ideal .f32) = (((Real.sqrt 2)⁻¹ : ℝ) : EReal) := rfl

/-- The bound of the scores. -/
theorem named_bound : (Named.named (F := Ideal) Cert.SecondIdeal.κ "no_clamp" 0x42700000#32 : Ideal .f32) = (⊤ : EReal) := rfl

/-- The exponentials of the scores. -/
def expo (z : FVec Ideal S256x128 .f32) (R : FVec Ideal S128x64 .f32) : FVec Ideal S256x64 .f32 :=
  exp (minimumf (mulf (matmul dot_S256x128_S128x64_S256x64_1_0_0_1_n_n none z R (constant S256x64 .f32 0x00000000#32))
    (broadcast S256x64 (Named.named κ "inv_sqrt_hd" 0x3F3504F3#32))) (broadcast S256x64 (Named.named κ "no_clamp" 0x42700000#32)))

/-- An exponential. -/
theorem expo_at (z : FVec Ideal S256x128 .f32) (R : FVec Ideal S128x64 .f32) (b : Fin 256) (m : Fin 64) :
    expo z R (ix2 b m) = Ideal.exp (min ((∑ n, z (ix2 b n) * R (ix2 n m)) * (((Real.sqrt 2)⁻¹ : ℝ) : EReal)) ⊤) := by
  rw [← named_scale, ← named_bound]
  pointwise [expo]

/-- The weights of the values. -/
def share (e : FVec Ideal S256x64 .f32) (G : FVec Ideal S64x64 .f32) : FVec Ideal S256x64 .f32 :=
  divf e (matmul dot_S256x64_S64x64_S256x64_1_0_0_1_n_n none e G (constant S256x64 .f32 0x00000000#32))

/-- A weight. -/
theorem share_at (e : FVec Ideal S256x64 .f32) (G : FVec Ideal S64x64 .f32) (b : Fin 256) (m : Fin 64) :
    share e G (ix2 b m) = Ideal.div (e (ix2 b m)) (∑ n, e (ix2 b n) * G (ix2 n m)) := by
  pointwise [share]

/-- The values' average, through the last matrix. -/
def spread (p : FVec Ideal S256x64 .f32) (E : FVec Ideal S64x128 .f32) (v : FVec Ideal S256x128 .f32) (fwo : FVec Ideal S128x16 .f32) : FVec Ideal S256x16 .f32 :=
  matmul dot_S256x128_S128x16_S256x16_1_0_0_1_n_n none
    (mulf (matmul dot_S256x64_S64x128_S256x128_1_0_0_1_n_n none p E (constant S256x128 .f32 0x00000000#32)) v) fwo (constant S256x16 .f32 0x00000000#32)

/-- An entry of the average. -/
theorem spread_at (p : FVec Ideal S256x64 .f32) (E : FVec Ideal S64x128 .f32) (v : FVec Ideal S256x128 .f32) (fwo : FVec Ideal S128x16 .f32) (b : Fin 256) (c : Fin 16) :
    spread p E v fwo (ix2 b c) = ∑ n, ((∑ m, p (ix2 b m) * E (ix2 m n)) * v (ix2 b n)) * fwo (ix2 n c) := by
  pointwise [spread]

/-- The attention of the token whose query is repeated in `r`. -/
def token (u : FVec Ideal S256x16 .f32) (k v : FVec Ideal S256x128 .f32) (fwo : FVec Ideal S128x16 .f32) (R : FVec Ideal S128x64 .f32)
    (G : FVec Ideal S64x64 .f32) (E : FVec Ideal S64x128 .f32) : FVec Ideal S256x16 .f32 :=
  spread (share (expo (mulf (beside u u u u u u u u) k) R) G) E v fwo

/-- The block-diagonal matrix. -/
theorem blocks_at (w : Vec Ideal S1x16x16 .f32) (T : FVec Ideal S16x128 .f32) (B : FVec Ideal S128x128 .f32) (j : Fin 8) (c : Fin 16) (n : Fin 128) :
    k0_pay5 w T B (ix2 (lane j c) n) = (∑ x, w (ix3 0 c x) * T (ix2 x n)) * B (ix2 (lane j c) n) := by
  change above (matmul dot_S16x16_S16x128_S16x128_1_0_0_1_n_n none (shapeCast S16x16 w shapeCasts_S1x16x16_S16x16) T (constant S16x128 .f32 0x00000000#32)) (ix2 (lane j c) n) * B (ix2 (lane j c) n) = _
  rw [above_row]
  pointwise []

/-- A product with the block-diagonal matrix. -/
theorem times_at (x : FVec Ideal S256x128 .f32) (B : FVec Ideal S128x128 .f32) (b : Fin 256) (n : Fin 128) :
    k0_pay6 x B (ix2 b n) = ∑ m, x (ix2 b m) * B (ix2 m n) := by
  pointwise [k0_pay6]

/-- The last matrix, repeated for the eight tokens. -/
theorem last_at (F : FVec Ideal S128x16 .f32) (w : Vec Ideal S1x16x16 .f32) (n : Fin 128) (c : Fin 16) :
    k0_pay2 F w (ix2 n c) = ∑ x, F (ix2 n x) * w (ix3 0 x c) := by
  pointwise [k0_pay2]

/-- The norm with its gains and shifts repeated. -/
def normed (x : FVec Ideal S256x128 .f32) (g c : FVec Ideal S1x128 .f32) (M : FVec Ideal S128x128 .f32) : FVec Ideal S256x128 .f32 :=
  addf (mulf (mulf (subf x (k0_pay6 x M)) (rsqrt (addf (subf (k0_pay6 (mulf x x) M) (mulf (k0_pay6 x M) (k0_pay6 x M))) (broadcast S256x128 (Scalar.ofBits .f32 0x3727C5AC#32)))))
    (broadcastTo S256x128 g broadcasts_S1x128_S256x128)) (broadcastTo S256x128 c broadcasts_S1x128_S256x128)

/-- An entry of the norm. -/
theorem normed_at (x : FVec Ideal S256x128 .f32) (g c : FVec Ideal S1x128 .f32) (M : FVec Ideal S128x128 .f32) (b : Fin 256) (n : Fin 128) :
    normed x g c M (ix2 b n)
      = (x (ix2 b n) - k0_pay6 x M (ix2 b n))
          * Ideal.rsqrt (k0_pay6 (mulf x x) M (ix2 b n) - k0_pay6 x M (ix2 b n) * k0_pay6 x M (ix2 b n) + Ideal.ofBits .f32 0x3727C5AC#32)
          * g (ix2 0 n) + c (ix2 0 n) := by
  pointwise [normed]

/-- The norm as the call forms it. -/
theorem norm_eq (x : FVec Ideal S256x128 .f32) (g c : Vec Ideal S1x16 .f32) (M : FVec Ideal S128x128 .f32) :
    k0_pay17 x (k0_pay16 g) c M M = normed x (k0_pay16 g) (k0_pay16 c) M := rfl

/-- The input of the activation. -/
def inner (x : FVec Ideal S256x16 .f32) (w1 : Vec Ideal S1x16x256 .f32) (b1 : Vec Ideal S1x256 .f32) (b : Fin 256) (f : Fin 256) : EReal :=
  ∑ n, x (ix2 b n) * w1 (ix3 0 n f) + b1 (ix2 0 f)

/-- The two-layer map of a token. -/
theorem ffn_at (x : FVec Ideal S256x16 .f32) (w1 : Vec Ideal S1x16x256 .f32) (b1 : Vec Ideal S1x256 .f32) (w2 : Vec Ideal S1x256x16 .f32) (b2 : Vec Ideal S1x16 .f32) (b : Fin 256) (c : Fin 16) :
    k0_pay28 x w1 b1 w2 b2 (ix2 b c) = ∑ f, (inner x w1 b1 b f * (Ideal.ofBits .f32 0x3F000000#32 * (1 + Ideal.tanh (Ideal.ofBits .f32 0x3F4C422A#32 *
      (inner x w1 b1 b f + Ideal.ofBits .f32 0x3D372713#32 * (inner x w1 b1 b f * (inner x w1 b1 b f * inner x w1 b1 b f))))))) * w2 (ix3 0 f c) + b2 (ix2 0 c) := by
  pointwise [k0_pay28, inner]

end Cert.Trans
-- ==== Proof.TransRows.lean ====
/-
  One row of the second call: each step is the real step of the transformer.
-/
module

public import proofs.«01_k».proof.Proof.TransOps

@[expose] public section

noncomputable section

namespace Cert.Trans

open Idealize.ShloMosaic Cert.SecondIdeal Cert.SecondIdeal.Gen

/-- One where the statement holds, zero elsewhere. -/
def bit (p : Prop) [Decidable p] : ℝ := if p then 1 else 0

/-- The tables that the call reads: which lanes belong to a token, a head, a channel. -/
structure Tables (R : FVec Ideal S128x64 .f32) (G : FVec Ideal S64x64 .f32) (E : FVec Ideal S64x128 .f32) (F : FVec Ideal S128x16 .f32)
    (M B : FVec Ideal S128x128 .f32) (T : FVec Ideal S16x128 .f32) : Prop where
  r : ∀ j a h j', R (ix2 (lane j a) (cell h j')) = (bit (j = j' ∧ head a = h) : EReal)
  g : ∀ h j h' j', G (ix2 (cell h j) (cell h' j')) = (bit (h = h') : EReal)
  e : ∀ h j j' a, E (ix2 (cell h j) (lane j' a)) = (bit (j = j' ∧ head a = h) : EReal)
  f : ∀ i a c, F (ix2 (lane i a) c) = (bit (a = c) : EReal)
  m : ∀ j a' i a, M (ix2 (lane j a') (lane i a)) = ((bit (j = i) * (1 / 16) : ℝ) : EReal)
  b : ∀ j c i a, B (ix2 (lane j c) (lane i a)) = (bit (j = i) : EReal)
  t : ∀ x i a, T (ix2 x (lane i a)) = (bit (x = a) : EReal)

/-- A sum in which one index counts. -/
theorem sum_bit {T : Type} [Fintype T] [DecidableEq T] (f : T → ℝ) (t : T) : ∑ s, f s * bit (s = t) = f t := by
  simp [bit]

/-- The same, the index on the other side. -/
theorem sum_bit' {T : Type} [Fintype T] [DecidableEq T] (f : T → ℝ) (t : T) : ∑ s, bit (t = s) * f s = f t := by
  simp [bit]

variable {R : FVec Ideal S128x64 .f32} {G : FVec Ideal S64x64 .f32} {E : FVec Ideal S64x128 .f32} {F : FVec Ideal S128x16 .f32}
  {M B : FVec Ideal S128x128 .f32} {T : FVec Ideal S16x128 .f32}

/-- An entry of a block-diagonal matrix. -/
theorem tile_row (tb : Tables R G E F M B T) (w : Vec Ideal S1x16x16 .f32) (W : Fin 16 → Fin 16 → ℝ) (hw : ∀ c a, w (ix3 0 c a) = (W c a : EReal))
    (j : Fin 8) (c : Fin 16) (i : Fin 8) (a : Fin 16) : k0_pay5 w T B (ix2 (lane j c) (lane i a)) = ((W c a * bit (j = i) : ℝ) : EReal) := by
  rw [blocks_at, coe_dot _ _ (fun x => W c x) (fun x => bit (x = a)) (fun x => hw c x) (fun x => tb.t x i a), tb.b, ← EReal.coe_mul, sum_bit]

/-- A row's product with a block-diagonal matrix is the tokens' product with the matrix. -/
theorem proj_row (tb : Tables R G E F M B T) (x : FVec Ideal S256x128 .f32) (b : Fin 256) (X : Tok) (hx : Holds x b X)
    (w : Vec Ideal S1x16x16 .f32) (W : Fin 16 → Fin 16 → ℝ) (hw : ∀ c a, w (ix3 0 c a) = (W c a : EReal)) :
    Holds (k0_pay6 x (k0_pay5 w T B)) b (proj X W) := by
  intro i a
  rw [times_at, coe_dot_lane (fun n => x (ix2 b n)) _ X (fun j c => W c a * bit (j = i)) hx (fun j c => tile_row tb w W hw j c i a)]
  congr 1
  unfold proj
  rw [← sum_bit (fun j => ∑ c, X j c * W c a) i]
  refine Finset.sum_congr rfl fun j _ => ?_
  rw [Finset.sum_mul]
  exact Finset.sum_congr rfl fun c _ => by ring

/-- The exponentials of one token's scores. -/
theorem expo_row (tb : Tables R G E F M B T) (z : FVec Ideal S256x128 .f32) (b : Fin 256) (Z : Tok) (hz : Holds z b Z) (h j : Fin 8) :
    expo z R (ix2 b (cell h j)) = ((Real.exp ((∑ a, if head a = h then Z j a else 0) * (Real.sqrt 2)⁻¹) : ℝ) : EReal) := by
  rw [expo_at, coe_dot_lane (fun n => z (ix2 b n)) _ Z (fun j' a => bit (j' = j ∧ head a = h)) hz (fun j' a => tb.r j' a h j), ← EReal.coe_mul, min_top_right, Ideal.exp_coe]
  congr 3
  rw [← sum_bit (fun j' => ∑ a, if head a = h then Z j' a else 0) j]
  refine Finset.sum_congr rfl fun j' _ => ?_
  rw [Finset.sum_mul]
  refine Finset.sum_congr rfl fun a _ => ?_
  by_cases hj : j' = j <;> by_cases ha : head a = h <;> simp [bit, hj, ha]

/-- The weights of one token. -/
theorem share_row (tb : Tables R G E F M B T) (e : FVec Ideal S256x64 .f32) (b : Fin 256) (X : Fin 8 → Fin 8 → ℝ) (hp : ∀ h j, 0 < X h j)
    (he : ∀ h j, e (ix2 b (cell h j)) = (X h j : EReal)) (h j : Fin 8) :
    share e G (ix2 b (cell h j)) = ((X h j / ∑ j', X h j' : ℝ) : EReal) := by
  have hs : ∑ h', ∑ j', X h' j' * bit (h' = h) = ∑ j', X h j' := by
    rw [← sum_bit (fun h' => ∑ j', X h' j') h]
    exact Finset.sum_congr rfl fun h' _ => (Finset.sum_mul _ _ _).symm
  have h0 : ∑ j', X h j' ≠ 0 := (Finset.sum_pos (fun j' _ => hp h j') Finset.univ_nonempty).ne'
  rw [share_at, coe_dot_cell _ _ X (fun h' _ => bit (h' = h)) he (fun h' j' => tb.g h' j' h j), he, hs, Ideal.div_coe h0, ← EReal.coe_mul, mul_one_div]

/-- The weighted values of one token, through the last matrix. -/
theorem spread_row (tb : Tables R G E F M B T) (p : FVec Ideal S256x64 .f32) (v : FVec Ideal S256x128 .f32) (fwo : FVec Ideal S128x16 .f32) (b : Fin 256)
    (X : Fin 8 → Fin 8 → ℝ) (V : Tok) (W : Fin 16 → Fin 16 → ℝ) (hp : ∀ h j, p (ix2 b (cell h j)) = (X h j : EReal)) (hv : Holds v b V)
    (hw : ∀ j a c, fwo (ix2 (lane j a) c) = (W a c : EReal)) (c : Fin 16) :
    spread p E v fwo (ix2 b c) = ((∑ a, (∑ j, X (head a) j * V j a) * W a c : ℝ) : EReal) := by
  have hs : ∀ j a, ∑ h, ∑ j', X h j' * bit (j' = j ∧ head a = h) = X (head a) j := by
    intro j a
    rw [← sum_bit' (fun h => X h j) (head a)]
    refine Finset.sum_congr rfl fun h _ => ?_
    rw [← sum_bit (fun j' => X h j') j, Finset.mul_sum]
    refine Finset.sum_congr rfl fun j' _ => ?_
    by_cases hj : j' = j <;> by_cases ha : head a = h <;> simp [bit, hj, ha]
  rw [spread_at, coe_dot_lane _ _ (fun j a => X (head a) j * V j a) (fun _ a => W a c) ?_ (fun j a => hw j a c), Finset.sum_comm]
  · congr 1
    exact Finset.sum_congr rfl fun a _ => (Finset.sum_mul _ _ _).symm
  · intro j a
    rw [coe_dot_cell _ _ X (fun h j' => bit (j' = j ∧ head a = h)) hp (fun h j' => tb.e h j' j a), hs, hv, EReal.coe_mul]

/-- The attention of one token, through the last matrix. -/
theorem token_row (tb : Tables R G E F M B T) (u : FVec Ideal S256x16 .f32) (k v : FVec Ideal S256x128 .f32) (fwo : FVec Ideal S128x16 .f32) (b : Fin 256)
    (Q K V : Tok) (W : Fin 16 → Fin 16 → ℝ) (i : Fin 8) (hu : ∀ a, u (ix2 b a) = (Q i a : EReal)) (hk : Holds k b K) (hv : Holds v b V)
    (hw : ∀ j a c, fwo (ix2 (lane j a) c) = (W a c : EReal)) (c : Fin 16) :
    token u k v fwo R G E (ix2 b c) = (proj (attn Q K V) W i c : EReal) := by
  have hz : Holds (mulf (beside u u u u u u u u) k) b (fun j a => Q i a * K j a) := by
    intro j a
    change beside u u u u u u u u (ix2 b (lane j a)) * k (ix2 b (lane j a)) = _
    rw [eight_row, hu, hk, EReal.coe_mul]
  exact spread_row tb _ v fwo b (fun h j => Real.exp (score Q K h i j) / ∑ j', Real.exp (score Q K h i j')) V W
    (share_row tb _ b (fun h j => Real.exp (score Q K h i j)) (fun _ _ => Real.exp_pos _) (expo_row tb _ b _ hz)) hv hw c

/-- The last matrix, repeated for the eight tokens. -/
theorem last_row (tb : Tables R G E F M B T) (w : Vec Ideal S1x16x16 .f32) (W : Fin 16 → Fin 16 → ℝ) (hw : ∀ c a, w (ix3 0 c a) = (W c a : EReal))
    (j : Fin 8) (a c : Fin 16) : k0_pay2 F w (ix2 (lane j a) c) = (W a c : EReal) := by
  rw [last_at, coe_dot _ _ (fun x => bit (a = x)) (fun x => W x c) (fun x => tb.f j a x) (fun x => hw x c), sum_bit']

/-- A row's product with the averaging table. -/
theorem mean_row (tb : Tables R G E F M B T) (x : FVec Ideal S256x128 .f32) (b : Fin 256) (X : Tok) (hx : Holds x b X) (i : Fin 8) (a : Fin 16) :
    k0_pay6 x M (ix2 b (lane i a)) = (((∑ a', X i a') * (1 / 16) : ℝ) : EReal) := by
  rw [times_at, coe_dot_lane (fun n => x (ix2 b n)) _ X (fun j _ => bit (j = i) * (1 / 16)) hx (fun j a' => tb.m j a' i a)]
  congr 1
  rw [← sum_bit (fun j => (∑ a', X j a') * (1 / 16)) i]
  refine Finset.sum_congr rfl fun j _ => ?_
  rw [Finset.sum_mul, Finset.sum_mul]
  exact Finset.sum_congr rfl fun c _ => by ring

/-- The norm of a row is the tokens' norm. -/
theorem norm_row (tb : Tables R G E F M B T) (x : FVec Ideal S256x128 .f32) (b : Fin 256) (X : Tok) (hx : Holds x b X) (g c : Vec Ideal S1x16 .f32)
    (g' c' : Fin 16 → ℝ) (hg : ∀ a, g (ix2 0 a) = (g' a : EReal)) (hc : ∀ a, c (ix2 0 a) = (c' a : EReal)) :
    Holds (k0_pay17 x (k0_pay16 g) c M M) b (norm X g' c') := by
  intro i a
  have h2 : Holds (mulf x x) b (fun i a => X i a * X i a) := by
    intro i a
    change x (ix2 b (lane i a)) * x (ix2 b (lane i a)) = _
    rw [hx, EReal.coe_mul]
  rw [norm_eq, normed_at, mean_row tb x b X hx, mean_row tb _ b _ h2, gain_row, gain_row, hg, hc, hx, word_eps,
    ← EReal.coe_mul, ← EReal.coe_sub, ← EReal.coe_sub, ← EReal.coe_add]
  change _ * Ideal.rsqrt (((∑ a', X i a' * X i a') * (1 / 16) - mean (X i) * mean (X i) + eps : ℝ) : EReal) * _ + _ = _
  rw [var_eq, rsqrt_var, ← EReal.coe_mul, ← EReal.coe_mul, ← EReal.coe_add]
  rfl

/-- The two-layer map of a token. -/
theorem ffn_row (u : FVec Ideal S256x16 .f32) (b : Fin 256) (x : Fin 16 → ℝ) (hu : ∀ a, u (ix2 b a) = (x a : EReal))
    (w1 : Vec Ideal S1x16x256 .f32) (b1 : Vec Ideal S1x256 .f32) (w2 : Vec Ideal S1x256x16 .f32) (b2 : Vec Ideal S1x16 .f32)
    (W1 : Fin 16 → Fin 256 → ℝ) (B1 : Fin 256 → ℝ) (W2 : Fin 256 → Fin 16 → ℝ) (B2 : Fin 16 → ℝ)
    (h1 : ∀ a f, w1 (ix3 0 a f) = (W1 a f : EReal)) (hb1 : ∀ f, b1 (ix2 0 f) = (B1 f : EReal))
    (h2 : ∀ f c, w2 (ix3 0 f c) = (W2 f c : EReal)) (hb2 : ∀ c, b2 (ix2 0 c) = (B2 c : EReal)) (c : Fin 16) :
    k0_pay28 u w1 b1 w2 b2 (ix2 b c) = (ffn x W1 B1 W2 B2 c : EReal) := by
  have hi : ∀ f, inner u w1 b1 b f = (((∑ a, x a * W1 a f) + B1 f : ℝ) : EReal) := by
    intro f
    rw [inner, coe_dot _ _ x (fun a => W1 a f) hu (fun a => h1 a f), hb1, EReal.coe_add]
  rw [ffn_at, hb2, word_half, word_arg, word_cub, ← EReal.coe_one,
    coe_dot _ _ (fun f => gelu ((∑ a, x a * W1 a f) + B1 f)) (fun f => W2 f c) (fun f => ?_) (fun f => h2 f c), ← EReal.coe_add]
  · rfl
  · rw [hi, gelu_ops]

end Cert.Trans
-- ==== Proof.TransLayer.lean ====
/-
  One layer of the second call, as its loop's body forms it.
-/
module

public import proofs.«01_k».proof.Proof.TransRows

@[expose] public section

noncomputable section

namespace Cert.Trans

open Idealize.ShloMosaic Cert.SecondIdeal Cert.SecondIdeal.Gen

/-- The attention of the eight tokens. -/
def attV (q k v : FVec Ideal S256x128 .f32) (fwo : FVec Ideal S128x16 .f32) (R : FVec Ideal S128x64 .f32) (G : FVec Ideal S64x64 .f32) (E : FVec Ideal S64x128 .f32) : FVec Ideal S256x128 .f32 :=
  beside (token (extractStridedSlice S256x16 ![0, 0] q slices_S256x128_o0_0_S256x16) k v fwo R G E)
    (token (extractStridedSlice S256x16 ![0, 16] q slices_S256x128_o0_16_S256x16) k v fwo R G E)
    (token (extractStridedSlice S256x16 ![0, 32] q slices_S256x128_o0_32_S256x16) k v fwo R G E)
    (token (extractStridedSlice S256x16 ![0, 48] q slices_S256x128_o0_48_S256x16) k v fwo R G E)
    (token (extractStridedSlice S256x16 ![0, 64] q slices_S256x128_o0_64_S256x16) k v fwo R G E)
    (token (extractStridedSlice S256x16 ![0, 80] q slices_S256x128_o0_80_S256x16) k v fwo R G E)
    (token (extractStridedSlice S256x16 ![0, 96] q slices_S256x128_o0_96_S256x16) k v fwo R G E)
    (token (extractStridedSlice S256x16 ![0, 112] q slices_S256x128_o0_112_S256x16) k v fwo R G E)

/-- The two-layer map of the eight tokens. -/
def ffV (y : FVec Ideal S256x128 .f32) (w1 : Vec Ideal S1x16x256 .f32) (b1 : Vec Ideal S1x256 .f32) (w2 : Vec Ideal S1x256x16 .f32) (b2 : Vec Ideal S1x16 .f32) : FVec Ideal S256x128 .f32 :=
  beside (k0_pay28 (extractStridedSlice S256x16 ![0, 0] y slices_S256x128_o0_0_S256x16) w1 b1 w2 b2)
    (k0_pay28 (extractStridedSlice S256x16 ![0, 16] y slices_S256x128_o0_16_S256x16) w1 b1 w2 b2)
    (k0_pay28 (extractStridedSlice S256x16 ![0, 32] y slices_S256x128_o0_32_S256x16) w1 b1 w2 b2)
    (k0_pay28 (extractStridedSlice S256x16 ![0, 48] y slices_S256x128_o0_48_S256x16) w1 b1 w2 b2)
    (k0_pay28 (extractStridedSlice S256x16 ![0, 64] y slices_S256x128_o0_64_S256x16) w1 b1 w2 b2)
    (k0_pay28 (extractStridedSlice S256x16 ![0, 80] y slices_S256x128_o0_80_S256x16) w1 b1 w2 b2)
    (k0_pay28 (extractStridedSlice S256x16 ![0, 96] y slices_S256x128_o0_96_S256x16) w1 b1 w2 b2)
    (k0_pay28 (extractStridedSlice S256x16 ![0, 112] y slices_S256x128_o0_112_S256x16) w1 b1 w2 b2)

/-- The attention half of a layer. -/
def mixV (x : FVec Ideal S256x128 .f32) (wq wk wv wo : Vec Ideal S1x16x16 .f32) (g1 c1 : Vec Ideal S1x16 .f32)
    (R : FVec Ideal S128x64 .f32) (G : FVec Ideal S64x64 .f32) (E : FVec Ideal S64x128 .f32) (F : FVec Ideal S128x16 .f32) (M B : FVec Ideal S128x128 .f32) (T : FVec Ideal S16x128 .f32) : FVec Ideal S256x128 .f32 :=
  k0_pay17 (addf x (attV (k0_pay3 x wq T B) (k0_pay4 x wk T B) (k0_pay6 x (k0_pay5 wv T B)) (k0_pay2 F wo) R G E)) (k0_pay16 g1) c1 M M

/-- One layer. -/
def layerV (x : FVec Ideal S256x128 .f32) (wq wk wv wo : Vec Ideal S1x16x16 .f32) (w1 : Vec Ideal S1x16x256 .f32) (b1 : Vec Ideal S1x256 .f32) (w2 : Vec Ideal S1x256x16 .f32)
    (b2 g1 c1 g2 c2 : Vec Ideal S1x16 .f32)
    (R : FVec Ideal S128x64 .f32) (G : FVec Ideal S64x64 .f32) (E : FVec Ideal S64x128 .f32) (F : FVec Ideal S128x16 .f32) (M B : FVec Ideal S128x128 .f32) (T : FVec Ideal S16x128 .f32) : FVec Ideal S256x128 .f32 :=
  k0_pay17 (addf (mixV x wq wk wv wo g1 c1 R G E F M B T) (ffV (mixV x wq wk wv wo g1 c1 R G E F M B T) w1 b1 w2 b2)) (k0_pay16 g2) c2 M M

variable {R : FVec Ideal S128x64 .f32} {G : FVec Ideal S64x64 .f32} {E : FVec Ideal S64x128 .f32} {F : FVec Ideal S128x16 .f32}
  {M B : FVec Ideal S128x128 .f32} {T : FVec Ideal S16x128 .f32}

/-- A row of the attention. -/
theorem att_row (tb : Tables R G E F M B T) (q k v : FVec Ideal S256x128 .f32) (fwo : FVec Ideal S128x16 .f32) (b : Fin 256)
    (Q K V : Tok) (W : Fin 16 → Fin 16 → ℝ) (hq : Holds q b Q) (hk : Holds k b K) (hv : Holds v b V)
    (hw : ∀ j a c, fwo (ix2 (lane j a) c) = (W a c : EReal)) : Holds (attV q k v fwo R G E) b (proj (attn Q K V) W) := by
  have key : ∀ (i : Fin 8) (h : S256x128.Slices ![0, 16 * i.val] S256x16) (c : Fin 16),
      token (extractStridedSlice S256x16 ![0, 16 * i.val] q h) k v fwo R G E (ix2 b c) = (proj (attn Q K V) W i c : EReal) :=
    fun i h c => token_row tb _ k v fwo b Q K V W i (fun a => (cut_row q b i h a).trans (hq i a)) hk hv hw c
  exact beside_row _ _ _ _ _ _ _ _ b (fun i c => (proj (attn Q K V) W i c : EReal))
    (key 0 _) (key 1 _) (key 2 _) (key 3 _) (key 4 _) (key 5 _) (key 6 _) (key 7 _)

/-- A row of the two-layer map. -/
theorem ff_row (y : FVec Ideal S256x128 .f32) (b : Fin 256) (Y : Tok) (hy : Holds y b Y)
    (w1 : Vec Ideal S1x16x256 .f32) (b1 : Vec Ideal S1x256 .f32) (w2 : Vec Ideal S1x256x16 .f32) (b2 : Vec Ideal S1x16 .f32)
    (W1 : Fin 16 → Fin 256 → ℝ) (B1 : Fin 256 → ℝ) (W2 : Fin 256 → Fin 16 → ℝ) (B2 : Fin 16 → ℝ)
    (h1 : ∀ a f, w1 (ix3 0 a f) = (W1 a f : EReal)) (hb1 : ∀ f, b1 (ix2 0 f) = (B1 f : EReal))
    (h2 : ∀ f c, w2 (ix3 0 f c) = (W2 f c : EReal)) (hb2 : ∀ c, b2 (ix2 0 c) = (B2 c : EReal)) :
    Holds (ffV y w1 b1 w2 b2) b (fun i => ffn (Y i) W1 B1 W2 B2) := by
  have key : ∀ (i : Fin 8) (h : S256x128.Slices ![0, 16 * i.val] S256x16) (c : Fin 16),
      k0_pay28 (extractStridedSlice S256x16 ![0, 16 * i.val] y h) w1 b1 w2 b2 (ix2 b c) = (ffn (Y i) W1 B1 W2 B2 c : EReal) :=
    fun i h c => ffn_row _ b (Y i) (fun a => (cut_row y b i h a).trans (hy i a)) w1 b1 w2 b2 W1 B1 W2 B2 h1 hb1 h2 hb2 c
  exact beside_row _ _ _ _ _ _ _ _ b (fun i c => (ffn (Y i) W1 B1 W2 B2 c : EReal))
    (key 0 _) (key 1 _) (key 2 _) (key 3 _) (key 4 _) (key 5 _) (key 6 _) (key 7 _)

/-- A sum of rows. -/
theorem add_row (x y : FVec Ideal S256x128 .f32) (b : Fin 256) (X Y : Tok) (hx : Holds x b X) (hy : Holds y b Y) :
    Holds (addf x y) b (fun i a => X i a + Y i a) := by
  intro i a
  change x (ix2 b (lane i a)) + y (ix2 b (lane i a)) = _
  rw [hx, hy, EReal.coe_add]

/-- A row of a layer. -/
theorem layer_row (tb : Tables R G E F M B T) (x : FVec Ideal S256x128 .f32) (b : Fin 256) (X : Tok) (hx : Holds x b X) (w : Weights)
    (wq wk wv wo : Vec Ideal S1x16x16 .f32) (w1 : Vec Ideal S1x16x256 .f32) (b1 : Vec Ideal S1x256 .f32) (w2 : Vec Ideal S1x256x16 .f32)
    (b2 g1 c1 g2 c2 : Vec Ideal S1x16 .f32)
    (hq : ∀ c a, wq (ix3 0 c a) = (w.wq c a : EReal)) (hk : ∀ c a, wk (ix3 0 c a) = (w.wk c a : EReal))
    (hv : ∀ c a, wv (ix3 0 c a) = (w.wv c a : EReal)) (ho : ∀ c a, wo (ix3 0 c a) = (w.wo c a : EReal))
    (h1 : ∀ a f, w1 (ix3 0 a f) = (w.w1 a f : EReal)) (hb1 : ∀ f, b1 (ix2 0 f) = (w.b1 f : EReal))
    (h2 : ∀ f c, w2 (ix3 0 f c) = (w.w2 f c : EReal)) (hb2 : ∀ c, b2 (ix2 0 c) = (w.b2 c : EReal))
    (hg1 : ∀ a, g1 (ix2 0 a) = (w.g1 a : EReal)) (hc1 : ∀ a, c1 (ix2 0 a) = (w.c1 a : EReal))
    (hg2 : ∀ a, g2 (ix2 0 a) = (w.g2 a : EReal)) (hc2 : ∀ a, c2 (ix2 0 a) = (w.c2 a : EReal)) :
    Holds (layerV x wq wk wv wo w1 b1 w2 b2 g1 c1 g2 c2 R G E F M B T) b (layer w X) := by
  have hm : Holds (mixV x wq wk wv wo g1 c1 R G E F M B T) b (mix w X) :=
    norm_row tb _ b _ (add_row _ _ b _ _ hx (att_row tb _ _ _ _ b _ _ _ _ (proj_row tb x b X hx wq w.wq hq) (proj_row tb x b X hx wk w.wk hk)
      (proj_row tb x b X hx wv w.wv hv) (last_row tb wo w.wo ho))) g1 c1 _ _ hg1 hc1
  exact norm_row tb _ b _ (add_row _ _ b _ _ hm (ff_row _ b _ hm w1 b1 w2 b2 _ _ _ _ h1 hb1 h2 hb2)) g2 c2 _ _ hg2 hc2

end Cert.Trans
-- ==== Proof.TransTrip.lean ====
/-
  The second call's loop: three trips are three layers.
-/
module

public import proofs.«01_k».proof.Proof.SecondFrame
public import proofs.«01_k».proof.Proof.TransLayer
public import Idealize.ShloMosaic.Lib.WholeRead

@[expose] public section

set_option maxRecDepth 16384

noncomputable section

namespace Cert.Trans

open Idealize.ShloMosaic Idealize.ShloMosaic.TcCoe Cert.SecondIdeal Cert.SecondIdeal.Gen

/-- A trip's result is one layer, on the weights that it reads. -/
theorem trip_eq (𝒱 : Variants) (c : Dev nD) (bd : Option 𝒱.V) (arg0 : Memref sig .tc .vmem S256x128 .f32) (harg0 : arg0.IsWhole) (arg1 : Memref sig .tc .vmem S3x16x16 .f32) (harg1 : arg1.IsWhole) (arg2 : Memref sig .tc .vmem S3x16x16 .f32) (harg2 : arg2.IsWhole) (arg3 : Memref sig .tc .vmem S3x16x16 .f32) (harg3 : arg3.IsWhole) (arg4 : Memref sig .tc .vmem S3x16x16 .f32) (harg4 : arg4.IsWhole) (arg5 : Memref sig .tc .vmem S3x16x256 .f32) (harg5 : arg5.IsWhole) (arg6 : Memref sig .tc .vmem S3x256 .f32) (harg6 : arg6.IsWhole) (arg7 : Memref sig .tc .vmem S3x256x16 .f32) (harg7 : arg7.IsWhole) (arg8 : Memref sig .tc .vmem S3x16 .f32) (harg8 : arg8.IsWhole) (arg9 : Memref sig .tc .vmem S3x16 .f32) (harg9 : arg9.IsWhole) (arg10 : Memref sig .tc .vmem S3x16 .f32) (harg10 : arg10.IsWhole) (arg11 : Memref sig .tc .vmem S3x16 .f32) (harg11 : arg11.IsWhole) (arg12 : Memref sig .tc .vmem S3x16 .f32) (harg12 : arg12.IsWhole) (arg13 : Memref sig .tc .vmem S1x16 .f32) (harg13 : arg13.IsWhole) (arg14 : Memref sig .tc .vmem S1x16 .f32) (harg14 : arg14.IsWhole) (arg15 : Memref sig .tc .vmem S128x96 .f32) (harg15 : arg15.IsWhole) (arg16 : Memref sig .tc .vmem S1x96 .f32) (harg16 : arg16.IsWhole) (arg17 : Memref sig .tc .vmem S1x128 .f32) (harg17 : arg17.IsWhole) (arg18 : Memref sig .tc .vmem S128x64 .f32) (harg18 : arg18.IsWhole) (arg19 : Memref sig .tc .vmem S64x128 .f32) (harg19 : arg19.IsWhole) (arg20 : Memref sig .tc .vmem S64x64 .f32) (harg20 : arg20.IsWhole) (arg21 : Memref sig .tc .vmem S128x16 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S16x128 .f32) (harg25 : arg25.IsWhole) (arg26 : Memref sig .tc .vmem S256x96 .f32) (harg26 : arg26.IsWhole)
    (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (X_arg22 : BufTy.Contents (Elt Ideal) arg22.view.ty) (X_arg23 : BufTy.Contents (Elt Ideal) arg23.view.ty) (X_arg25 : BufTy.Contents (Elt Ideal) arg25.view.ty) (k : Fin k0_t1_loop.trips) (acc : FVec Ideal S256x128 .f32) :
    (trip_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg1 X_arg2 X_arg3 X_arg4 X_arg5 X_arg6 X_arg7 X_arg8 X_arg9 X_arg10 X_arg11 X_arg12 X_arg18 X_arg19 X_arg20 X_arg21 X_arg22 X_arg23 X_arg25 k).1 acc
      = layerV acc (View.readAt (Elt Ideal) arg1.view (Rect.unit (s := S3x16x16) (k0_off1 k) S1x16x16.size (k0_off1_inb k)).toLoadRect X_arg1) (View.readAt (Elt Ideal) arg2.view (Rect.unit (s := S3x16x16) (k0_off1 k) S1x16x16.size (k0_off1_inb k)).toLoadRect X_arg2) (View.readAt (Elt Ideal) arg3.view (Rect.unit (s := S3x16x16) (k0_off1 k) S1x16x16.size (k0_off1_inb k)).toLoadRect X_arg3) (View.readAt (Elt Ideal) arg4.view (Rect.unit (s := S3x16x16) (k0_off1 k) S1x16x16.size (k0_off1_inb k)).toLoadRect X_arg4) (View.readAt (Elt Ideal) arg5.view (Rect.unit (s := S3x16x256) (k0_off3 k) S1x16x256.size (k0_off3_inb k)).toLoadRect X_arg5) (View.readAt (Elt Ideal) arg6.view (Rect.unit (s := S3x256) (k0_off4 k) S1x256.size (k0_off4_inb k)).toLoadRect X_arg6) (View.readAt (Elt Ideal) arg7.view (Rect.unit (s := S3x256x16) (k0_off5 k) S1x256x16.size (k0_off5_inb k)).toLoadRect X_arg7) (View.readAt (Elt Ideal) arg8.view (Rect.unit (s := S3x16) (k0_off2 k) S1x16.size (k0_off2_inb k)).toLoadRect X_arg8) (View.readAt (Elt Ideal) arg9.view (Rect.unit (s := S3x16) (k0_off2 k) S1x16.size (k0_off2_inb k)).toLoadRect X_arg9) (View.readAt (Elt Ideal) arg10.view (Rect.unit (s := S3x16) (k0_off2 k) S1x16.size (k0_off2_inb k)).toLoadRect X_arg10) (View.readAt (Elt Ideal) arg11.view (Rect.unit (s := S3x16) (k0_off2 k) S1x16.size (k0_off2_inb k)).toLoadRect X_arg11) (View.readAt (Elt Ideal) arg12.view (Rect.unit (s := S3x16) (k0_off2 k) S1x16.size (k0_off2_inb k)).toLoadRect X_arg12) (View.readAt (Elt Ideal) arg18.view (Rect.unit (s := S128x64) ![0, 0] S128x64.size inb_S128x64_S128x64_0_0).toLoadRect X_arg18) (View.readAt (Elt Ideal) arg20.view (Rect.unit (s := S64x64) ![0, 0] S64x64.size inb_S64x64_S64x64_0_0).toLoadRect X_arg20) (View.readAt (Elt Ideal) arg19.view (Rect.unit (s := S64x128) ![0, 0] S64x128.size inb_S64x128_S64x128_0_0).toLoadRect X_arg19) (View.readAt (Elt Ideal) arg21.view (Rect.unit (s := S128x16) ![0, 0] S128x16.size inb_S128x16_S128x16_0_0).toLoadRect X_arg21) (View.readAt (Elt Ideal) arg22.view (Rect.unit (s := S128x128) ![0, 0] S128x128.size inb_S128x128_S128x128_0_0).toLoadRect X_arg22) (View.readAt (Elt Ideal) arg23.view (Rect.unit (s := S128x128) ![0, 0] S128x128.size inb_S128x128_S128x128_0_0).toLoadRect X_arg23) (View.readAt (Elt Ideal) arg25.view (Rect.unit (s := S16x128) ![0, 0] S16x128.size inb_S16x128_S16x128_0_0).toLoadRect X_arg25) := by
  unfold trip_k0_t1
  rfl

/-- A load of a whole operand. -/
theorem read_all {s : Shape} {m : Memref sig .tc .vmem s .f32} (hm : m.IsWhole) (X : Vec Ideal s .f32) (off : Fin s.rank → ℕ) (h : ∀ a, off a + s.size a ≤ s.size a) :
    View.readAt (Elt Ideal) m.view (Rect.unit off s.size h).toLoadRect (hm.unread X) = X := by
  funext i
  refine (hm.readAt_unread X _ i).trans (congrArg X (funext fun a => Fin.ext ?_))
  have h0 : off a = 0 := by have := h a; omega
  change off a + 1 * (i a).val = (i a).val
  omega

/-- Three trips. -/
theorem lt3 (k : Fin k0_t1_loop.trips) : k.val < 3 := Nat.lt_of_lt_of_le k.isLt k0_t1_abs.2.1

/-- Where a trip reads a square matrix. -/
theorem off1 : ∀ k : Fin k0_t1_loop.trips, k0_off1 k = ![k.val, 0, 0] := by decide +kernel
/-- Where a trip reads a row. -/
theorem off2 : ∀ k : Fin k0_t1_loop.trips, k0_off2 k = ![k.val, 0] := by decide +kernel
/-- Where a trip reads the first wide matrix. -/
theorem off3 : ∀ k : Fin k0_t1_loop.trips, k0_off3 k = ![k.val, 0, 0] := by decide +kernel
/-- Where a trip reads the wide row. -/
theorem off4 : ∀ k : Fin k0_t1_loop.trips, k0_off4 k = ![k.val, 0] := by decide +kernel
/-- Where a trip reads the second wide matrix. -/
theorem off5 : ∀ k : Fin k0_t1_loop.trips, k0_off5 k = ![k.val, 0, 0] := by decide +kernel

/-- A trip's load of a matrix, out of the three layers'. -/
theorem read3 {p q : ℕ} {m : Memref sig .tc .vmem ⟨3, ![3, p, q]⟩ .f32} (hm : m.IsWhole) (X : Vec Ideal ⟨3, ![3, p, q]⟩ .f32) (off : Fin 3 → ℕ) {k : ℕ} (hk : k < 3)
    (h : ∀ a, off a + (![1, p, q] : Fin 3 → ℕ) a ≤ (![3, p, q] : Fin 3 → ℕ) a) (ho : off = ![k, 0, 0]) (a : Fin p) (e : Fin q) :
    (View.readAt (Elt Ideal) m.view (Rect.unit (s := ⟨3, ![3, p, q]⟩) off ![1, p, q] h).toLoadRect (hm.unread X) : Vec Ideal ⟨3, ![1, p, q]⟩ .f32) (ix3 0 a e) = X (ix3 ⟨k, hk⟩ a e) := by
  subst ho
  refine (hm.readAt_unread X _ _).trans (congrArg X (funext fun i => Fin.ext ?_))
  fin_cases i
  · change k + 1 * 0 = k; omega
  · change 0 + 1 * a.val = a.val; omega
  · change 0 + 1 * e.val = e.val; omega

/-- A trip's load of a row, out of the three layers'. -/
theorem read2 {p : ℕ} {m : Memref sig .tc .vmem ⟨2, ![3, p]⟩ .f32} (hm : m.IsWhole) (X : Vec Ideal ⟨2, ![3, p]⟩ .f32) (off : Fin 2 → ℕ) {k : ℕ} (hk : k < 3)
    (h : ∀ a, off a + (![1, p] : Fin 2 → ℕ) a ≤ (![3, p] : Fin 2 → ℕ) a) (ho : off = ![k, 0]) (a : Fin p) :
    (View.readAt (Elt Ideal) m.view (Rect.unit (s := ⟨2, ![3, p]⟩) off ![1, p] h).toLoadRect (hm.unread X) : Vec Ideal ⟨2, ![1, p]⟩ .f32) (ix2 0 a) = X (ix2 ⟨k, hk⟩ a) := by
  subst ho
  refine (hm.readAt_unread X _ _).trans (congrArg X (funext fun i => Fin.ext ?_))
  fin_cases i
  · change k + 1 * 0 = k; omega
  · change 0 + 1 * a.val = a.val; omega

/-- One layer's row, of operands equal to the tables. -/
theorem layer_tables {R : Vec Ideal S128x64 .f32} {G : Vec Ideal S64x64 .f32} {E : Vec Ideal S64x128 .f32} {F : Vec Ideal S128x16 .f32} {M B : Vec Ideal S128x128 .f32} {T : Vec Ideal S16x128 .f32}
    (tb : Tables R G E F M B T) {R' G' E' F' M' B' T' : _} (eR : R' = R) (eG : G' = G) (eE : E' = E) (eF : F' = F) (eM : M' = M) (eB : B' = B) (eT : T' = T) : Tables R' G' E' F' M' B' T' := by
  subst eR eG eE eF eM eB eT
  exact tb

section
variable (c : Dev nD) (arg0 : Memref sig .tc .vmem S256x128 .f32) (harg0 : arg0.IsWhole) (arg1 : Memref sig .tc .vmem S3x16x16 .f32) (harg1 : arg1.IsWhole) (arg2 : Memref sig .tc .vmem S3x16x16 .f32) (harg2 : arg2.IsWhole) (arg3 : Memref sig .tc .vmem S3x16x16 .f32) (harg3 : arg3.IsWhole) (arg4 : Memref sig .tc .vmem S3x16x16 .f32) (harg4 : arg4.IsWhole) (arg5 : Memref sig .tc .vmem S3x16x256 .f32) (harg5 : arg5.IsWhole) (arg6 : Memref sig .tc .vmem S3x256 .f32) (harg6 : arg6.IsWhole) (arg7 : Memref sig .tc .vmem S3x256x16 .f32) (harg7 : arg7.IsWhole) (arg8 : Memref sig .tc .vmem S3x16 .f32) (harg8 : arg8.IsWhole) (arg9 : Memref sig .tc .vmem S3x16 .f32) (harg9 : arg9.IsWhole) (arg10 : Memref sig .tc .vmem S3x16 .f32) (harg10 : arg10.IsWhole) (arg11 : Memref sig .tc .vmem S3x16 .f32) (harg11 : arg11.IsWhole) (arg12 : Memref sig .tc .vmem S3x16 .f32) (harg12 : arg12.IsWhole) (arg13 : Memref sig .tc .vmem S1x16 .f32) (harg13 : arg13.IsWhole) (arg14 : Memref sig .tc .vmem S1x16 .f32) (harg14 : arg14.IsWhole) (arg15 : Memref sig .tc .vmem S128x96 .f32) (harg15 : arg15.IsWhole) (arg16 : Memref sig .tc .vmem S1x96 .f32) (harg16 : arg16.IsWhole) (arg17 : Memref sig .tc .vmem S1x128 .f32) (harg17 : arg17.IsWhole) (arg18 : Memref sig .tc .vmem S128x64 .f32) (harg18 : arg18.IsWhole) (arg19 : Memref sig .tc .vmem S64x128 .f32) (harg19 : arg19.IsWhole) (arg20 : Memref sig .tc .vmem S64x64 .f32) (harg20 : arg20.IsWhole) (arg21 : Memref sig .tc .vmem S128x16 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S16x128 .f32) (harg25 : arg25.IsWhole) (arg26 : Memref sig .tc .vmem S256x96 .f32) (harg26 : arg26.IsWhole)
    (x0 : Vec Ideal S256x128 .f32) (x1 : Vec Ideal S3x16x16 .f32) (x2 : Vec Ideal S3x16x16 .f32) (x3 : Vec Ideal S3x16x16 .f32) (x4 : Vec Ideal S3x16x16 .f32) (x5 : Vec Ideal S3x16x256 .f32) (x6 : Vec Ideal S3x256 .f32) (x7 : Vec Ideal S3x256x16 .f32) (x8 : Vec Ideal S3x16 .f32) (x9 : Vec Ideal S3x16 .f32) (x10 : Vec Ideal S3x16 .f32) (x11 : Vec Ideal S3x16 .f32) (x12 : Vec Ideal S3x16 .f32) (x13 : Vec Ideal S1x16 .f32) (x14 : Vec Ideal S1x16 .f32) (x15 : Vec Ideal S128x96 .f32) (x16 : Vec Ideal S1x96 .f32) (x17 : Vec Ideal S1x128 .f32) (x18 : Vec Ideal S128x64 .f32) (x19 : Vec Ideal S64x128 .f32) (x20 : Vec Ideal S64x64 .f32) (x21 : Vec Ideal S128x16 .f32) (x22 : Vec Ideal S128x128 .f32) (x23 : Vec Ideal S128x128 .f32) (x24 : Vec Ideal S128x128 .f32) (x25 : Vec Ideal S16x128 .f32)
    (init : FVec Ideal S256x128 .f32) (w : Fin 3 → Weights) (tb : Tables x18 x20 x19 x21 x22 x23 x25)
    (h1 : ∀ l a e, x1 (ix3 l a e) = ((w l).wq a e : EReal))
    (h2 : ∀ l a e, x2 (ix3 l a e) = ((w l).wk a e : EReal))
    (h3 : ∀ l a e, x3 (ix3 l a e) = ((w l).wv a e : EReal))
    (h4 : ∀ l a e, x4 (ix3 l a e) = ((w l).wo a e : EReal))
    (h5 : ∀ l a e, x5 (ix3 l a e) = ((w l).w1 a e : EReal))
    (h6 : ∀ l a, x6 (ix2 l a) = ((w l).b1 a : EReal))
    (h7 : ∀ l a e, x7 (ix3 l a e) = ((w l).w2 a e : EReal))
    (h8 : ∀ l a, x8 (ix2 l a) = ((w l).b2 a : EReal))
    (h9 : ∀ l a, x9 (ix2 l a) = ((w l).g1 a : EReal))
    (h10 : ∀ l a, x10 (ix2 l a) = ((w l).c1 a : EReal))
    (h11 : ∀ l a, x11 (ix2 l a) = ((w l).g2 a : EReal))
    (h12 : ∀ l a, x12 (ix2 l a) = ((w l).c2 a : EReal))
include tb h1 h2 h3 h4 h5 h6 h7 h8 h9 h10 h11 h12

set_option maxHeartbeats 4000000 in
/-- One trip's row. -/
theorem trip_row (k : Fin k0_t1_loop.trips) (acc : FVec Ideal S256x128 .f32) (b : Fin 256) (X : Tok) (hx : Holds acc b X) :
    Holds ((trip_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread x1) (harg2.unread x2) (harg3.unread x3) (harg4.unread x4) (harg5.unread x5) (harg6.unread x6) (harg7.unread x7) (harg8.unread x8) (harg9.unread x9) (harg10.unread x10) (harg11.unread x11) (harg12.unread x12) (harg18.unread x18) (harg19.unread x19) (harg20.unread x20) (harg21.unread x21) (harg22.unread x22) (harg23.unread x23) (harg25.unread x25) k).1 acc) b (layer (w ⟨k.val, lt3 k⟩) X) := by
  rw [trip_eq]
  refine layer_row (layer_tables tb (read_all harg18 x18 _ _) (read_all harg20 x20 _ _) (read_all harg19 x19 _ _) (read_all harg21 x21 _ _) (read_all harg22 x22 _ _) (read_all harg23 x23 _ _) (read_all harg25 x25 _ _)) acc b X hx (w ⟨k.val, lt3 k⟩) _ _ _ _ _ _ _ _ _ _ _ _ ?_ ?_ ?_ ?_ ?_ ?_ ?_ ?_ ?_ ?_ ?_ ?_
  · exact (fun a e => (read3 harg1 x1 _ (lt3 k) _ (off1 k) a e).trans (h1 ⟨k.val, lt3 k⟩ a e))
  · exact (fun a e => (read3 harg2 x2 _ (lt3 k) _ (off1 k) a e).trans (h2 ⟨k.val, lt3 k⟩ a e))
  · exact (fun a e => (read3 harg3 x3 _ (lt3 k) _ (off1 k) a e).trans (h3 ⟨k.val, lt3 k⟩ a e))
  · exact (fun a e => (read3 harg4 x4 _ (lt3 k) _ (off1 k) a e).trans (h4 ⟨k.val, lt3 k⟩ a e))
  · exact (fun a e => (read3 harg5 x5 _ (lt3 k) _ (off3 k) a e).trans (h5 ⟨k.val, lt3 k⟩ a e))
  · exact (fun a => (read2 harg6 x6 _ (lt3 k) _ (off4 k) a).trans (h6 ⟨k.val, lt3 k⟩ a))
  · exact (fun a e => (read3 harg7 x7 _ (lt3 k) _ (off5 k) a e).trans (h7 ⟨k.val, lt3 k⟩ a e))
  · exact (fun a => (read2 harg8 x8 _ (lt3 k) _ (off2 k) a).trans (h8 ⟨k.val, lt3 k⟩ a))
  · exact (fun a => (read2 harg9 x9 _ (lt3 k) _ (off2 k) a).trans (h9 ⟨k.val, lt3 k⟩ a))
  · exact (fun a => (read2 harg10 x10 _ (lt3 k) _ (off2 k) a).trans (h10 ⟨k.val, lt3 k⟩ a))
  · exact (fun a => (read2 harg11 x11 _ (lt3 k) _ (off2 k) a).trans (h11 ⟨k.val, lt3 k⟩ a))
  · exact (fun a => (read2 harg12 x12 _ (lt3 k) _ (off2 k) a).trans (h12 ⟨k.val, lt3 k⟩ a))

/-- The row after the three trips. -/
theorem three_row (b : Fin 256) (X : Tok) (hx : Holds init b X) :
    Holds (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread x1) (harg2.unread x2) (harg3.unread x3) (harg4.unread x4) (harg5.unread x5) (harg6.unread x6) (harg7.unread x7) (harg8.unread x8) (harg9.unread x9) (harg10.unread x10) (harg11.unread x11) (harg12.unread x12) (harg18.unread x18) (harg19.unread x19) (harg20.unread x20) (harg21.unread x21) (harg22.unread x22) (harg23.unread x23) (harg25.unread x25) init (Scf.trips k0_t1_loop.lb k0_t1_loop.ub k0_t1_loop.st)) b (layer (w 2) (layer (w 1) (layer (w 0) X))) := by
  have step := trip_row c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x1 x2 x3 x4 x5 x6 x7 x8 x9 x10 x11 x12 x18 x19 x20 x21 x22 x23 x25 w tb h1 h2 h3 h4 h5 h6 h7 h8 h9 h10 h11 h12
  have next : ∀ (k : Fin k0_t1_loop.trips) (X : Tok), Holds (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread x1) (harg2.unread x2) (harg3.unread x3) (harg4.unread x4) (harg5.unread x5) (harg6.unread x6) (harg7.unread x7) (harg8.unread x8) (harg9.unread x9) (harg10.unread x10) (harg11.unread x11) (harg12.unread x12) (harg18.unread x18) (harg19.unread x19) (harg20.unread x20) (harg21.unread x21) (harg22.unread x22) (harg23.unread x23) (harg25.unread x25) init k.val) b X → Holds (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread x1) (harg2.unread x2) (harg3.unread x3) (harg4.unread x4) (harg5.unread x5) (harg6.unread x6) (harg7.unread x7) (harg8.unread x8) (harg9.unread x9) (harg10.unread x10) (harg11.unread x11) (harg12.unread x12) (harg18.unread x18) (harg19.unread x19) (harg20.unread x20) (harg21.unread x21) (harg22.unread x22) (harg23.unread x23) (harg25.unread x25) init (k.val + 1)) b (layer (w ⟨k.val, lt3 k⟩) X) := by
    intro k X h
    rw [st_k0_t1_succ]
    exact step k _ b X h
  exact next ⟨2, by decide⟩ _ (next ⟨1, by decide⟩ _ (next ⟨0, by decide⟩ X hx))

end

end Cert.Trans
-- ==== Proof.TransOut.lean ====
/-
  What the second call's body leaves in its result: the three layers, the last norm and the linear map.
-/
module

public import proofs.«01_k».proof.Proof.TransTrip

@[expose] public section

set_option maxRecDepth 16384

noncomputable section

namespace Cert.Trans

open Idealize.ShloMosaic Idealize.ShloMosaic.TcCoe Cert.SecondIdeal Cert.SecondIdeal.Gen

/-- The last linear map: the channels reordered on the weights' side. -/
def linear (y : FVec Ideal S256x128 .f32) (P : FVec Ideal S128x128 .f32) (W : FVec Ideal S128x96 .f32) : FVec Ideal S256x96 .f32 :=
  matmul dot_S256x128_S128x96_S256x96_1_0_0_1_n_n none y (matmul dot_S128x128_S128x96_S128x96_1_0_0_1_n_n none P W (constant S128x96 .f32 0x00000000#32)) (constant S256x96 .f32 0x00000000#32)

/-- An entry of the last linear map. -/
theorem linear_at (y : FVec Ideal S256x128 .f32) (P : FVec Ideal S128x128 .f32) (W : FVec Ideal S128x96 .f32) (b : Fin 256) (f : Fin 96) :
    linear y P W (ix2 b f) = ∑ n, y (ix2 b n) * ∑ n', P (ix2 n n') * W (ix2 n' f) := by
  pointwise [linear]

/-- An entry of the result, with its row of shifts. -/
theorem shifted_at (z : FVec Ideal S256x96 .f32) (v : Vec Ideal S1x96 .f32) (b : Fin 256) (f : Fin 96) :
    k0_pay1 (F := Ideal) z v (ix2 b f) = z (ix2 b f) + v (ix2 0 f) := by
  pointwise [k0_pay1]

/-- A cast of a row to its own shape. -/
theorem row_same (v : Vec Ideal S1x16 .f32) : shapeCast S1x16 v shapeCasts_S1x16_S1x16 = v := by
  funext i
  idx_vars i
  pointwise []

/-- The last step is the norm, then the linear map. -/
theorem last_eq (x : FVec Ideal S256x128 .f32) (g c : Vec Ideal S1x16 .f32) (M P : Vec Ideal S128x128 .f32) (W : Vec Ideal S128x96 .f32) :
    k0_pay36 (F := Ideal) x g c M M P W = linear (k0_pay17 x (k0_pay16 g) c M M) P W := by
  unfold k0_pay36
  rw [row_same, row_same]
  rfl

/-- The input, with the positional row. -/
theorem start_at (x : Vec Ideal S256x128 .f32) (p : Vec Ideal S1x128 .f32) (b : Fin 256) (n : Fin 128) :
    k0_pay34 (F := Ideal) x p (ix2 b n) = x (ix2 b n) + p (ix2 0 n) := by
  pointwise [k0_pay34]

/-- The input's row holds the tokens with their positions. -/
theorem start_row (x : Vec Ideal S256x128 .f32) (p : Vec Ideal S1x128 .f32) (b : Fin 256) (X Q : Tok) (hx : Holds x b X)
    (hp : ∀ i a, p (ix2 0 (lane i a)) = (Q i a : EReal)) : Holds (k0_pay34 (F := Ideal) x p) b (fun i a => X i a + Q i a) := by
  intro i a
  rw [start_at, hx, hp, EReal.coe_add]

variable {R : FVec Ideal S128x64 .f32} {G : FVec Ideal S64x64 .f32} {E : FVec Ideal S64x128 .f32} {F : FVec Ideal S128x16 .f32}
  {M B : FVec Ideal S128x128 .f32} {T : FVec Ideal S16x128 .f32}

/-- The result's row. -/
theorem out_row (tb : Tables R G E F M B T) (x : FVec Ideal S256x128 .f32) (b : Fin 256) (X : Tok) (hx : Holds x b X) (g c : Vec Ideal S1x16 .f32)
    (g' c' : Fin 16 → ℝ) (hg : ∀ a, g (ix2 0 a) = (g' a : EReal)) (hc : ∀ a, c (ix2 0 a) = (c' a : EReal))
    (P : Vec Ideal S128x128 .f32) (hP : ∀ i a n, P (ix2 (lane i a) n) = (bit (across i a = n) : EReal))
    (W : Vec Ideal S128x96 .f32) (W' : Fin 128 → Fin 96 → ℝ) (hW : ∀ n f, W (ix2 n f) = (W' n f : EReal))
    (v : Vec Ideal S1x96 .f32) (v' : Fin 96 → ℝ) (hv : ∀ f, v (ix2 0 f) = (v' f : EReal)) (f : Fin 96) :
    k0_pay1 (F := Ideal) (k0_pay36 (F := Ideal) x g c M M P W) v (ix2 b f) = (out X g' c' W' v' f : EReal) := by
  rw [last_eq, shifted_at, linear_at, hv,
    coe_dot_lane (fun n => k0_pay17 x (k0_pay16 g) c M M (ix2 b n)) _ (norm X g' c') (fun i a => W' (across i a) f) (norm_row tb x b X hx g c g' c' hg hc)
      (fun i a => (coe_dot _ _ (fun n => bit (across i a = n)) (fun n => W' n f) (fun n => hP i a n) (fun n => hW n f)).trans (by rw [sum_bit'])), ← EReal.coe_add]
  rfl

section
variable (c : Dev nD) (arg0 : Memref sig .tc .vmem S256x128 .f32) (harg0 : arg0.IsWhole) (arg1 : Memref sig .tc .vmem S3x16x16 .f32) (harg1 : arg1.IsWhole) (arg2 : Memref sig .tc .vmem S3x16x16 .f32) (harg2 : arg2.IsWhole) (arg3 : Memref sig .tc .vmem S3x16x16 .f32) (harg3 : arg3.IsWhole) (arg4 : Memref sig .tc .vmem S3x16x16 .f32) (harg4 : arg4.IsWhole) (arg5 : Memref sig .tc .vmem S3x16x256 .f32) (harg5 : arg5.IsWhole) (arg6 : Memref sig .tc .vmem S3x256 .f32) (harg6 : arg6.IsWhole) (arg7 : Memref sig .tc .vmem S3x256x16 .f32) (harg7 : arg7.IsWhole) (arg8 : Memref sig .tc .vmem S3x16 .f32) (harg8 : arg8.IsWhole) (arg9 : Memref sig .tc .vmem S3x16 .f32) (harg9 : arg9.IsWhole) (arg10 : Memref sig .tc .vmem S3x16 .f32) (harg10 : arg10.IsWhole) (arg11 : Memref sig .tc .vmem S3x16 .f32) (harg11 : arg11.IsWhole) (arg12 : Memref sig .tc .vmem S3x16 .f32) (harg12 : arg12.IsWhole) (arg13 : Memref sig .tc .vmem S1x16 .f32) (harg13 : arg13.IsWhole) (arg14 : Memref sig .tc .vmem S1x16 .f32) (harg14 : arg14.IsWhole) (arg15 : Memref sig .tc .vmem S128x96 .f32) (harg15 : arg15.IsWhole) (arg16 : Memref sig .tc .vmem S1x96 .f32) (harg16 : arg16.IsWhole) (arg17 : Memref sig .tc .vmem S1x128 .f32) (harg17 : arg17.IsWhole) (arg18 : Memref sig .tc .vmem S128x64 .f32) (harg18 : arg18.IsWhole) (arg19 : Memref sig .tc .vmem S64x128 .f32) (harg19 : arg19.IsWhole) (arg20 : Memref sig .tc .vmem S64x64 .f32) (harg20 : arg20.IsWhole) (arg21 : Memref sig .tc .vmem S128x16 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S16x128 .f32) (harg25 : arg25.IsWhole) (arg26 : Memref sig .tc .vmem S256x96 .f32) (harg26 : arg26.IsWhole)
    (x0 : Vec Ideal S256x128 .f32) (x1 : Vec Ideal S3x16x16 .f32) (x2 : Vec Ideal S3x16x16 .f32) (x3 : Vec Ideal S3x16x16 .f32) (x4 : Vec Ideal S3x16x16 .f32) (x5 : Vec Ideal S3x16x256 .f32) (x6 : Vec Ideal S3x256 .f32) (x7 : Vec Ideal S3x256x16 .f32) (x8 : Vec Ideal S3x16 .f32) (x9 : Vec Ideal S3x16 .f32) (x10 : Vec Ideal S3x16 .f32) (x11 : Vec Ideal S3x16 .f32) (x12 : Vec Ideal S3x16 .f32) (x13 : Vec Ideal S1x16 .f32) (x14 : Vec Ideal S1x16 .f32) (x15 : Vec Ideal S128x96 .f32) (x16 : Vec Ideal S1x96 .f32) (x17 : Vec Ideal S1x128 .f32) (x18 : Vec Ideal S128x64 .f32) (x19 : Vec Ideal S64x128 .f32) (x20 : Vec Ideal S64x64 .f32) (x21 : Vec Ideal S128x16 .f32) (x22 : Vec Ideal S128x128 .f32) (x23 : Vec Ideal S128x128 .f32) (x24 : Vec Ideal S128x128 .f32) (x25 : Vec Ideal S16x128 .f32)

/-- The body's one piece. -/
theorem piece_run :
    (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24 x25).1
      = [⟨Rect.unit (s := S256x96) ![0, 0] S256x96.size inb_S256x96_S256x96_0_0, k0_pay1 (F := Ideal) (k0_pay36 (F := Ideal) (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread x1) (harg2.unread x2) (harg3.unread x3) (harg4.unread x4) (harg5.unread x5) (harg6.unread x6) (harg7.unread x7) (harg8.unread x8) (harg9.unread x9) (harg10.unread x10) (harg11.unread x11) (harg12.unread x12) (harg18.unread x18) (harg19.unread x19) (harg20.unread x20) (harg21.unread x21) (harg22.unread x22) (harg23.unread x23) (harg25.unread x25) (k0_pay34 (F := Ideal) (View.readAt (Elt Ideal) arg0.view (Rect.unit (s := S256x128) ![0, 0] S256x128.size inb_S256x128_S256x128_0_0).toLoadRect (harg0.unread x0)) (View.readAt (Elt Ideal) arg17.view (Rect.unit (s := S1x128) ![0, 0] S1x128.size inb_S1x128_S1x128_0_0).toLoadRect (harg17.unread x17))) (Scf.trips k0_t1_loop.lb k0_t1_loop.ub k0_t1_loop.st)) (View.readAt (Elt Ideal) arg13.view (Rect.unit (s := S1x16) ![0, 0] S1x16.size inb_S1x16_S1x16_0_0).toLoadRect (harg13.unread x13)) (View.readAt (Elt Ideal) arg14.view (Rect.unit (s := S1x16) ![0, 0] S1x16.size inb_S1x16_S1x16_0_0).toLoadRect (harg14.unread x14)) (View.readAt (Elt Ideal) arg22.view (Rect.unit (s := S128x128) ![0, 0] S128x128.size inb_S128x128_S128x128_0_0).toLoadRect (harg22.unread x22)) (View.readAt (Elt Ideal) arg22.view (Rect.unit (s := S128x128) ![0, 0] S128x128.size inb_S128x128_S128x128_0_0).toLoadRect (harg22.unread x22)) (View.readAt (Elt Ideal) arg24.view (Rect.unit (s := S128x128) ![0, 0] S128x128.size inb_S128x128_S128x128_0_0).toLoadRect (harg24.unread x24)) (View.readAt (Elt Ideal) arg15.view (Rect.unit (s := S128x96) ![0, 0] S128x96.size inb_S128x96_S128x96_0_0).toLoadRect (harg15.unread x15))) (View.readAt (Elt Ideal) arg16.view (Rect.unit (s := S1x96) ![0, 0] S1x96.size inb_S1x96_S1x96_0_0).toLoadRect (harg16.unread x16))⟩] := by
  unfold kernelRun0_A
  dsimp only
  unfold kernelRun0_A.sl.r
  rfl

/-- The result block of the body. -/
theorem out_run (b : Fin 256) (f : Fin 96) :
    out0_A_26 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24 x25 (ix2 b f) = (k0_pay1 (F := Ideal) (k0_pay36 (F := Ideal) (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread x1) (harg2.unread x2) (harg3.unread x3) (harg4.unread x4) (harg5.unread x5) (harg6.unread x6) (harg7.unread x7) (harg8.unread x8) (harg9.unread x9) (harg10.unread x10) (harg11.unread x11) (harg12.unread x12) (harg18.unread x18) (harg19.unread x19) (harg20.unread x20) (harg21.unread x21) (harg22.unread x22) (harg23.unread x23) (harg25.unread x25) (k0_pay34 (F := Ideal) (View.readAt (Elt Ideal) arg0.view (Rect.unit (s := S256x128) ![0, 0] S256x128.size inb_S256x128_S256x128_0_0).toLoadRect (harg0.unread x0)) (View.readAt (Elt Ideal) arg17.view (Rect.unit (s := S1x128) ![0, 0] S1x128.size inb_S1x128_S1x128_0_0).toLoadRect (harg17.unread x17))) (Scf.trips k0_t1_loop.lb k0_t1_loop.ub k0_t1_loop.st)) (View.readAt (Elt Ideal) arg13.view (Rect.unit (s := S1x16) ![0, 0] S1x16.size inb_S1x16_S1x16_0_0).toLoadRect (harg13.unread x13)) (View.readAt (Elt Ideal) arg14.view (Rect.unit (s := S1x16) ![0, 0] S1x16.size inb_S1x16_S1x16_0_0).toLoadRect (harg14.unread x14)) (View.readAt (Elt Ideal) arg22.view (Rect.unit (s := S128x128) ![0, 0] S128x128.size inb_S128x128_S128x128_0_0).toLoadRect (harg22.unread x22)) (View.readAt (Elt Ideal) arg22.view (Rect.unit (s := S128x128) ![0, 0] S128x128.size inb_S128x128_S128x128_0_0).toLoadRect (harg22.unread x22)) (View.readAt (Elt Ideal) arg24.view (Rect.unit (s := S128x128) ![0, 0] S128x128.size inb_S128x128_S128x128_0_0).toLoadRect (harg24.unread x24)) (View.readAt (Elt Ideal) arg15.view (Rect.unit (s := S128x96) ![0, 0] S128x96.size inb_S128x96_S128x96_0_0).toLoadRect (harg15.unread x15))) (View.readAt (Elt Ideal) arg16.view (Rect.unit (s := S1x96) ![0, 0] S1x96.size inb_S1x96_S1x96_0_0).toLoadRect (harg16.unread x16))) (ix2 b f) := by
  have h := cover0_A_26 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24 x25
  unfold out0_A_26
  rw [piece_run] at h ⊢
  generalize k0_pay1 (F := Ideal) (k0_pay36 (F := Ideal) (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread x1) (harg2.unread x2) (harg3.unread x3) (harg4.unread x4) (harg5.unread x5) (harg6.unread x6) (harg7.unread x7) (harg8.unread x8) (harg9.unread x9) (harg10.unread x10) (harg11.unread x11) (harg12.unread x12) (harg18.unread x18) (harg19.unread x19) (harg20.unread x20) (harg21.unread x21) (harg22.unread x22) (harg23.unread x23) (harg25.unread x25) (k0_pay34 (F := Ideal) (View.readAt (Elt Ideal) arg0.view (Rect.unit (s := S256x128) ![0, 0] S256x128.size inb_S256x128_S256x128_0_0).toLoadRect (harg0.unread x0)) (View.readAt (Elt Ideal) arg17.view (Rect.unit (s := S1x128) ![0, 0] S1x128.size inb_S1x128_S1x128_0_0).toLoadRect (harg17.unread x17))) (Scf.trips k0_t1_loop.lb k0_t1_loop.ub k0_t1_loop.st)) (View.readAt (Elt Ideal) arg13.view (Rect.unit (s := S1x16) ![0, 0] S1x16.size inb_S1x16_S1x16_0_0).toLoadRect (harg13.unread x13)) (View.readAt (Elt Ideal) arg14.view (Rect.unit (s := S1x16) ![0, 0] S1x16.size inb_S1x16_S1x16_0_0).toLoadRect (harg14.unread x14)) (View.readAt (Elt Ideal) arg22.view (Rect.unit (s := S128x128) ![0, 0] S128x128.size inb_S128x128_S128x128_0_0).toLoadRect (harg22.unread x22)) (View.readAt (Elt Ideal) arg22.view (Rect.unit (s := S128x128) ![0, 0] S128x128.size inb_S128x128_S128x128_0_0).toLoadRect (harg22.unread x22)) (View.readAt (Elt Ideal) arg24.view (Rect.unit (s := S128x128) ![0, 0] S128x128.size inb_S128x128_S128x128_0_0).toLoadRect (harg24.unread x24)) (View.readAt (Elt Ideal) arg15.view (Rect.unit (s := S128x96) ![0, 0] S128x96.size inb_S128x96_S128x96_0_0).toLoadRect (harg15.unread x15))) (View.readAt (Elt Ideal) arg16.view (Rect.unit (s := S1x96) ![0, 0] S1x96.size inb_S1x96_S1x96_0_0).toLoadRect (harg16.unread x16)) = Z at h ⊢
  refine (View.read_writes_apply_eq_canon _ _ _ _ (h _)).trans ?_
  refine View.canon_apply_of_pieces (Val := Elt Ideal) (e := .f32) Z _ ?_ _ (h _)
  intro p hp z
  obtain rfl := List.mem_singleton.mp hp
  refine congrArg Z (funext fun a => Fin.ext ?_)
  fin_cases a
  · change (z 0).val = 0 + 1 * (z 0).val; omega
  · change (z 1).val = 0 + 1 * (z 1).val; omega

/-- The result block's entries, of real operands. -/
theorem out_real (w : Fin 3 → Weights) (tb : Tables x18 x20 x19 x21 x22 x23 x25)
    (h1 : ∀ l a e, x1 (ix3 l a e) = ((w l).wq a e : EReal))
    (h2 : ∀ l a e, x2 (ix3 l a e) = ((w l).wk a e : EReal))
    (h3 : ∀ l a e, x3 (ix3 l a e) = ((w l).wv a e : EReal))
    (h4 : ∀ l a e, x4 (ix3 l a e) = ((w l).wo a e : EReal))
    (h5 : ∀ l a e, x5 (ix3 l a e) = ((w l).w1 a e : EReal))
    (h6 : ∀ l a, x6 (ix2 l a) = ((w l).b1 a : EReal))
    (h7 : ∀ l a e, x7 (ix3 l a e) = ((w l).w2 a e : EReal))
    (h8 : ∀ l a, x8 (ix2 l a) = ((w l).b2 a : EReal))
    (h9 : ∀ l a, x9 (ix2 l a) = ((w l).g1 a : EReal))
    (h10 : ∀ l a, x10 (ix2 l a) = ((w l).c1 a : EReal))
    (h11 : ∀ l a, x11 (ix2 l a) = ((w l).g2 a : EReal))
    (h12 : ∀ l a, x12 (ix2 l a) = ((w l).c2 a : EReal))
    (b : Fin 256) (X Q : Tok) (h0 : Holds x0 b X) (h17 : ∀ i a, x17 (ix2 0 (lane i a)) = (Q i a : EReal))
    (g' c' : Fin 16 → ℝ) (h13 : ∀ a, x13 (ix2 0 a) = (g' a : EReal)) (h14 : ∀ a, x14 (ix2 0 a) = (c' a : EReal))
    (h24 : ∀ i a n, x24 (ix2 (lane i a) n) = (bit (across i a = n) : EReal))
    (W' : Fin 128 → Fin 96 → ℝ) (h15 : ∀ n f, x15 (ix2 n f) = (W' n f : EReal))
    (v' : Fin 96 → ℝ) (h16 : ∀ f, x16 (ix2 0 f) = (v' f : EReal)) (f : Fin 96) :
    out0_A_26 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24 x25 (ix2 b f)
      = (out (layer (w 2) (layer (w 1) (layer (w 0) (fun i a => X i a + Q i a)))) g' c' W' v' f : EReal) := by
  rw [out_run, read_all harg13, read_all harg14, read_all harg22, read_all harg24, read_all harg15, read_all harg16, read_all harg0, read_all harg17]
  exact out_row tb _ b _ (three_row c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x1 x2 x3 x4 x5 x6 x7 x8 x9 x10 x11 x12 x18 x19 x20 x21 x22 x23 x25 _ w tb h1 h2 h3 h4 h5 h6 h7 h8 h9 h10 h11 h12 b _ (start_row x0 x17 b X Q h0 h17)) x13 x14 g' c' h13 h14 x24 h24 x15 W' h15 x16 v' h16 f

end

end Cert.Trans
-- ==== Proof.TabRows.lean ====
/-
  A fact of every row, out of the rows by sixteens.
-/
module

public import proofs.«01_k».proof.Proof.Gen.SecondIdeal.Launch
public import Idealize.ShloMosaic.Lib.Pointwise

@[expose] public section

noncomputable section

namespace Cert.Trans

/-- What holds of each sixteen rows holds of all 128. -/
theorem rows_128 (P : Fin 128 → Prop) (h0 : ∀ r : Fin 16, P ⟨0 + r.val, by omega⟩) (h1 : ∀ r : Fin 16, P ⟨16 + r.val, by omega⟩) (h2 : ∀ r : Fin 16, P ⟨32 + r.val, by omega⟩) (h3 : ∀ r : Fin 16, P ⟨48 + r.val, by omega⟩) (h4 : ∀ r : Fin 16, P ⟨64 + r.val, by omega⟩) (h5 : ∀ r : Fin 16, P ⟨80 + r.val, by omega⟩) (h6 : ∀ r : Fin 16, P ⟨96 + r.val, by omega⟩) (h7 : ∀ r : Fin 16, P ⟨112 + r.val, by omega⟩) : ∀ x, P x := by
  intro x
  have hx : x.val / 16 = 0 ∨ x.val / 16 = 1 ∨ x.val / 16 = 2 ∨ x.val / 16 = 3 ∨ x.val / 16 = 4 ∨ x.val / 16 = 5 ∨ x.val / 16 = 6 ∨ x.val / 16 = 7 := by omega
  rcases hx with h | h | h | h | h | h | h | h
  · rw [show x = ⟨0 + (⟨x.val % 16, by omega⟩ : Fin 16).val, by simp only []; omega⟩ from Fin.ext (by simp only []; omega)]
    exact h0 _
  · rw [show x = ⟨16 + (⟨x.val % 16, by omega⟩ : Fin 16).val, by simp only []; omega⟩ from Fin.ext (by simp only []; omega)]
    exact h1 _
  · rw [show x = ⟨32 + (⟨x.val % 16, by omega⟩ : Fin 16).val, by simp only []; omega⟩ from Fin.ext (by simp only []; omega)]
    exact h2 _
  · rw [show x = ⟨48 + (⟨x.val % 16, by omega⟩ : Fin 16).val, by simp only []; omega⟩ from Fin.ext (by simp only []; omega)]
    exact h3 _
  · rw [show x = ⟨64 + (⟨x.val % 16, by omega⟩ : Fin 16).val, by simp only []; omega⟩ from Fin.ext (by simp only []; omega)]
    exact h4 _
  · rw [show x = ⟨80 + (⟨x.val % 16, by omega⟩ : Fin 16).val, by simp only []; omega⟩ from Fin.ext (by simp only []; omega)]
    exact h5 _
  · rw [show x = ⟨96 + (⟨x.val % 16, by omega⟩ : Fin 16).val, by simp only []; omega⟩ from Fin.ext (by simp only []; omega)]
    exact h6 _
  · rw [show x = ⟨112 + (⟨x.val % 16, by omega⟩ : Fin 16).val, by simp only []; omega⟩ from Fin.ext (by simp only []; omega)]
    exact h7 _

/-- What holds of each sixteen rows holds of all 64. -/
theorem rows_64 (P : Fin 64 → Prop) (h0 : ∀ r : Fin 16, P ⟨0 + r.val, by omega⟩) (h1 : ∀ r : Fin 16, P ⟨16 + r.val, by omega⟩) (h2 : ∀ r : Fin 16, P ⟨32 + r.val, by omega⟩) (h3 : ∀ r : Fin 16, P ⟨48 + r.val, by omega⟩) : ∀ x, P x := by
  intro x
  have hx : x.val / 16 = 0 ∨ x.val / 16 = 1 ∨ x.val / 16 = 2 ∨ x.val / 16 = 3 := by omega
  rcases hx with h | h | h | h
  · rw [show x = ⟨0 + (⟨x.val % 16, by omega⟩ : Fin 16).val, by simp only []; omega⟩ from Fin.ext (by simp only []; omega)]
    exact h0 _
  · rw [show x = ⟨16 + (⟨x.val % 16, by omega⟩ : Fin 16).val, by simp only []; omega⟩ from Fin.ext (by simp only []; omega)]
    exact h1 _
  · rw [show x = ⟨32 + (⟨x.val % 16, by omega⟩ : Fin 16).val, by simp only []; omega⟩ from Fin.ext (by simp only []; omega)]
    exact h2 _
  · rw [show x = ⟨48 + (⟨x.val % 16, by omega⟩ : Fin 16).val, by simp only []; omega⟩ from Fin.ext (by simp only []; omega)]
    exact h3 _

end Cert.Trans
-- ==== Proof.TabHead.lean ====
/-
  The words of the table that spreads the channels over the heads.
-/
module

public import proofs.«01_k».proof.Proof.TabRows

@[expose] public section

set_option Elab.async false

noncomputable section

namespace Cert.Trans

open Idealize.ShloMosaic Cert.SecondIdeal Cert.SecondIdeal.Gen

set_option maxHeartbeats 4000000 in
/-- Rows 0 to 15. -/
theorem head_word_0 : ∀ (r : Fin 16) (y : Fin 64), lit0 (S128x64.rowMajor (ix2 ⟨0 + r.val, by omega⟩ y)) = if (0 + r.val) / 16 = y.val % 8 ∧ (0 + r.val) % 16 / 2 = y.val / 8 then 0x3F800000#32 else 0x00000000#32 := by
  decide +kernel

set_option maxHeartbeats 4000000 in
/-- Rows 16 to 31. -/
theorem head_word_1 : ∀ (r : Fin 16) (y : Fin 64), lit0 (S128x64.rowMajor (ix2 ⟨16 + r.val, by omega⟩ y)) = if (16 + r.val) / 16 = y.val % 8 ∧ (16 + r.val) % 16 / 2 = y.val / 8 then 0x3F800000#32 else 0x00000000#32 := by
  decide +kernel

set_option maxHeartbeats 4000000 in
/-- Rows 32 to 47. -/
theorem head_word_2 : ∀ (r : Fin 16) (y : Fin 64), lit0 (S128x64.rowMajor (ix2 ⟨32 + r.val, by omega⟩ y)) = if (32 + r.val) / 16 = y.val % 8 ∧ (32 + r.val) % 16 / 2 = y.val / 8 then 0x3F800000#32 else 0x00000000#32 := by
  decide +kernel

set_option maxHeartbeats 4000000 in
/-- Rows 48 to 63. -/
theorem head_word_3 : ∀ (r : Fin 16) (y : Fin 64), lit0 (S128x64.rowMajor (ix2 ⟨48 + r.val, by omega⟩ y)) = if (48 + r.val) / 16 = y.val % 8 ∧ (48 + r.val) % 16 / 2 = y.val / 8 then 0x3F800000#32 else 0x00000000#32 := by
  decide +kernel

set_option maxHeartbeats 4000000 in
/-- Rows 64 to 79. -/
theorem head_word_4 : ∀ (r : Fin 16) (y : Fin 64), lit0 (S128x64.rowMajor (ix2 ⟨64 + r.val, by omega⟩ y)) = if (64 + r.val) / 16 = y.val % 8 ∧ (64 + r.val) % 16 / 2 = y.val / 8 then 0x3F800000#32 else 0x00000000#32 := by
  decide +kernel

set_option maxHeartbeats 4000000 in
/-- Rows 80 to 95. -/
theorem head_word_5 : ∀ (r : Fin 16) (y : Fin 64), lit0 (S128x64.rowMajor (ix2 ⟨80 + r.val, by omega⟩ y)) = if (80 + r.val) / 16 = y.val % 8 ∧ (80 + r.val) % 16 / 2 = y.val / 8 then 0x3F800000#32 else 0x00000000#32 := by
  decide +kernel

set_option maxHeartbeats 4000000 in
/-- Rows 96 to 111. -/
theorem head_word_6 : ∀ (r : Fin 16) (y : Fin 64), lit0 (S128x64.rowMajor (ix2 ⟨96 + r.val, by omega⟩ y)) = if (96 + r.val) / 16 = y.val % 8 ∧ (96 + r.val) % 16 / 2 = y.val / 8 then 0x3F800000#32 else 0x00000000#32 := by
  decide +kernel

set_option maxHeartbeats 4000000 in
/-- Rows 112 to 127. -/
theorem head_word_7 : ∀ (r : Fin 16) (y : Fin 64), lit0 (S128x64.rowMajor (ix2 ⟨112 + r.val, by omega⟩ y)) = if (112 + r.val) / 16 = y.val % 8 ∧ (112 + r.val) % 16 / 2 = y.val / 8 then 0x3F800000#32 else 0x00000000#32 := by
  decide +kernel

/-- The words of the table that spreads the channels over the heads. -/
theorem head_word (x : Fin 128) (y : Fin 64) : lit0 (S128x64.rowMajor (ix2 x y)) = if x.val / 16 = y.val % 8 ∧ x.val % 16 / 2 = y.val / 8 then 0x3F800000#32 else 0x00000000#32 :=
  rows_128 (fun x => lit0 (S128x64.rowMajor (ix2 x y)) = if x.val / 16 = y.val % 8 ∧ x.val % 16 / 2 = y.val / 8 then 0x3F800000#32 else 0x00000000#32)
    (fun r => head_word_0 r y) (fun r => head_word_1 r y) (fun r => head_word_2 r y) (fun r => head_word_3 r y) (fun r => head_word_4 r y) (fun r => head_word_5 r y) (fun r => head_word_6 r y) (fun r => head_word_7 r y) x

end Cert.Trans
-- ==== Proof.TabMerge.lean ====
/-
  The words of the table that spreads the heads over the channels.
-/
module

public import proofs.«01_k».proof.Proof.TabRows

@[expose] public section

set_option Elab.async false

noncomputable section

namespace Cert.Trans

open Idealize.ShloMosaic Cert.SecondIdeal Cert.SecondIdeal.Gen

set_option maxHeartbeats 4000000 in
/-- Rows 0 to 15. -/
theorem merge_word_0 : ∀ (r : Fin 16) (y : Fin 128), lit1 (S64x128.rowMajor (ix2 ⟨0 + r.val, by omega⟩ y)) = if y.val / 16 = (0 + r.val) % 8 ∧ y.val % 16 / 2 = (0 + r.val) / 8 then 0x3F800000#32 else 0x00000000#32 := by
  decide +kernel

set_option maxHeartbeats 4000000 in
/-- Rows 16 to 31. -/
theorem merge_word_1 : ∀ (r : Fin 16) (y : Fin 128), lit1 (S64x128.rowMajor (ix2 ⟨16 + r.val, by omega⟩ y)) = if y.val / 16 = (16 + r.val) % 8 ∧ y.val % 16 / 2 = (16 + r.val) / 8 then 0x3F800000#32 else 0x00000000#32 := by
  decide +kernel

set_option maxHeartbeats 4000000 in
/-- Rows 32 to 47. -/
theorem merge_word_2 : ∀ (r : Fin 16) (y : Fin 128), lit1 (S64x128.rowMajor (ix2 ⟨32 + r.val, by omega⟩ y)) = if y.val / 16 = (32 + r.val) % 8 ∧ y.val % 16 / 2 = (32 + r.val) / 8 then 0x3F800000#32 else 0x00000000#32 := by
  decide +kernel

set_option maxHeartbeats 4000000 in
/-- Rows 48 to 63. -/
theorem merge_word_3 : ∀ (r : Fin 16) (y : Fin 128), lit1 (S64x128.rowMajor (ix2 ⟨48 + r.val, by omega⟩ y)) = if y.val / 16 = (48 + r.val) % 8 ∧ y.val % 16 / 2 = (48 + r.val) / 8 then 0x3F800000#32 else 0x00000000#32 := by
  decide +kernel

/-- The words of the table that spreads the heads over the channels. -/
theorem merge_word (x : Fin 64) (y : Fin 128) : lit1 (S64x128.rowMajor (ix2 x y)) = if y.val / 16 = x.val % 8 ∧ y.val % 16 / 2 = x.val / 8 then 0x3F800000#32 else 0x00000000#32 :=
  rows_64 (fun x => lit1 (S64x128.rowMajor (ix2 x y)) = if y.val / 16 = x.val % 8 ∧ y.val % 16 / 2 = x.val / 8 then 0x3F800000#32 else 0x00000000#32)
    (fun r => merge_word_0 r y) (fun r => merge_word_1 r y) (fun r => merge_word_2 r y) (fun r => merge_word_3 r y) x

end Cert.Trans
-- ==== Proof.TabMean.lean ====
/-
  The words of the table that averages a token.
-/
module

public import proofs.«01_k».proof.Proof.TabRows

@[expose] public section

set_option Elab.async false

noncomputable section

namespace Cert.Trans

open Idealize.ShloMosaic Cert.SecondIdeal Cert.SecondIdeal.Gen

set_option maxHeartbeats 4000000 in
/-- Rows 0 to 15. -/
theorem mean_word_0 : ∀ (r : Fin 16) (y : Fin 128), lit4 (S128x128.rowMajor (ix2 ⟨0 + r.val, by omega⟩ y)) = if (0 + r.val) / 16 = y.val / 16 then 0x3D800000#32 else 0x00000000#32 := by
  decide +kernel

set_option maxHeartbeats 4000000 in
/-- Rows 16 to 31. -/
theorem mean_word_1 : ∀ (r : Fin 16) (y : Fin 128), lit4 (S128x128.rowMajor (ix2 ⟨16 + r.val, by omega⟩ y)) = if (16 + r.val) / 16 = y.val / 16 then 0x3D800000#32 else 0x00000000#32 := by
  decide +kernel

set_option maxHeartbeats 4000000 in
/-- Rows 32 to 47. -/
theorem mean_word_2 : ∀ (r : Fin 16) (y : Fin 128), lit4 (S128x128.rowMajor (ix2 ⟨32 + r.val, by omega⟩ y)) = if (32 + r.val) / 16 = y.val / 16 then 0x3D800000#32 else 0x00000000#32 := by
  decide +kernel

set_option maxHeartbeats 4000000 in
/-- Rows 48 to 63. -/
theorem mean_word_3 : ∀ (r : Fin 16) (y : Fin 128), lit4 (S128x128.rowMajor (ix2 ⟨48 + r.val, by omega⟩ y)) = if (48 + r.val) / 16 = y.val / 16 then 0x3D800000#32 else 0x00000000#32 := by
  decide +kernel

set_option maxHeartbeats 4000000 in
/-- Rows 64 to 79. -/
theorem mean_word_4 : ∀ (r : Fin 16) (y : Fin 128), lit4 (S128x128.rowMajor (ix2 ⟨64 + r.val, by omega⟩ y)) = if (64 + r.val) / 16 = y.val / 16 then 0x3D800000#32 else 0x00000000#32 := by
  decide +kernel

set_option maxHeartbeats 4000000 in
/-- Rows 80 to 95. -/
theorem mean_word_5 : ∀ (r : Fin 16) (y : Fin 128), lit4 (S128x128.rowMajor (ix2 ⟨80 + r.val, by omega⟩ y)) = if (80 + r.val) / 16 = y.val / 16 then 0x3D800000#32 else 0x00000000#32 := by
  decide +kernel

set_option maxHeartbeats 4000000 in
/-- Rows 96 to 111. -/
theorem mean_word_6 : ∀ (r : Fin 16) (y : Fin 128), lit4 (S128x128.rowMajor (ix2 ⟨96 + r.val, by omega⟩ y)) = if (96 + r.val) / 16 = y.val / 16 then 0x3D800000#32 else 0x00000000#32 := by
  decide +kernel

set_option maxHeartbeats 4000000 in
/-- Rows 112 to 127. -/
theorem mean_word_7 : ∀ (r : Fin 16) (y : Fin 128), lit4 (S128x128.rowMajor (ix2 ⟨112 + r.val, by omega⟩ y)) = if (112 + r.val) / 16 = y.val / 16 then 0x3D800000#32 else 0x00000000#32 := by
  decide +kernel

/-- The words of the table that averages a token. -/
theorem mean_word (x : Fin 128) (y : Fin 128) : lit4 (S128x128.rowMajor (ix2 x y)) = if x.val / 16 = y.val / 16 then 0x3D800000#32 else 0x00000000#32 :=
  rows_128 (fun x => lit4 (S128x128.rowMajor (ix2 x y)) = if x.val / 16 = y.val / 16 then 0x3D800000#32 else 0x00000000#32)
    (fun r => mean_word_0 r y) (fun r => mean_word_1 r y) (fun r => mean_word_2 r y) (fun r => mean_word_3 r y) (fun r => mean_word_4 r y) (fun r => mean_word_5 r y) (fun r => mean_word_6 r y) (fun r => mean_word_7 r y) x

end Cert.Trans
-- ==== Proof.TabBlock.lean ====
/-
  The words of the table that keeps a token to itself.
-/
module

public import proofs.«01_k».proof.Proof.TabRows

@[expose] public section

set_option Elab.async false

noncomputable section

namespace Cert.Trans

open Idealize.ShloMosaic Cert.SecondIdeal Cert.SecondIdeal.Gen

set_option maxHeartbeats 4000000 in
/-- Rows 0 to 15. -/
theorem block_word_0 : ∀ (r : Fin 16) (y : Fin 128), lit5 (S128x128.rowMajor (ix2 ⟨0 + r.val, by omega⟩ y)) = if (0 + r.val) / 16 = y.val / 16 then 0x3F800000#32 else 0x00000000#32 := by
  decide +kernel

set_option maxHeartbeats 4000000 in
/-- Rows 16 to 31. -/
theorem block_word_1 : ∀ (r : Fin 16) (y : Fin 128), lit5 (S128x128.rowMajor (ix2 ⟨16 + r.val, by omega⟩ y)) = if (16 + r.val) / 16 = y.val / 16 then 0x3F800000#32 else 0x00000000#32 := by
  decide +kernel

set_option maxHeartbeats 4000000 in
/-- Rows 32 to 47. -/
theorem block_word_2 : ∀ (r : Fin 16) (y : Fin 128), lit5 (S128x128.rowMajor (ix2 ⟨32 + r.val, by omega⟩ y)) = if (32 + r.val) / 16 = y.val / 16 then 0x3F800000#32 else 0x00000000#32 := by
  decide +kernel

set_option maxHeartbeats 4000000 in
/-- Rows 48 to 63. -/
theorem block_word_3 : ∀ (r : Fin 16) (y : Fin 128), lit5 (S128x128.rowMajor (ix2 ⟨48 + r.val, by omega⟩ y)) = if (48 + r.val) / 16 = y.val / 16 then 0x3F800000#32 else 0x00000000#32 := by
  decide +kernel

set_option maxHeartbeats 4000000 in
/-- Rows 64 to 79. -/
theorem block_word_4 : ∀ (r : Fin 16) (y : Fin 128), lit5 (S128x128.rowMajor (ix2 ⟨64 + r.val, by omega⟩ y)) = if (64 + r.val) / 16 = y.val / 16 then 0x3F800000#32 else 0x00000000#32 := by
  decide +kernel

set_option maxHeartbeats 4000000 in
/-- Rows 80 to 95. -/
theorem block_word_5 : ∀ (r : Fin 16) (y : Fin 128), lit5 (S128x128.rowMajor (ix2 ⟨80 + r.val, by omega⟩ y)) = if (80 + r.val) / 16 = y.val / 16 then 0x3F800000#32 else 0x00000000#32 := by
  decide +kernel

set_option maxHeartbeats 4000000 in
/-- Rows 96 to 111. -/
theorem block_word_6 : ∀ (r : Fin 16) (y : Fin 128), lit5 (S128x128.rowMajor (ix2 ⟨96 + r.val, by omega⟩ y)) = if (96 + r.val) / 16 = y.val / 16 then 0x3F800000#32 else 0x00000000#32 := by
  decide +kernel

set_option maxHeartbeats 4000000 in
/-- Rows 112 to 127. -/
theorem block_word_7 : ∀ (r : Fin 16) (y : Fin 128), lit5 (S128x128.rowMajor (ix2 ⟨112 + r.val, by omega⟩ y)) = if (112 + r.val) / 16 = y.val / 16 then 0x3F800000#32 else 0x00000000#32 := by
  decide +kernel

/-- The words of the table that keeps a token to itself. -/
theorem block_word (x : Fin 128) (y : Fin 128) : lit5 (S128x128.rowMajor (ix2 x y)) = if x.val / 16 = y.val / 16 then 0x3F800000#32 else 0x00000000#32 :=
  rows_128 (fun x => lit5 (S128x128.rowMajor (ix2 x y)) = if x.val / 16 = y.val / 16 then 0x3F800000#32 else 0x00000000#32)
    (fun r => block_word_0 r y) (fun r => block_word_1 r y) (fun r => block_word_2 r y) (fun r => block_word_3 r y) (fun r => block_word_4 r y) (fun r => block_word_5 r y) (fun r => block_word_6 r y) (fun r => block_word_7 r y) x

end Cert.Trans
-- ==== Proof.TabPerm.lean ====
/-
  The words of the table that puts the channels outermost.
-/
module

public import proofs.«01_k».proof.Proof.TabRows

@[expose] public section

set_option Elab.async false

noncomputable section

namespace Cert.Trans

open Idealize.ShloMosaic Cert.SecondIdeal Cert.SecondIdeal.Gen

set_option maxHeartbeats 4000000 in
/-- Rows 0 to 15. -/
theorem perm_word_0 : ∀ (r : Fin 16) (y : Fin 128), lit6 (S128x128.rowMajor (ix2 ⟨0 + r.val, by omega⟩ y)) = if 8 * ((0 + r.val) % 16) + (0 + r.val) / 16 = y.val then 0x3F800000#32 else 0x00000000#32 := by
  decide +kernel

set_option maxHeartbeats 4000000 in
/-- Rows 16 to 31. -/
theorem perm_word_1 : ∀ (r : Fin 16) (y : Fin 128), lit6 (S128x128.rowMajor (ix2 ⟨16 + r.val, by omega⟩ y)) = if 8 * ((16 + r.val) % 16) + (16 + r.val) / 16 = y.val then 0x3F800000#32 else 0x00000000#32 := by
  decide +kernel

set_option maxHeartbeats 4000000 in
/-- Rows 32 to 47. -/
theorem perm_word_2 : ∀ (r : Fin 16) (y : Fin 128), lit6 (S128x128.rowMajor (ix2 ⟨32 + r.val, by omega⟩ y)) = if 8 * ((32 + r.val) % 16) + (32 + r.val) / 16 = y.val then 0x3F800000#32 else 0x00000000#32 := by
  decide +kernel

set_option maxHeartbeats 4000000 in
/-- Rows 48 to 63. -/
theorem perm_word_3 : ∀ (r : Fin 16) (y : Fin 128), lit6 (S128x128.rowMajor (ix2 ⟨48 + r.val, by omega⟩ y)) = if 8 * ((48 + r.val) % 16) + (48 + r.val) / 16 = y.val then 0x3F800000#32 else 0x00000000#32 := by
  decide +kernel

set_option maxHeartbeats 4000000 in
/-- Rows 64 to 79. -/
theorem perm_word_4 : ∀ (r : Fin 16) (y : Fin 128), lit6 (S128x128.rowMajor (ix2 ⟨64 + r.val, by omega⟩ y)) = if 8 * ((64 + r.val) % 16) + (64 + r.val) / 16 = y.val then 0x3F800000#32 else 0x00000000#32 := by
  decide +kernel

set_option maxHeartbeats 4000000 in
/-- Rows 80 to 95. -/
theorem perm_word_5 : ∀ (r : Fin 16) (y : Fin 128), lit6 (S128x128.rowMajor (ix2 ⟨80 + r.val, by omega⟩ y)) = if 8 * ((80 + r.val) % 16) + (80 + r.val) / 16 = y.val then 0x3F800000#32 else 0x00000000#32 := by
  decide +kernel

set_option maxHeartbeats 4000000 in
/-- Rows 96 to 111. -/
theorem perm_word_6 : ∀ (r : Fin 16) (y : Fin 128), lit6 (S128x128.rowMajor (ix2 ⟨96 + r.val, by omega⟩ y)) = if 8 * ((96 + r.val) % 16) + (96 + r.val) / 16 = y.val then 0x3F800000#32 else 0x00000000#32 := by
  decide +kernel

set_option maxHeartbeats 4000000 in
/-- Rows 112 to 127. -/
theorem perm_word_7 : ∀ (r : Fin 16) (y : Fin 128), lit6 (S128x128.rowMajor (ix2 ⟨112 + r.val, by omega⟩ y)) = if 8 * ((112 + r.val) % 16) + (112 + r.val) / 16 = y.val then 0x3F800000#32 else 0x00000000#32 := by
  decide +kernel

/-- The words of the table that puts the channels outermost. -/
theorem perm_word (x : Fin 128) (y : Fin 128) : lit6 (S128x128.rowMajor (ix2 x y)) = if 8 * (x.val % 16) + x.val / 16 = y.val then 0x3F800000#32 else 0x00000000#32 :=
  rows_128 (fun x => lit6 (S128x128.rowMajor (ix2 x y)) = if 8 * (x.val % 16) + x.val / 16 = y.val then 0x3F800000#32 else 0x00000000#32)
    (fun r => perm_word_0 r y) (fun r => perm_word_1 r y) (fun r => perm_word_2 r y) (fun r => perm_word_3 r y) (fun r => perm_word_4 r y) (fun r => perm_word_5 r y) (fun r => perm_word_6 r y) (fun r => perm_word_7 r y) x

end Cert.Trans
-- ==== Proof.TabSmall.lean ====
/-
  The words of the three smaller tables.
-/
module

public import proofs.«01_k».proof.Proof.TabRows

@[expose] public section

set_option Elab.async false

noncomputable section

namespace Cert.Trans

open Idealize.ShloMosaic Cert.SecondIdeal Cert.SecondIdeal.Gen

set_option maxHeartbeats 4000000 in
/-- Rows 0 to 15. -/
theorem group_word_0 : ∀ (r : Fin 16) (y : Fin 64), lit2 (S64x64.rowMajor (ix2 ⟨0 + r.val, by omega⟩ y)) = if (0 + r.val) / 8 = y.val / 8 then 0x3F800000#32 else 0x00000000#32 := by
  decide +kernel

set_option maxHeartbeats 4000000 in
/-- Rows 16 to 31. -/
theorem group_word_1 : ∀ (r : Fin 16) (y : Fin 64), lit2 (S64x64.rowMajor (ix2 ⟨16 + r.val, by omega⟩ y)) = if (16 + r.val) / 8 = y.val / 8 then 0x3F800000#32 else 0x00000000#32 := by
  decide +kernel

set_option maxHeartbeats 4000000 in
/-- Rows 32 to 47. -/
theorem group_word_2 : ∀ (r : Fin 16) (y : Fin 64), lit2 (S64x64.rowMajor (ix2 ⟨32 + r.val, by omega⟩ y)) = if (32 + r.val) / 8 = y.val / 8 then 0x3F800000#32 else 0x00000000#32 := by
  decide +kernel

set_option maxHeartbeats 4000000 in
/-- Rows 48 to 63. -/
theorem group_word_3 : ∀ (r : Fin 16) (y : Fin 64), lit2 (S64x64.rowMajor (ix2 ⟨48 + r.val, by omega⟩ y)) = if (48 + r.val) / 8 = y.val / 8 then 0x3F800000#32 else 0x00000000#32 := by
  decide +kernel

/-- The words of the table that sums over a head. -/
theorem group_word (x : Fin 64) (y : Fin 64) : lit2 (S64x64.rowMajor (ix2 x y)) = if x.val / 8 = y.val / 8 then 0x3F800000#32 else 0x00000000#32 :=
  rows_64 (fun x => lit2 (S64x64.rowMajor (ix2 x y)) = if x.val / 8 = y.val / 8 then 0x3F800000#32 else 0x00000000#32)
    (fun r => group_word_0 r y) (fun r => group_word_1 r y) (fun r => group_word_2 r y) (fun r => group_word_3 r y) x

set_option maxHeartbeats 4000000 in
/-- Rows 0 to 15. -/
theorem fold_word_0 : ∀ (r : Fin 16) (y : Fin 16), lit3 (S128x16.rowMajor (ix2 ⟨0 + r.val, by omega⟩ y)) = if (0 + r.val) % 16 = y.val then 0x3F800000#32 else 0x00000000#32 := by
  decide +kernel

set_option maxHeartbeats 4000000 in
/-- Rows 16 to 31. -/
theorem fold_word_1 : ∀ (r : Fin 16) (y : Fin 16), lit3 (S128x16.rowMajor (ix2 ⟨16 + r.val, by omega⟩ y)) = if (16 + r.val) % 16 = y.val then 0x3F800000#32 else 0x00000000#32 := by
  decide +kernel

set_option maxHeartbeats 4000000 in
/-- Rows 32 to 47. -/
theorem fold_word_2 : ∀ (r : Fin 16) (y : Fin 16), lit3 (S128x16.rowMajor (ix2 ⟨32 + r.val, by omega⟩ y)) = if (32 + r.val) % 16 = y.val then 0x3F800000#32 else 0x00000000#32 := by
  decide +kernel

set_option maxHeartbeats 4000000 in
/-- Rows 48 to 63. -/
theorem fold_word_3 : ∀ (r : Fin 16) (y : Fin 16), lit3 (S128x16.rowMajor (ix2 ⟨48 + r.val, by omega⟩ y)) = if (48 + r.val) % 16 = y.val then 0x3F800000#32 else 0x00000000#32 := by
  decide +kernel

set_option maxHeartbeats 4000000 in
/-- Rows 64 to 79. -/
theorem fold_word_4 : ∀ (r : Fin 16) (y : Fin 16), lit3 (S128x16.rowMajor (ix2 ⟨64 + r.val, by omega⟩ y)) = if (64 + r.val) % 16 = y.val then 0x3F800000#32 else 0x00000000#32 := by
  decide +kernel

set_option maxHeartbeats 4000000 in
/-- Rows 80 to 95. -/
theorem fold_word_5 : ∀ (r : Fin 16) (y : Fin 16), lit3 (S128x16.rowMajor (ix2 ⟨80 + r.val, by omega⟩ y)) = if (80 + r.val) % 16 = y.val then 0x3F800000#32 else 0x00000000#32 := by
  decide +kernel

set_option maxHeartbeats 4000000 in
/-- Rows 96 to 111. -/
theorem fold_word_6 : ∀ (r : Fin 16) (y : Fin 16), lit3 (S128x16.rowMajor (ix2 ⟨96 + r.val, by omega⟩ y)) = if (96 + r.val) % 16 = y.val then 0x3F800000#32 else 0x00000000#32 := by
  decide +kernel

set_option maxHeartbeats 4000000 in
/-- Rows 112 to 127. -/
theorem fold_word_7 : ∀ (r : Fin 16) (y : Fin 16), lit3 (S128x16.rowMajor (ix2 ⟨112 + r.val, by omega⟩ y)) = if (112 + r.val) % 16 = y.val then 0x3F800000#32 else 0x00000000#32 := by
  decide +kernel

/-- The words of the table that adds the tokens up. -/
theorem fold_word (x : Fin 128) (y : Fin 16) : lit3 (S128x16.rowMajor (ix2 x y)) = if x.val % 16 = y.val then 0x3F800000#32 else 0x00000000#32 :=
  rows_128 (fun x => lit3 (S128x16.rowMajor (ix2 x y)) = if x.val % 16 = y.val then 0x3F800000#32 else 0x00000000#32)
    (fun r => fold_word_0 r y) (fun r => fold_word_1 r y) (fun r => fold_word_2 r y) (fun r => fold_word_3 r y) (fun r => fold_word_4 r y) (fun r => fold_word_5 r y) (fun r => fold_word_6 r y) (fun r => fold_word_7 r y) x

set_option maxHeartbeats 4000000 in
/-- The words of the table that repeats a matrix for the tokens. -/
theorem tile_word : ∀ (x : Fin 16) (y : Fin 128), lit7 (S16x128.rowMajor (ix2 x y)) = if x.val = y.val % 16 then 0x3F800000#32 else 0x00000000#32 := by
  decide +kernel

end Cert.Trans
-- ==== Proof.TransHost.lean ====
/-
  What the second call's launch finds in its operands.
-/
module

public import proofs.«01_k».proof.Proof.SecondFrame
public import proofs.«01_k».proof.Proof.TransRows
public import proofs.«01_k».proof.Proof.TabHead
public import proofs.«01_k».proof.Proof.TabMerge
public import proofs.«01_k».proof.Proof.TabMean
public import proofs.«01_k».proof.Proof.TabBlock
public import proofs.«01_k».proof.Proof.TabPerm
public import proofs.«01_k».proof.Proof.TabSmall
public import Idealize.ShloMosaic.Lib.StableHlo.ReadAt
public import Idealize.ShloMosaic.Lib.Pipeline.ValueKit

@[expose] public section

noncomputable section

namespace Cert.Trans

open Idealize.ShloMosaic Idealize.ShloMosaic.TcCoe Cert.SecondIdeal Cert.SecondIdeal.Gen

/-- A table's entry: one or zero. -/
theorem word_bit {p q : Prop} [Decidable p] [Decidable q] (h : p ↔ q) : Ideal.ofBits .f32 (if p then 0x3F800000#32 else 0x00000000#32) = (bit q : EReal) := by
  unfold bit
  by_cases hp : p
  · rw [if_pos hp, if_pos (h.1 hp), word_one]
  · rw [if_neg hp, if_neg (fun hq => hp (h.2 hq)), word_zero]

/-- A table's entry: a sixteenth or zero. -/
theorem word_part {p q : Prop} [Decidable p] [Decidable q] (h : p ↔ q) : Ideal.ofBits .f32 (if p then 0x3D800000#32 else 0x00000000#32) = ((bit q * (1 / 16) : ℝ) : EReal) := by
  unfold bit
  by_cases hp : p
  · rw [if_pos hp, if_pos (h.1 hp), word_sixteenth, one_mul]
  · rw [if_neg hp, if_neg (fun hq => hp (h.2 hq)), word_zero, zero_mul]

variable (m : (ℓ : Loc nD τ sig) → Buf (Elt Ideal) ℓ) (c : Dev nD)

/-- The input's rows. -/
theorem host_rows (b : Fin 256) (n : Fin 128) :
    (V m c main_v0 : S256x128.Idx → EReal) (ix2 b n) = (m ((c : Thread nD τ).loc main_arg0) : S16x16x128.Idx → EReal) (ix3 (⟨b.val / 16, by omega⟩ : Fin 16) (⟨b.val % 16, by omega⟩ : Fin 16) n) := by
  unfold V
  after_reads_at

/-- The last norm's gains. -/
theorem host_gain (a : Fin 16) : (V m c main_v1 : S1x16.Idx → EReal) (ix2 0 a) = (m ((c : Thread nD τ).loc main_arg14) : S16.Idx → EReal) (ix1 a) := by
  unfold V
  after_reads_at

/-- The last norm's shifts. -/
theorem host_shift (a : Fin 16) : (V m c main_v2 : S1x16.Idx → EReal) (ix2 0 a) = (m ((c : Thread nD τ).loc main_arg15) : S16.Idx → EReal) (ix1 a) := by
  unfold V
  after_reads_at

/-- The linear map's shifts. -/
theorem host_bias (f : Fin 96) : (V m c main_v3 : S1x96.Idx → EReal) (ix2 0 f) = (m ((c : Thread nD τ).loc main_arg17) : S96.Idx → EReal) (ix1 f) := by
  unfold V
  after_reads_at

/-- The positional row. -/
theorem host_place (i : Fin 8) (a : Fin 16) : (V m c main_v4 : S1x128.Idx → EReal) (ix2 0 (lane i a)) = (m ((c : Thread nD τ).loc main_arg1) : S8x16.Idx → EReal) (ix2 i a) := by
  unfold V
  after_reads_at
  refine congrArg _ ?_
  unfold lane
  congr 1 <;> exact Fin.ext (by simp <;> omega)

/-- A table's entries. -/
theorem host_r (j : Fin 8) (a : Fin 16) (h j' : Fin 8) : (V m c main_cst : S128x64.Idx → EReal) (ix2 (lane j a) (cell h j')) = (bit (j = j' ∧ head a = h) : EReal) := by
  unfold V
  after_reads_at
  rw [head_word]
  exact word_bit (by simp only [lane, cell, head, across, Fin.ext_iff]; omega)

/-- A table's entries. -/
theorem host_e (h j j' : Fin 8) (a : Fin 16) : (V m c main_cst_0 : S64x128.Idx → EReal) (ix2 (cell h j) (lane j' a)) = (bit (j = j' ∧ head a = h) : EReal) := by
  unfold V
  after_reads_at
  rw [merge_word]
  exact word_bit (by simp only [lane, cell, head, across, Fin.ext_iff]; omega)

/-- A table's entries. -/
theorem host_g (h j h' j' : Fin 8) : (V m c main_cst_1 : S64x64.Idx → EReal) (ix2 (cell h j) (cell h' j')) = (bit (h = h') : EReal) := by
  unfold V
  after_reads_at
  rw [group_word]
  exact word_bit (by simp only [lane, cell, head, across, Fin.ext_iff]; omega)

/-- A table's entries. -/
theorem host_f (i : Fin 8) (a c' : Fin 16) : (V m c main_cst_2 : S128x16.Idx → EReal) (ix2 (lane i a) c') = (bit (a = c') : EReal) := by
  unfold V
  after_reads_at
  rw [fold_word]
  exact word_bit (by simp only [lane, cell, head, across, Fin.ext_iff]; omega)

/-- A table's entries. -/
theorem host_m (j : Fin 8) (a' : Fin 16) (i : Fin 8) (a : Fin 16) : (V m c main_cst_3 : S128x128.Idx → EReal) (ix2 (lane j a') (lane i a)) = ((bit (j = i) * (1 / 16) : ℝ) : EReal) := by
  unfold V
  after_reads_at
  rw [mean_word]
  exact word_part (by simp only [lane, cell, head, across, Fin.ext_iff]; omega)

/-- A table's entries. -/
theorem host_b (j : Fin 8) (a' : Fin 16) (i : Fin 8) (a : Fin 16) : (V m c main_cst_4 : S128x128.Idx → EReal) (ix2 (lane j a') (lane i a)) = (bit (j = i) : EReal) := by
  unfold V
  after_reads_at
  rw [block_word]
  exact word_bit (by simp only [lane, cell, head, across, Fin.ext_iff]; omega)

/-- A table's entries. -/
theorem host_p (i : Fin 8) (a : Fin 16) (n : Fin 128) : (V m c main_cst_5 : S128x128.Idx → EReal) (ix2 (lane i a) n) = (bit (across i a = n) : EReal) := by
  unfold V
  after_reads_at
  rw [perm_word]
  exact word_bit (by simp only [lane, cell, head, across, Fin.ext_iff]; omega)

/-- A table's entries. -/
theorem host_t (x : Fin 16) (i : Fin 8) (a : Fin 16) : (V m c main_cst_6 : S16x128.Idx → EReal) (ix2 x (lane i a)) = (bit (x = a) : EReal) := by
  unfold V
  after_reads_at
  rw [tile_word]
  exact word_bit (by simp only [lane, cell, head, across, Fin.ext_iff]; omega)

end Cert.Trans
-- ==== Proof.TransRead.lean ====
/-
  The blocks that the second call reads and writes are the whole arrays.
-/
module

public import proofs.«01_k».proof.Proof.SecondFrame
public import Idealize.ShloMosaic.Lib.Pipeline.ValueKit

@[expose] public section

noncomputable section

namespace Cert.Trans

open Idealize.ShloMosaic Idealize.ShloMosaic.TcCoe Cert.SecondIdeal Cert.SecondIdeal.Gen

/-- Operand 0 has one block. -/
theorem index_0 : ∀ t : Fin cfg0.N, win0_0.index t = ![0, 0] := (by decide +kernel : ∀ t : Fin grid0.N, _)
/-- Operand 1 has one block. -/
theorem index_1 : ∀ t : Fin cfg0.N, win0_1.index t = ![0, 0, 0] := (by decide +kernel : ∀ t : Fin grid0.N, _)
/-- Operand 2 has one block. -/
theorem index_2 : ∀ t : Fin cfg0.N, win0_2.index t = ![0, 0, 0] := (by decide +kernel : ∀ t : Fin grid0.N, _)
/-- Operand 3 has one block. -/
theorem index_3 : ∀ t : Fin cfg0.N, win0_3.index t = ![0, 0, 0] := (by decide +kernel : ∀ t : Fin grid0.N, _)
/-- Operand 4 has one block. -/
theorem index_4 : ∀ t : Fin cfg0.N, win0_4.index t = ![0, 0, 0] := (by decide +kernel : ∀ t : Fin grid0.N, _)
/-- Operand 5 has one block. -/
theorem index_5 : ∀ t : Fin cfg0.N, win0_5.index t = ![0, 0, 0] := (by decide +kernel : ∀ t : Fin grid0.N, _)
/-- Operand 6 has one block. -/
theorem index_6 : ∀ t : Fin cfg0.N, win0_6.index t = ![0, 0] := (by decide +kernel : ∀ t : Fin grid0.N, _)
/-- Operand 7 has one block. -/
theorem index_7 : ∀ t : Fin cfg0.N, win0_7.index t = ![0, 0, 0] := (by decide +kernel : ∀ t : Fin grid0.N, _)
/-- Operand 8 has one block. -/
theorem index_8 : ∀ t : Fin cfg0.N, win0_8.index t = ![0, 0] := (by decide +kernel : ∀ t : Fin grid0.N, _)
/-- Operand 9 has one block. -/
theorem index_9 : ∀ t : Fin cfg0.N, win0_9.index t = ![0, 0] := (by decide +kernel : ∀ t : Fin grid0.N, _)
/-- Operand 10 has one block. -/
theorem index_10 : ∀ t : Fin cfg0.N, win0_10.index t = ![0, 0] := (by decide +kernel : ∀ t : Fin grid0.N, _)
/-- Operand 11 has one block. -/
theorem index_11 : ∀ t : Fin cfg0.N, win0_11.index t = ![0, 0] := (by decide +kernel : ∀ t : Fin grid0.N, _)
/-- Operand 12 has one block. -/
theorem index_12 : ∀ t : Fin cfg0.N, win0_12.index t = ![0, 0] := (by decide +kernel : ∀ t : Fin grid0.N, _)
/-- Operand 13 has one block. -/
theorem index_13 : ∀ t : Fin cfg0.N, win0_13.index t = ![0, 0] := (by decide +kernel : ∀ t : Fin grid0.N, _)
/-- Operand 14 has one block. -/
theorem index_14 : ∀ t : Fin cfg0.N, win0_14.index t = ![0, 0] := (by decide +kernel : ∀ t : Fin grid0.N, _)
/-- Operand 15 has one block. -/
theorem index_15 : ∀ t : Fin cfg0.N, win0_15.index t = ![0, 0] := (by decide +kernel : ∀ t : Fin grid0.N, _)
/-- Operand 16 has one block. -/
theorem index_16 : ∀ t : Fin cfg0.N, win0_16.index t = ![0, 0] := (by decide +kernel : ∀ t : Fin grid0.N, _)
/-- Operand 17 has one block. -/
theorem index_17 : ∀ t : Fin cfg0.N, win0_17.index t = ![0, 0] := (by decide +kernel : ∀ t : Fin grid0.N, _)
/-- Operand 18 has one block. -/
theorem index_18 : ∀ t : Fin cfg0.N, win0_18.index t = ![0, 0] := (by decide +kernel : ∀ t : Fin grid0.N, _)
/-- Operand 19 has one block. -/
theorem index_19 : ∀ t : Fin cfg0.N, win0_19.index t = ![0, 0] := (by decide +kernel : ∀ t : Fin grid0.N, _)
/-- Operand 20 has one block. -/
theorem index_20 : ∀ t : Fin cfg0.N, win0_20.index t = ![0, 0] := (by decide +kernel : ∀ t : Fin grid0.N, _)
/-- Operand 21 has one block. -/
theorem index_21 : ∀ t : Fin cfg0.N, win0_21.index t = ![0, 0] := (by decide +kernel : ∀ t : Fin grid0.N, _)
/-- Operand 22 has one block. -/
theorem index_22 : ∀ t : Fin cfg0.N, win0_22.index t = ![0, 0] := (by decide +kernel : ∀ t : Fin grid0.N, _)
/-- Operand 23 has one block. -/
theorem index_23 : ∀ t : Fin cfg0.N, win0_23.index t = ![0, 0] := (by decide +kernel : ∀ t : Fin grid0.N, _)
/-- Operand 24 has one block. -/
theorem index_24 : ∀ t : Fin cfg0.N, win0_24.index t = ![0, 0] := (by decide +kernel : ∀ t : Fin grid0.N, _)
/-- Operand 25 has one block. -/
theorem index_25 : ∀ t : Fin cfg0.N, win0_25.index t = ![0, 0] := (by decide +kernel : ∀ t : Fin grid0.N, _)
/-- Operand 26 has one block. -/
theorem index_26 : ∀ t : Fin cfg0.N, win0_26.index t = ![0, 0] := (by decide +kernel : ∀ t : Fin grid0.N, _)

variable (m : (ℓ : Loc nD τ sig) → Buf (Elt Ideal) ℓ) (c : Dev nD)

/-- Operand 0's block is the array. -/
theorem read_0 (t : Fin cfg0.N) : (iblk m c 0 t : S256x128.Idx → EReal) = (V m c main_v0 : S256x128.Idx → EReal) := by
  simp only [iblk]
  generalize V m c = W
  funext y
  idx_vars y
  blk_ext [index_0]

/-- Operand 1's block is the array. -/
theorem read_1 (t : Fin cfg0.N) : (iblk m c 1 t : S3x16x16.Idx → EReal) = (V m c main_arg2 : S3x16x16.Idx → EReal) := by
  simp only [iblk]
  generalize V m c = W
  funext y
  idx_vars y
  blk_ext [index_1]

/-- Operand 2's block is the array. -/
theorem read_2 (t : Fin cfg0.N) : (iblk m c 2 t : S3x16x16.Idx → EReal) = (V m c main_arg3 : S3x16x16.Idx → EReal) := by
  simp only [iblk]
  generalize V m c = W
  funext y
  idx_vars y
  blk_ext [index_2]

/-- Operand 3's block is the array. -/
theorem read_3 (t : Fin cfg0.N) : (iblk m c 3 t : S3x16x16.Idx → EReal) = (V m c main_arg4 : S3x16x16.Idx → EReal) := by
  simp only [iblk]
  generalize V m c = W
  funext y
  idx_vars y
  blk_ext [index_3]

/-- Operand 4's block is the array. -/
theorem read_4 (t : Fin cfg0.N) : (iblk m c 4 t : S3x16x16.Idx → EReal) = (V m c main_arg5 : S3x16x16.Idx → EReal) := by
  simp only [iblk]
  generalize V m c = W
  funext y
  idx_vars y
  blk_ext [index_4]

/-- Operand 5's block is the array. -/
theorem read_5 (t : Fin cfg0.N) : (iblk m c 5 t : S3x16x256.Idx → EReal) = (V m c main_arg6 : S3x16x256.Idx → EReal) := by
  simp only [iblk]
  generalize V m c = W
  funext y
  idx_vars y
  blk_ext [index_5]

/-- Operand 6's block is the array. -/
theorem read_6 (t : Fin cfg0.N) : (iblk m c 6 t : S3x256.Idx → EReal) = (V m c main_arg7 : S3x256.Idx → EReal) := by
  simp only [iblk]
  generalize V m c = W
  funext y
  idx_vars y
  blk_ext [index_6]

/-- Operand 7's block is the array. -/
theorem read_7 (t : Fin cfg0.N) : (iblk m c 7 t : S3x256x16.Idx → EReal) = (V m c main_arg8 : S3x256x16.Idx → EReal) := by
  simp only [iblk]
  generalize V m c = W
  funext y
  idx_vars y
  blk_ext [index_7]

/-- Operand 8's block is the array. -/
theorem read_8 (t : Fin cfg0.N) : (iblk m c 8 t : S3x16.Idx → EReal) = (V m c main_arg9 : S3x16.Idx → EReal) := by
  simp only [iblk]
  generalize V m c = W
  funext y
  idx_vars y
  blk_ext [index_8]

/-- Operand 9's block is the array. -/
theorem read_9 (t : Fin cfg0.N) : (iblk m c 9 t : S3x16.Idx → EReal) = (V m c main_arg10 : S3x16.Idx → EReal) := by
  simp only [iblk]
  generalize V m c = W
  funext y
  idx_vars y
  blk_ext [index_9]

/-- Operand 10's block is the array. -/
theorem read_10 (t : Fin cfg0.N) : (iblk m c 10 t : S3x16.Idx → EReal) = (V m c main_arg11 : S3x16.Idx → EReal) := by
  simp only [iblk]
  generalize V m c = W
  funext y
  idx_vars y
  blk_ext [index_10]

/-- Operand 11's block is the array. -/
theorem read_11 (t : Fin cfg0.N) : (iblk m c 11 t : S3x16.Idx → EReal) = (V m c main_arg12 : S3x16.Idx → EReal) := by
  simp only [iblk]
  generalize V m c = W
  funext y
  idx_vars y
  blk_ext [index_11]

/-- Operand 12's block is the array. -/
theorem read_12 (t : Fin cfg0.N) : (iblk m c 12 t : S3x16.Idx → EReal) = (V m c main_arg13 : S3x16.Idx → EReal) := by
  simp only [iblk]
  generalize V m c = W
  funext y
  idx_vars y
  blk_ext [index_12]

/-- Operand 13's block is the array. -/
theorem read_13 (t : Fin cfg0.N) : (iblk m c 13 t : S1x16.Idx → EReal) = (V m c main_v1 : S1x16.Idx → EReal) := by
  simp only [iblk]
  generalize V m c = W
  funext y
  idx_vars y
  blk_ext [index_13]

/-- Operand 14's block is the array. -/
theorem read_14 (t : Fin cfg0.N) : (iblk m c 14 t : S1x16.Idx → EReal) = (V m c main_v2 : S1x16.Idx → EReal) := by
  simp only [iblk]
  generalize V m c = W
  funext y
  idx_vars y
  blk_ext [index_14]

/-- Operand 15's block is the array. -/
theorem read_15 (t : Fin cfg0.N) : (iblk m c 15 t : S128x96.Idx → EReal) = (V m c main_arg16 : S128x96.Idx → EReal) := by
  simp only [iblk]
  generalize V m c = W
  funext y
  idx_vars y
  blk_ext [index_15]

/-- Operand 16's block is the array. -/
theorem read_16 (t : Fin cfg0.N) : (iblk m c 16 t : S1x96.Idx → EReal) = (V m c main_v3 : S1x96.Idx → EReal) := by
  simp only [iblk]
  generalize V m c = W
  funext y
  idx_vars y
  blk_ext [index_16]

/-- Operand 17's block is the array. -/
theorem read_17 (t : Fin cfg0.N) : (iblk m c 17 t : S1x128.Idx → EReal) = (V m c main_v4 : S1x128.Idx → EReal) := by
  simp only [iblk]
  generalize V m c = W
  funext y
  idx_vars y
  blk_ext [index_17]

/-- Operand 18's block is the array. -/
theorem read_18 (t : Fin cfg0.N) : (iblk m c 18 t : S128x64.Idx → EReal) = (V m c main_cst : S128x64.Idx → EReal) := by
  simp only [iblk]
  generalize V m c = W
  funext y
  idx_vars y
  blk_ext [index_18]

/-- Operand 19's block is the array. -/
theorem read_19 (t : Fin cfg0.N) : (iblk m c 19 t : S64x128.Idx → EReal) = (V m c main_cst_0 : S64x128.Idx → EReal) := by
  simp only [iblk]
  generalize V m c = W
  funext y
  idx_vars y
  blk_ext [index_19]

/-- Operand 20's block is the array. -/
theorem read_20 (t : Fin cfg0.N) : (iblk m c 20 t : S64x64.Idx → EReal) = (V m c main_cst_1 : S64x64.Idx → EReal) := by
  simp only [iblk]
  generalize V m c = W
  funext y
  idx_vars y
  blk_ext [index_20]

/-- Operand 21's block is the array. -/
theorem read_21 (t : Fin cfg0.N) : (iblk m c 21 t : S128x16.Idx → EReal) = (V m c main_cst_2 : S128x16.Idx → EReal) := by
  simp only [iblk]
  generalize V m c = W
  funext y
  idx_vars y
  blk_ext [index_21]

/-- Operand 22's block is the array. -/
theorem read_22 (t : Fin cfg0.N) : (iblk m c 22 t : S128x128.Idx → EReal) = (V m c main_cst_3 : S128x128.Idx → EReal) := by
  simp only [iblk]
  generalize V m c = W
  funext y
  idx_vars y
  blk_ext [index_22]

/-- Operand 23's block is the array. -/
theorem read_23 (t : Fin cfg0.N) : (iblk m c 23 t : S128x128.Idx → EReal) = (V m c main_cst_4 : S128x128.Idx → EReal) := by
  simp only [iblk]
  generalize V m c = W
  funext y
  idx_vars y
  blk_ext [index_23]

/-- Operand 24's block is the array. -/
theorem read_24 (t : Fin cfg0.N) : (iblk m c 24 t : S128x128.Idx → EReal) = (V m c main_cst_5 : S128x128.Idx → EReal) := by
  simp only [iblk]
  generalize V m c = W
  funext y
  idx_vars y
  blk_ext [index_24]

/-- Operand 25's block is the array. -/
theorem read_25 (t : Fin cfg0.N) : (iblk m c 25 t : S16x128.Idx → EReal) = (V m c main_cst_6 : S16x128.Idx → EReal) := by
  simp only [iblk]
  generalize V m c = W
  funext y
  idx_vars y
  blk_ext [index_25]

/-- Where the result's block lies in the array. -/
theorem place_26 (t : Fin cfg0.N) (y : S256x96.Idx) : ((win0_26.blk t).view.emb y : S256x96.Idx) = y := by
  idx_vars y
  blk_ext [index_26]

end Cert.Trans
-- ==== Proof.TransSpec.lean ====
/-
  The transformer as a function of the arrays.
-/
module

public import proofs.«01_k».proof.Proof.TransReal

@[expose] public section

noncomputable section

namespace Cert.Trans

open Idealize.ShloMosaic

/-- One layer's weights, out of the arrays. -/
def weights (x2 : (⟨3, ![3, 16, 16]⟩ : Shape).Idx → EReal) (x3 : (⟨3, ![3, 16, 16]⟩ : Shape).Idx → EReal) (x4 : (⟨3, ![3, 16, 16]⟩ : Shape).Idx → EReal) (x5 : (⟨3, ![3, 16, 16]⟩ : Shape).Idx → EReal) (x6 : (⟨3, ![3, 16, 256]⟩ : Shape).Idx → EReal) (x7 : (⟨2, ![3, 256]⟩ : Shape).Idx → EReal) (x8 : (⟨3, ![3, 256, 16]⟩ : Shape).Idx → EReal) (x9 : (⟨2, ![3, 16]⟩ : Shape).Idx → EReal) (x10 : (⟨2, ![3, 16]⟩ : Shape).Idx → EReal) (x11 : (⟨2, ![3, 16]⟩ : Shape).Idx → EReal) (x12 : (⟨2, ![3, 16]⟩ : Shape).Idx → EReal) (x13 : (⟨2, ![3, 16]⟩ : Shape).Idx → EReal) (l : Fin 3) : Weights :=
  { wq := fun a e => (x2 (ix3 l a e)).toReal, wk := fun a e => (x3 (ix3 l a e)).toReal, wv := fun a e => (x4 (ix3 l a e)).toReal, wo := fun a e => (x5 (ix3 l a e)).toReal, w1 := fun a e => (x6 (ix3 l a e)).toReal, b1 := fun a => (x7 (ix2 l a)).toReal, w2 := fun a e => (x8 (ix3 l a e)).toReal, b2 := fun a => (x9 (ix2 l a)).toReal, g1 := fun a => (x10 (ix2 l a)).toReal, c1 := fun a => (x11 (ix2 l a)).toReal, g2 := fun a => (x12 (ix2 l a)).toReal, c2 := fun a => (x13 (ix2 l a)).toReal }

/-- A row's tokens, out of the array. -/
def tokens (x0 : (⟨3, ![16, 16, 128]⟩ : Shape).Idx → EReal) (b : Fin 256) : Tok := fun i a => (x0 (ix3 (⟨b.val / 16, by omega⟩ : Fin 16) (⟨b.val % 16, by omega⟩ : Fin 16) (lane i a))).toReal

/-- A row's result. -/
def answer (x0 : (⟨3, ![16, 16, 128]⟩ : Shape).Idx → EReal) (x1 : (⟨2, ![8, 16]⟩ : Shape).Idx → EReal) (x2 : (⟨3, ![3, 16, 16]⟩ : Shape).Idx → EReal) (x3 : (⟨3, ![3, 16, 16]⟩ : Shape).Idx → EReal) (x4 : (⟨3, ![3, 16, 16]⟩ : Shape).Idx → EReal) (x5 : (⟨3, ![3, 16, 16]⟩ : Shape).Idx → EReal) (x6 : (⟨3, ![3, 16, 256]⟩ : Shape).Idx → EReal) (x7 : (⟨2, ![3, 256]⟩ : Shape).Idx → EReal) (x8 : (⟨3, ![3, 256, 16]⟩ : Shape).Idx → EReal) (x9 : (⟨2, ![3, 16]⟩ : Shape).Idx → EReal) (x10 : (⟨2, ![3, 16]⟩ : Shape).Idx → EReal) (x11 : (⟨2, ![3, 16]⟩ : Shape).Idx → EReal) (x12 : (⟨2, ![3, 16]⟩ : Shape).Idx → EReal) (x13 : (⟨2, ![3, 16]⟩ : Shape).Idx → EReal) (x14 : (⟨1, ![16]⟩ : Shape).Idx → EReal) (x15 : (⟨1, ![16]⟩ : Shape).Idx → EReal) (x16 : (⟨2, ![128, 96]⟩ : Shape).Idx → EReal) (x17 : (⟨1, ![96]⟩ : Shape).Idx → EReal) (b : Fin 256) (f : Fin 96) : ℝ :=
  out (layer (weights x2 x3 x4 x5 x6 x7 x8 x9 x10 x11 x12 x13 2) (layer (weights x2 x3 x4 x5 x6 x7 x8 x9 x10 x11 x12 x13 1) (layer (weights x2 x3 x4 x5 x6 x7 x8 x9 x10 x11 x12 x13 0) (fun i a => tokens x0 b i a + (x1 (ix2 i a)).toReal))))
    (fun a => (x14 (ix1 a)).toReal) (fun a => (x15 (ix1 a)).toReal) (fun n f => (x16 (ix2 n f)).toReal) (fun f => (x17 (ix1 f)).toReal) f

end Cert.Trans
-- ==== Proof.TransPre.lean ====
/-
  The precondition: every entry of every argument is a real.
-/
module

public import proofs.«01_k».proof.Proof.Gen.Pre_finite
public import proofs.«01_k».proof.Proof.TransReal
public import Idealize.ShloMosaic.Lib.ReduceAll

@[expose] public section

noncomputable section

namespace Cert.Trans

open Idealize.ShloMosaic Cert.Pre_finite Cert.Pre_finite.Gen

/-- Every entry is a real. -/
def Finite {s : Shape} (x : FVec Ideal s .f32) : Prop := ∀ i, (x i : EReal) = (((x i : EReal).toReal : ℝ) : EReal)

/-- An entry whose magnitude is below infinity is a real. -/
theorem real_of_abs (y : EReal) (h : Ideal.cmp .olt (max y (-y)) (Ideal.ofBits .f32 0x7F800000#32) = 1#1) : y = ((y.toReal : ℝ) : EReal) := by
  rw [word_top] at h
  have h' : max y (-y) < ⊤ := by
    by_contra hn
    simp [Ideal.cmp, hn] at h
  refine (EReal.coe_toReal ?_ ?_).symm
  · rintro rfl
    simp at h'
  · rintro rfl
    simp at h'

/-- One argument's part of the precondition. -/
theorem finite_of {s : Shape} {axes : List (Fin s.rank)} (x : FVec Ideal s .f32) (hb : S_.BroadcastsInDim s (![] : Fin 0 → Fin s.rank)) (hr : s.ReducesTo axes S_) (hn : 0 < S_.numel) (j : S_.Idx)
    (e : Host.reduce IntOp.andi (cmpf .olt (Host.absf x) (broadcastInDim s ![] hb (constant S_ .f32 0x7F800000#32))) (constantI S_ 1 1#1) hr hn j = 1#1) : Finite x := by
  haveI : Subsingleton S_.Idx := ⟨fun a b => funext fun i => i.elim0⟩
  exact fun i => real_of_abs _ (Host.reduce_andi_all _ _ hr hn j e i)

/-- The precondition's arguments have real entries. -/
theorem args_finite (x0 : FVec Ideal S16x16x128 .f32) (x1 : FVec Ideal S8x16 .f32) (x2 : FVec Ideal S3x16x16 .f32) (x3 : FVec Ideal S3x16x16 .f32) (x4 : FVec Ideal S3x16x16 .f32) (x5 : FVec Ideal S3x16x16 .f32) (x6 : FVec Ideal S3x16x256 .f32) (x7 : FVec Ideal S3x256 .f32) (x8 : FVec Ideal S3x256x16 .f32) (x9 : FVec Ideal S3x16 .f32) (x10 : FVec Ideal S3x16 .f32) (x11 : FVec Ideal S3x16 .f32) (x12 : FVec Ideal S3x16 .f32) (x13 : FVec Ideal S3x16 .f32) (x14 : FVec Ideal S16 .f32) (x15 : FVec Ideal S16 .f32) (x16 : FVec Ideal S128x96 .f32) (x17 : FVec Ideal S96 .f32) (h : Cert.Pre_finite.fn (F := Ideal) x0 x1 x2 x3 x4 x5 x6 x7 x8 x9 x10 x11 x12 x13 x14 x15 x16 x17 = fun _ => 1#1) :
    Finite x0 ∧ Finite x1 ∧ Finite x2 ∧ Finite x3 ∧ Finite x4 ∧ Finite x5 ∧ Finite x6 ∧ Finite x7 ∧ Finite x8 ∧ Finite x9 ∧ Finite x10 ∧ Finite x11 ∧ Finite x12 ∧ Finite x13 ∧ Finite x14 ∧ Finite x15 ∧ Finite x16 ∧ Finite x17 := by
  have andi_one (a b : BitVec 1) : IntOp.andi a b = 1#1 ↔ a = 1#1 ∧ b = 1#1 := by revert a b; decide
  have pre := congrFun h (fun i => i.elim0)
  simp only [Cert.Pre_finite.fn, fn_part1, fn_part2, fn_part3, fn_part4, fn_part5, andi, andi_one] at pre
  obtain ⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩ := pre
  exact ⟨finite_of x0 _ _ _ _ e0, finite_of x1 _ _ _ _ e1, finite_of x2 _ _ _ _ e2, finite_of x3 _ _ _ _ e3, finite_of x4 _ _ _ _ e4, finite_of x5 _ _ _ _ e5, finite_of x6 _ _ _ _ e6, finite_of x7 _ _ _ _ e7, finite_of x8 _ _ _ _ e8, finite_of x9 _ _ _ _ e9, finite_of x10 _ _ _ _ e10, finite_of x11 _ _ _ _ e11, finite_of x12 _ _ _ _ e12, finite_of x13 _ _ _ _ e13, finite_of x14 _ _ _ _ e14, finite_of x15 _ _ _ _ e15, finite_of x16 _ _ _ _ e16, finite_of x17 _ _ _ _ e17⟩

end Cert.Trans
-- ==== Proof.TransArray.lean ====
/-
  The second call's result is the transformer of the arrays' reals.
-/
module

public import proofs.«01_k».proof.Proof.TransOut
public import proofs.«01_k».proof.Proof.TransHost
public import proofs.«01_k».proof.Proof.TransRead
public import proofs.«01_k».proof.Proof.TransSpec
public import proofs.«01_k».proof.Proof.TransPre

@[expose] public section

noncomputable section

namespace Cert.Trans

open Idealize.ShloMosaic Idealize.ShloMosaic.TcCoe Cert.SecondIdeal Cert.SecondIdeal.Gen

variable (m : (ℓ : Loc nD τ sig) → Buf (Elt Ideal) ℓ) (c : Dev nD)

/-- The tables that the launch reads. -/
theorem host_tables (t : Fin cfg0.N) : Tables (iblk m c 18 t) (iblk m c 20 t) (iblk m c 19 t) (iblk m c 21 t) (iblk m c 22 t) (iblk m c 23 t) (iblk m c 25 t) :=
  ⟨fun p q r s => (congrFun (read_18 m c t) _).trans (host_r m c p q r s), fun p q r s => (congrFun (read_20 m c t) _).trans (host_g m c p q r s), fun p q r s => (congrFun (read_19 m c t) _).trans (host_e m c p q r s), fun p q r => (congrFun (read_21 m c t) _).trans (host_f m c p q r), fun p q r s => (congrFun (read_22 m c t) _).trans (host_m m c p q r s), fun p q r s => (congrFun (read_23 m c t) _).trans (host_b m c p q r s), fun p q r => (congrFun (read_25 m c t) _).trans (host_t m c p q r)⟩

/-- The launched arguments' result. -/
def launched : S256x96.Idx → EReal := fun i => (answer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (i 0) (i 1) : EReal)

/-- What the one point leaves in the result's block. -/
theorem out_block (e0 : Finite (m ((c : Thread nD τ).loc main_arg0) : FVec Ideal S16x16x128 .f32)) (e1 : Finite (m ((c : Thread nD τ).loc main_arg1) : FVec Ideal S8x16 .f32)) (e2 : Finite (m ((c : Thread nD τ).loc main_arg2) : FVec Ideal S3x16x16 .f32)) (e3 : Finite (m ((c : Thread nD τ).loc main_arg3) : FVec Ideal S3x16x16 .f32)) (e4 : Finite (m ((c : Thread nD τ).loc main_arg4) : FVec Ideal S3x16x16 .f32)) (e5 : Finite (m ((c : Thread nD τ).loc main_arg5) : FVec Ideal S3x16x16 .f32)) (e6 : Finite (m ((c : Thread nD τ).loc main_arg6) : FVec Ideal S3x16x256 .f32)) (e7 : Finite (m ((c : Thread nD τ).loc main_arg7) : FVec Ideal S3x256 .f32)) (e8 : Finite (m ((c : Thread nD τ).loc main_arg8) : FVec Ideal S3x256x16 .f32)) (e9 : Finite (m ((c : Thread nD τ).loc main_arg9) : FVec Ideal S3x16 .f32)) (e10 : Finite (m ((c : Thread nD τ).loc main_arg10) : FVec Ideal S3x16 .f32)) (e11 : Finite (m ((c : Thread nD τ).loc main_arg11) : FVec Ideal S3x16 .f32)) (e12 : Finite (m ((c : Thread nD τ).loc main_arg12) : FVec Ideal S3x16 .f32)) (e13 : Finite (m ((c : Thread nD τ).loc main_arg13) : FVec Ideal S3x16 .f32)) (e14 : Finite (m ((c : Thread nD τ).loc main_arg14) : FVec Ideal S16 .f32)) (e15 : Finite (m ((c : Thread nD τ).loc main_arg15) : FVec Ideal S16 .f32)) (e16 : Finite (m ((c : Thread nD τ).loc main_arg16) : FVec Ideal S128x96 .f32)) (e17 : Finite (m ((c : Thread nD τ).loc main_arg17) : FVec Ideal S96 .f32)) (t : Fin cfg0.N) (y : S256x96.Idx) :
    (outsAt0 m c t : S256x96.Idx → EReal) y = launched m c y := by
  idx_vars y
  unfold outsAt0
  exact out_real c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (weights (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (host_tables m c t)
    (fun l a e => (congrFun (read_1 m c t) _).trans ((congrFun (V_main_arg2 m c) _).trans (e2 _))) (fun l a e => (congrFun (read_2 m c t) _).trans ((congrFun (V_main_arg3 m c) _).trans (e3 _))) (fun l a e => (congrFun (read_3 m c t) _).trans ((congrFun (V_main_arg4 m c) _).trans (e4 _))) (fun l a e => (congrFun (read_4 m c t) _).trans ((congrFun (V_main_arg5 m c) _).trans (e5 _))) (fun l a e => (congrFun (read_5 m c t) _).trans ((congrFun (V_main_arg6 m c) _).trans (e6 _))) (fun l a => (congrFun (read_6 m c t) _).trans ((congrFun (V_main_arg7 m c) _).trans (e7 _))) (fun l a e => (congrFun (read_7 m c t) _).trans ((congrFun (V_main_arg8 m c) _).trans (e8 _))) (fun l a => (congrFun (read_8 m c t) _).trans ((congrFun (V_main_arg9 m c) _).trans (e9 _))) (fun l a => (congrFun (read_9 m c t) _).trans ((congrFun (V_main_arg10 m c) _).trans (e10 _))) (fun l a => (congrFun (read_10 m c t) _).trans ((congrFun (V_main_arg11 m c) _).trans (e11 _))) (fun l a => (congrFun (read_11 m c t) _).trans ((congrFun (V_main_arg12 m c) _).trans (e12 _))) (fun l a => (congrFun (read_12 m c t) _).trans ((congrFun (V_main_arg13 m c) _).trans (e13 _)))
    y0 (tokens (m ((c : Thread nD τ).loc main_arg0)) y0) (fun i a => (((m ((c : Thread nD τ).loc main_arg1)) : S8x16.Idx → EReal) (ix2 i a)).toReal)
    (fun i a => (congrFun (read_0 m c t) _).trans ((host_rows m c _ _).trans (e0 _)))
    (fun i a => (congrFun (read_17 m c t) _).trans ((host_place m c i a).trans (e1 _)))
    (fun a => (((m ((c : Thread nD τ).loc main_arg14)) : S16.Idx → EReal) (ix1 a)).toReal) (fun a => (((m ((c : Thread nD τ).loc main_arg15)) : S16.Idx → EReal) (ix1 a)).toReal)
    (fun a => (congrFun (read_13 m c t) _).trans ((host_gain m c a).trans (e14 _)))
    (fun a => (congrFun (read_14 m c t) _).trans ((host_shift m c a).trans (e15 _)))
    (fun i a n => (congrFun (read_24 m c t) _).trans (host_p m c i a n))
    (fun n f => (((m ((c : Thread nD τ).loc main_arg16)) : S128x96.Idx → EReal) (ix2 n f)).toReal)
    (fun n f => (congrFun (read_15 m c t) _).trans ((congrFun (V_main_arg16 m c) _).trans (e16 _)))
    (fun f => (((m ((c : Thread nD τ).loc main_arg17)) : S96.Idx → EReal) (ix1 f)).toReal)
    (fun f => (congrFun (read_16 m c t) _).trans ((host_bias m c f).trans (e17 _))) y1

/-- The result array. -/
theorem arr_launched (e0 : Finite (m ((c : Thread nD τ).loc main_arg0) : FVec Ideal S16x16x128 .f32)) (e1 : Finite (m ((c : Thread nD τ).loc main_arg1) : FVec Ideal S8x16 .f32)) (e2 : Finite (m ((c : Thread nD τ).loc main_arg2) : FVec Ideal S3x16x16 .f32)) (e3 : Finite (m ((c : Thread nD τ).loc main_arg3) : FVec Ideal S3x16x16 .f32)) (e4 : Finite (m ((c : Thread nD τ).loc main_arg4) : FVec Ideal S3x16x16 .f32)) (e5 : Finite (m ((c : Thread nD τ).loc main_arg5) : FVec Ideal S3x16x16 .f32)) (e6 : Finite (m ((c : Thread nD τ).loc main_arg6) : FVec Ideal S3x16x256 .f32)) (e7 : Finite (m ((c : Thread nD τ).loc main_arg7) : FVec Ideal S3x256 .f32)) (e8 : Finite (m ((c : Thread nD τ).loc main_arg8) : FVec Ideal S3x256x16 .f32)) (e9 : Finite (m ((c : Thread nD τ).loc main_arg9) : FVec Ideal S3x16 .f32)) (e10 : Finite (m ((c : Thread nD τ).loc main_arg10) : FVec Ideal S3x16 .f32)) (e11 : Finite (m ((c : Thread nD τ).loc main_arg11) : FVec Ideal S3x16 .f32)) (e12 : Finite (m ((c : Thread nD τ).loc main_arg12) : FVec Ideal S3x16 .f32)) (e13 : Finite (m ((c : Thread nD τ).loc main_arg13) : FVec Ideal S3x16 .f32)) (e14 : Finite (m ((c : Thread nD τ).loc main_arg14) : FVec Ideal S16 .f32)) (e15 : Finite (m ((c : Thread nD τ).loc main_arg15) : FVec Ideal S16 .f32)) (e16 : Finite (m ((c : Thread nD τ).loc main_arg16) : FVec Ideal S128x96 .f32)) (e17 : Finite (m ((c : Thread nD τ).loc main_arg17) : FVec Ideal S96 .f32)) : (dats m 0 c).arrAt 26 cfg0.N = launched m c := by
  refine (dats m 0 c).arrAt_eq_of_covers 26 _ (by decide +kernel) fun t hf y => ?_
  blk_simp
  rw [after0_26]
  exact (out_block m c e0 e1 e2 e3 e4 e5 e6 e7 e8 e9 e10 e11 e12 e13 e14 e15 e16 e17 t y).trans (congrArg (launched m c) (place_26 t y)).symm

end Cert.Trans
-- ==== Proof.TransRefOps.lean ====
/-
  The reference transformer's stages over any arrays, element by element.
-/
module

public import proofs.«01_k».proof.Proof.Gen.TransformerIdeal.Read
public import proofs.«01_k».proof.Proof.TransReal

@[expose] public section

noncomputable section

namespace Cert.Trans

open Idealize.ShloMosaic Cert.TransformerIdeal Cert.TransformerIdeal.Gen

/-- A product of every token with a matrix. -/
def dotR (x : FVec Ideal S256x8x16 .f32) (W : FVec Ideal S16x16 .f32) : FVec Ideal S256x8x16 .f32 :=
  Host.dotGeneral dot_S256x8x16_S16x16_S256x8x16_2_0_01_1_n_n none x W

/-- An entry of the product. -/
theorem dotR_at (x : FVec Ideal S256x8x16 .f32) (W : FVec Ideal S16x16 .f32) (b : Fin 256) (i : Fin 8) (a : Fin 16) :
    dotR x W (ix3 b i a) = ∑ c, x (ix3 b i c) * W (ix2 c a) := by
  pointwise [dotR]

/-- The channels of a head. -/
def chan (h : Fin 8) (d : Fin 2) : Fin 16 := ⟨h.val * 2 + d.val, by omega⟩

/-- The tokens of each head. -/
def headsR (q : FVec Ideal S256x8x16 .f32) : FVec Ideal S256x8x8x2 .f32 :=
  transpose S256x8x8x2 [0, 2, 1, 3] (shapeCast S256x8x8x2 q shapeCasts_S256x8x16_S256x8x8x2) transposes_S256x8x8x2_S256x8x8x2_0_2_1_3

/-- An entry of a head's token. -/
theorem headsR_at (q : FVec Ideal S256x8x16 .f32) (b : Fin 256) (h i : Fin 8) (d : Fin 2) :
    headsR q (ix4 b h i d) = q (ix3 b i (chan h d)) := by
  pointwise [headsR]
  rfl

/-- The scores. -/
def scoreR (q k : FVec Ideal S256x8x16 .f32) : FVec Ideal S256x8x8x8 .f32 :=
  Host.divf (Host.dotGeneral dot_S256x8x8x2_S256x8x2x8_S256x8x8x8_3_2_2_3_01_01 none (headsR q) (transpose S256x8x2x8 [0, 1, 3, 2] (headsR k) transposes_S256x8x8x2_S256x8x2x8_0_1_3_2))
    (broadcastInDim S256x8x8x8 ![] bcast_S_S256x8x8x8 (id (Host.sqrt (constant (F := Ideal) S_ .f32 0x40000000#32))))

/-- A score. -/
theorem scoreR_at (q k : FVec Ideal S256x8x16 .f32) (b : Fin 256) (h i j : Fin 8) :
    scoreR q k (ix4 b h i j) = Ideal.div (∑ d, q (ix3 b i (chan h d)) * k (ix3 b j (chan h d))) (Ideal.sqrt (Ideal.ofBits .f32 0x40000000#32)) := by
  have hq := headsR_at q
  have hk := headsR_at k
  pointwise [scoreR]
  simp only [hq, hk]
  rfl

/-- The largest score of a row. -/
def topR (s : FVec Ideal S256x8x8x8 .f32) : FVec Ideal S256x8x8 .f32 :=
  maximumf (broadcastInDim S256x8x8 ![] bcast_S_S256x8x8 (constant (F := Ideal) S_ .f32 0xFF800000#32))
    (Host.reduce FloatOps.maximumf s (constant (F := Ideal) S_ .f32 0xFF800000#32) reducesTo_S256x8x8x8_S256x8x8_d3 h_S_)

/-- The largest score of a row. -/
theorem topR_at (s : FVec Ideal S256x8x8x8 .f32) (b : Fin 256) (h i : Fin 8) :
    topR s (ix3 b h i) = max ⊥ (Finset.univ.fold max ⊥ fun j => s (ix4 b h i j)) := by
  pointwise [topR]
  rw [word_bot]

/-- The exponentials. -/
def expR (s : FVec Ideal S256x8x8x8 .f32) : FVec Ideal S256x8x8x8 .f32 :=
  Host.exp (subf s (broadcastInDim S256x8x8x8 ![0, 1, 2, 3] bcast_S256x8x8x1_S256x8x8x8_0_1_2_3 (broadcastInDim S256x8x8x1 ![0, 1, 2] bcast_S256x8x8_S256x8x8x1_0_1_2 (topR s))))

/-- An exponential. -/
theorem expR_at (s : FVec Ideal S256x8x8x8 .f32) (b : Fin 256) (h i j : Fin 8) :
    expR s (ix4 b h i j) = Ideal.exp (s (ix4 b h i j) - topR s (ix3 b h i)) := by
  pointwise [expR]

/-- The weights. -/
def shareR (e : FVec Ideal S256x8x8x8 .f32) : FVec Ideal S256x8x8x8 .f32 :=
  Host.divf e (broadcastInDim S256x8x8x8 ![0, 1, 2, 3] bcast_S256x8x8x1_S256x8x8x8_0_1_2_3 (broadcastInDim S256x8x8x1 ![0, 1, 2] bcast_S256x8x8_S256x8x8x1_0_1_2
    (Host.reduceAdd e (constant (F := Ideal) S_ .f32 0x00000000#32) reducesTo_S256x8x8x8_S256x8x8_d3 h_S_)))

/-- A weight. -/
theorem shareR_at (e : FVec Ideal S256x8x8x8 .f32) (b : Fin 256) (h i j : Fin 8) :
    shareR e (ix4 b h i j) = Ideal.div (e (ix4 b h i j)) (∑ j', e (ix4 b h i j')) := by
  pointwise [shareR]

/-- The weighted values. -/
def spreadR (p : FVec Ideal S256x8x8x8 .f32) (v : FVec Ideal S256x8x16 .f32) : FVec Ideal S256x8x16 .f32 :=
  shapeCast S256x8x16 (transpose S256x8x8x2 [0, 2, 1, 3] (Host.dotGeneral dot_S256x8x8x8_S256x8x8x2_S256x8x8x2_3_2_2_3_01_01 none p (headsR v)) transposes_S256x8x8x2_S256x8x8x2_0_2_1_3)
    shapeCasts_S256x8x8x2_S256x8x16

/-- A weighted value. -/
theorem spreadR_at (p : FVec Ideal S256x8x8x8 .f32) (v : FVec Ideal S256x8x16 .f32) (b : Fin 256) (i : Fin 8) (a : Fin 16) :
    spreadR p v (ix3 b i a) = ∑ j, p (ix4 b (head a) i j) * v (ix3 b j a) := by
  have hv := headsR_at v
  pointwise [spreadR]
  simp only [hv]
  refine Finset.sum_congr rfl fun j _ => ?_
  congr 3
  refine Fin.ext ?_
  change a.val / 2 * 2 + a.val % 2 = a.val
  omega

/-- The means of the tokens. -/
def meanR (x : FVec Ideal S256x8x16 .f32) : FVec Ideal S256x8x1 .f32 :=
  Host.divf (broadcastInDim S256x8x1 ![0, 1] bcast_S256x8_S256x8x1_0_1 (Host.reduceAdd x (constant (F := Ideal) S_ .f32 0x00000000#32) reducesTo_S256x8x16_S256x8_d2 h_S_))
    (broadcastInDim S256x8x1 ![] bcast_S_S256x8x1 (constant (F := Ideal) S_ .f32 0x41800000#32))

/-- A mean. -/
theorem meanR_at (x : FVec Ideal S256x8x16 .f32) (b : Fin 256) (i : Fin 8) :
    meanR x (ix3 b i 0) = Ideal.div (∑ a, x (ix3 b i a)) (Ideal.ofBits .f32 0x41800000#32) := by
  pointwise [meanR]

/-- The deviations of the tokens. -/
def devR (x : FVec Ideal S256x8x16 .f32) : FVec Ideal S256x8x16 .f32 :=
  subf x (broadcastInDim S256x8x16 ![0, 1, 2] bcast_S256x8x1_S256x8x16_0_1_2 (meanR x))

/-- A deviation. -/
theorem devR_at (x : FVec Ideal S256x8x16 .f32) (b : Fin 256) (i : Fin 8) (a : Fin 16) :
    devR x (ix3 b i a) = x (ix3 b i a) - meanR x (ix3 b i 0) := by
  pointwise [devR]

/-- The number of channels that a variance divides by. -/
def countR : FVec Ideal S_ .f32 := subf (constant (F := Ideal) S_ .f32 0x41800000#32) (sitofp .f32 (constantI S_ 32 0#32))

/-- The number is sixteen. -/
theorem countR_at (i : S_.Idx) : countR i = ((16 : ℝ) : EReal) := by
  have h : FloatOps.sitofp (F := Ideal) FTy.f32 (0#32) = ((0 : ℝ) : EReal) := by
    show (((0#32 : BitVec 32).toInt : ℝ) : EReal) = _
    simp
  change Ideal.ofBits .f32 0x41800000#32 - FloatOps.sitofp (F := Ideal) FTy.f32 (0#32) = _
  rw [h, word_sixteen, ← EReal.coe_sub, sub_zero]

/-- The variances of the tokens. -/
def varR (x : FVec Ideal S256x8x16 .f32) : FVec Ideal S256x8x1 .f32 :=
  select (broadcastInDim S256x8x1 ![] bcast_S_S256x8x1 (cmpf .ogt countR (constant (F := Ideal) S_ .f32 0x00000000#32)))
    (Host.divf (broadcastInDim S256x8x1 ![0, 1] bcast_S256x8_S256x8x1_0_1 (Host.reduceAdd (mulf (devR x) (devR x)) (constant (F := Ideal) S_ .f32 0x00000000#32) reducesTo_S256x8x16_S256x8_d2 h_S_))
      (broadcastInDim S256x8x1 ![] bcast_S_S256x8x1 countR))
    (broadcastInDim S256x8x1 ![] bcast_S_S256x8x1 (id (constant (F := Ideal) S_ .f32 0x7FC00000#32)))

/-- A variance. -/
theorem varR_at (x : FVec Ideal S256x8x16 .f32) (b : Fin 256) (i : Fin 8) :
    varR x (ix3 b i 0) = Ideal.div (∑ a, devR x (ix3 b i a) * devR x (ix3 b i a)) ((16 : ℝ) : EReal) := by
  have hc := countR_at
  pointwise [varR]
  simp only [hc]
  rw [if_pos (by exact_mod_cast (by norm_num : (0 : ℝ) < 16))]

/-- The norms of the tokens. -/
def normR (x : FVec Ideal S256x8x16 .f32) (g c : FVec Ideal S16 .f32) : FVec Ideal S256x8x16 .f32 :=
  addf (mulf (Host.divf (devR x) (broadcastInDim S256x8x16 ![0, 1, 2] bcast_S256x8x1_S256x8x16_0_1_2
      (Host.sqrt (addf (varR x) (broadcastInDim S256x8x1 ![] bcast_S_S256x8x1 (constant (F := Ideal) S_ .f32 0x3727C5AC#32))))))
    (broadcastInDim S256x8x16 ![0, 1, 2] bcast_S1x1x16_S256x8x16_0_1_2 (broadcastInDim S1x1x16 ![2] bcast_S16_S1x1x16_2 g)))
    (broadcastInDim S256x8x16 ![0, 1, 2] bcast_S1x1x16_S256x8x16_0_1_2 (broadcastInDim S1x1x16 ![2] bcast_S16_S1x1x16_2 c))

/-- An entry of a norm. -/
theorem normR_at (x : FVec Ideal S256x8x16 .f32) (g c : FVec Ideal S16 .f32) (b : Fin 256) (i : Fin 8) (a : Fin 16) :
    normR x g c (ix3 b i a)
      = Ideal.div (devR x (ix3 b i a)) (Ideal.sqrt (varR x (ix3 b i 0) + Ideal.ofBits .f32 0x3727C5AC#32)) * g (ix1 a) + c (ix1 a) := by
  pointwise [normR]

/-- The inner layer. -/
def innerR (x : FVec Ideal S256x8x16 .f32) (W1 : FVec Ideal S16x256 .f32) (B1 : FVec Ideal S256 .f32) : FVec Ideal S256x8x256 .f32 :=
  addf (Host.dotGeneral dot_S256x8x16_S16x256_S256x8x256_2_0_01_1_n_n none x W1)
    (broadcastInDim S256x8x256 ![0, 1, 2] bcast_S1x1x256_S256x8x256_0_1_2 (broadcastInDim S1x1x256 ![2] bcast_S256_S1x1x256_2 B1))

/-- An entry of the inner layer. -/
theorem innerR_at (x : FVec Ideal S256x8x16 .f32) (W1 : FVec Ideal S16x256 .f32) (B1 : FVec Ideal S256 .f32) (b : Fin 256) (i : Fin 8) (f : Fin 256) :
    innerR x W1 B1 (ix3 b i f) = ∑ a, x (ix3 b i a) * W1 (ix2 a f) + B1 (ix1 f) := by
  pointwise [innerR]

/-- The activation. -/
def geluR (y : FVec Ideal S256x8x256 .f32) : FVec Ideal S256x8x256 .f32 :=
  mulf y (mulf (broadcastInDim S256x8x256 ![] bcast_S_S256x8x256 (constant (F := Ideal) S_ .f32 0x3F000000#32))
    (addf (broadcastInDim S256x8x256 ![] bcast_S_S256x8x256 (constant (F := Ideal) S_ .f32 0x3F800000#32))
      (Host.tanh (mulf (broadcastInDim S256x8x256 ![] bcast_S_S256x8x256 (constant (F := Ideal) S_ .f32 0x3F4C422A#32))
        (addf y (mulf (broadcastInDim S256x8x256 ![] bcast_S_S256x8x256 (constant (F := Ideal) S_ .f32 0x3D372713#32)) (mulf (mulf y y) y)))))))

/-- An entry of the activation. -/
theorem geluR_at (y : FVec Ideal S256x8x256 .f32) (b : Fin 256) (i : Fin 8) (f : Fin 256) :
    geluR y (ix3 b i f) = y (ix3 b i f) * (Ideal.ofBits .f32 0x3F000000#32 * (1 + Ideal.tanh (Ideal.ofBits .f32 0x3F4C422A#32
      * (y (ix3 b i f) + Ideal.ofBits .f32 0x3D372713#32 * (y (ix3 b i f) * y (ix3 b i f) * y (ix3 b i f)))))) := by
  pointwise [geluR]

/-- The two-layer map. -/
def ffR (x : FVec Ideal S256x8x16 .f32) (W1 : FVec Ideal S16x256 .f32) (B1 : FVec Ideal S256 .f32) (W2 : FVec Ideal S256x16 .f32) (B2 : FVec Ideal S16 .f32) : FVec Ideal S256x8x16 .f32 :=
  addf (Host.dotGeneral dot_S256x8x256_S256x16_S256x8x16_2_0_01_1_n_n none (geluR (innerR x W1 B1)) W2)
    (broadcastInDim S256x8x16 ![0, 1, 2] bcast_S1x1x16_S256x8x16_0_1_2 (broadcastInDim S1x1x16 ![2] bcast_S16_S1x1x16_2 B2))

/-- An entry of the two-layer map. -/
theorem ffR_at (x : FVec Ideal S256x8x16 .f32) (W1 : FVec Ideal S16x256 .f32) (B1 : FVec Ideal S256 .f32) (W2 : FVec Ideal S256x16 .f32) (B2 : FVec Ideal S16 .f32)
    (b : Fin 256) (i : Fin 8) (c : Fin 16) :
    ffR x W1 B1 W2 B2 (ix3 b i c) = ∑ f, geluR (innerR x W1 B1) (ix3 b i f) * W2 (ix2 f c) + B2 (ix1 c) := by
  generalize hy : geluR (innerR x W1 B1) = y
  pointwise [ffR]
  simp only [hy]

/-- The attention half of a layer. -/
def mixR (x : FVec Ideal S256x8x16 .f32) (wq wk wv wo : FVec Ideal S16x16 .f32) (g1 c1 : FVec Ideal S16 .f32) : FVec Ideal S256x8x16 .f32 :=
  normR (addf x (dotR (spreadR (shareR (expR (scoreR (dotR x wq) (dotR x wk)))) (dotR x wv)) wo)) g1 c1

/-- One layer. -/
def layerR (x : FVec Ideal S256x8x16 .f32) (wq wk wv wo : FVec Ideal S16x16 .f32) (w1 : FVec Ideal S16x256 .f32) (b1 : FVec Ideal S256 .f32) (w2 : FVec Ideal S256x16 .f32)
    (b2 g1 c1 g2 c2 : FVec Ideal S16 .f32) : FVec Ideal S256x8x16 .f32 :=
  normR (addf (mixR x wq wk wv wo g1 c1) (ffR (mixR x wq wk wv wo g1 c1) w1 b1 w2 b2)) g2 c2

end Cert.Trans
-- ==== Proof.TransRefRows.lean ====
/-
  One row of the reference transformer: each stage is the real step of the transformer.
-/
module

public import proofs.«01_k».proof.Proof.TransRefOps
public import proofs.«01_k».proof.Proof.Softmax

@[expose] public section

noncomputable section

namespace Cert.Trans

open Idealize.ShloMosaic Cert.TransformerIdeal Cert.TransformerIdeal.Gen

/-- A row of an array of tokens is the row of reals. -/
def Rows (A : FVec Ideal S256x8x16 .f32) (b : Fin 256) (X : Tok) : Prop := ∀ i a, A (ix3 b i a) = (X i a : EReal)

/-- A row of a product with a matrix. -/
theorem dotR_row (x : FVec Ideal S256x8x16 .f32) (b : Fin 256) (X : Tok) (hx : Rows x b X) (w : FVec Ideal S16x16 .f32) (W : Fin 16 → Fin 16 → ℝ)
    (hw : ∀ c a, w (ix2 c a) = (W c a : EReal)) : Rows (dotR x w) b (proj X W) := fun i a => by
  rw [dotR_at]
  exact coe_dot _ _ (fun c => X i c) (fun c => W c a) (fun c => hx i c) (fun c => hw c a)

/-- A sum over the channels is a sum over the heads and their channels. -/
theorem sum_chan (f : Fin 16 → ℝ) : ∑ a, f a = ∑ h, ∑ d, f (chan h d) := by
  refine (Fintype.sum_equiv (finProdFinEquiv (m := 8) (n := 2)) (fun p => f (chan p.1 p.2)) f ?_).symm.trans (Fintype.sum_prod_type _)
  rintro ⟨i, a⟩
  refine congrArg f (Fin.ext ?_)
  change i.val * 2 + a.val = a.val + 2 * i.val
  omega

/-- A head's own channels. -/
theorem sum_head (f : Fin 16 → ℝ) (h : Fin 8) : (∑ a, if head a = h then f a else 0) = ∑ d, f (chan h d) := by
  rw [sum_chan, Finset.sum_eq_single h]
  · refine Finset.sum_congr rfl fun d _ => if_pos (Fin.ext ?_)
    change (h.val * 2 + d.val) / 2 = h.val
    omega
  · intro h' _ hne
    refine Finset.sum_eq_zero fun d _ => if_neg fun e => hne (Fin.ext ?_)
    have : (h'.val * 2 + d.val) / 2 = h.val := congrArg Fin.val e
    omega
  · exact fun h' => absurd (Finset.mem_univ _) h'

/-- A score. -/
theorem scoreR_row (q k : FVec Ideal S256x8x16 .f32) (b : Fin 256) (Q K : Tok) (hq : Rows q b Q) (hk : Rows k b K) (h i j : Fin 8) :
    scoreR q k (ix4 b h i j) = (score Q K h i j : EReal) := by
  have h2 : Real.sqrt 2 ≠ 0 := (Real.sqrt_pos.mpr (by norm_num)).ne'
  rw [scoreR_at, coe_dot _ _ (fun d => Q i (chan h d)) (fun d => K j (chan h d)) (fun d => hq i _) (fun d => hk j _), word_two, Ideal.sqrt_coe,
    if_neg (by norm_num), Ideal.div_coe h2, ← EReal.coe_mul]
  unfold score
  rw [sum_head (fun a => Q i a * K j a) h, one_div]

/-- The weights of a row of real scores, its largest subtracted before the exponentials. -/
theorem shareR_row (s : FVec Ideal S256x8x8x8 .f32) (b : Fin 256) (h i : Fin 8) (S : Fin 8 → ℝ) (hs : ∀ j, s (ix4 b h i j) = (S j : EReal)) (j : Fin 8) :
    shareR (expR s) (ix4 b h i j) = ((Real.exp (S j) / ∑ j', Real.exp (S j') : ℝ) : EReal) := by
  obtain ⟨m, hm⟩ := Cert.Interp.fold_max_real (fun j => s (ix4 b h i j)) (fun j => Or.inr ⟨S j, hs j⟩) 0 (S 0) (hs 0)
  have he : ∀ j, expR s (ix4 b h i j) = ((Real.exp (S j) * Real.exp (-m) : ℝ) : EReal) := fun j => by
    rw [expR_at, topR_at, hm, hs, ← EReal.coe_sub, Ideal.exp_coe, sub_eq_add_neg, Real.exp_add]
  have hp : 0 < ∑ j', Real.exp (S j') := Finset.sum_pos (fun j' _ => Real.exp_pos _) Finset.univ_nonempty
  have hq : 0 < ∑ j', Real.exp (S j') * Real.exp (-m) := Finset.sum_pos (fun j' _ => mul_pos (Real.exp_pos _) (Real.exp_pos _)) Finset.univ_nonempty
  rw [shareR_at, he]
  simp only [he]
  rw [← coe_sum, Ideal.div_coe hq.ne', ← EReal.coe_mul, ← Finset.sum_mul]
  have h1 := (Real.exp_pos (-m)).ne'
  have h2 := hp.ne'
  congr 1
  field_simp

/-- A row of the attention. -/
theorem attR_row (q k v : FVec Ideal S256x8x16 .f32) (b : Fin 256) (Q K V : Tok) (hq : Rows q b Q) (hk : Rows k b K) (hv : Rows v b V) :
    Rows (spreadR (shareR (expR (scoreR q k))) v) b (attn Q K V) := fun i a => by
  rw [spreadR_at]
  exact coe_dot _ _ _ (fun j => V j a) (fun j => shareR_row _ b (head a) i (fun j => score Q K (head a) i j) (fun j => scoreR_row q k b Q K hq hk (head a) i j) j)
    (fun j => hv j a)

/-- A mean. -/
theorem meanR_row (x : FVec Ideal S256x8x16 .f32) (b : Fin 256) (X : Tok) (hx : Rows x b X) (i : Fin 8) : meanR x (ix3 b i 0) = (mean (X i) : EReal) := by
  rw [meanR_at, word_sixteen, Ideal.div_coe (by norm_num)]
  simp only [hx i]
  rw [← coe_sum, ← EReal.coe_mul]
  rfl

/-- A deviation. -/
theorem devR_row (x : FVec Ideal S256x8x16 .f32) (b : Fin 256) (X : Tok) (hx : Rows x b X) : Rows (devR x) b (fun i a => X i a - mean (X i)) := fun i a => by
  rw [devR_at, hx, meanR_row x b X hx, EReal.coe_sub]

/-- A variance. -/
theorem varR_row (x : FVec Ideal S256x8x16 .f32) (b : Fin 256) (X : Tok) (hx : Rows x b X) (i : Fin 8) : varR x (ix3 b i 0) = (var (X i) : EReal) := by
  rw [varR_at, coe_dot _ _ (fun a => X i a - mean (X i)) (fun a => X i a - mean (X i)) (fun a => devR_row x b X hx i a) (fun a => devR_row x b X hx i a),
    Ideal.div_coe (by norm_num), ← EReal.coe_mul]
  rfl

/-- A row of a norm. -/
theorem normR_row (x : FVec Ideal S256x8x16 .f32) (b : Fin 256) (X : Tok) (hx : Rows x b X) (g c : FVec Ideal S16 .f32) (g' c' : Fin 16 → ℝ)
    (hg : ∀ a, g (ix1 a) = (g' a : EReal)) (hc : ∀ a, c (ix1 a) = (c' a : EReal)) : Rows (normR x g c) b (norm X g' c') := fun i a => by
  have h : 0 < var (X i) + eps := add_pos_of_nonneg_of_pos (var_nonneg _) eps_pos
  rw [normR_at, devR_row x b X hx, varR_row x b X hx, word_eps, ← EReal.coe_add, Ideal.sqrt_coe, if_neg (not_lt.mpr h.le),
    Ideal.div_coe (Real.sqrt_pos.mpr h).ne', hg, hc, ← EReal.coe_mul, ← EReal.coe_mul, ← EReal.coe_add, one_div]
  rfl

/-- A row of the two-layer map. -/
theorem ffR_row (x : FVec Ideal S256x8x16 .f32) (b : Fin 256) (X : Tok) (hx : Rows x b X) (w1 : FVec Ideal S16x256 .f32) (b1 : FVec Ideal S256 .f32) (w2 : FVec Ideal S256x16 .f32) (b2 : FVec Ideal S16 .f32)
    (W1 : Fin 16 → Fin 256 → ℝ) (B1 : Fin 256 → ℝ) (W2 : Fin 256 → Fin 16 → ℝ) (B2 : Fin 16 → ℝ)
    (h1 : ∀ a f, w1 (ix2 a f) = (W1 a f : EReal)) (hb1 : ∀ f, b1 (ix1 f) = (B1 f : EReal))
    (h2 : ∀ f c, w2 (ix2 f c) = (W2 f c : EReal)) (hb2 : ∀ c, b2 (ix1 c) = (B2 c : EReal)) :
    Rows (ffR x w1 b1 w2 b2) b (fun i => ffn (X i) W1 B1 W2 B2) := fun i c => by
  have hi : ∀ f, innerR x w1 b1 (ix3 b i f) = (((∑ a, X i a * W1 a f) + B1 f : ℝ) : EReal) := fun f => by
    rw [innerR_at, coe_dot _ _ (fun a => X i a) (fun a => W1 a f) (fun a => hx i a) (fun a => h1 a f), hb1, EReal.coe_add]
  have hg : ∀ f, geluR (innerR x w1 b1) (ix3 b i f) = (gelu ((∑ a, X i a * W1 a f) + B1 f) : EReal) := fun f => by
    rw [geluR_at, hi, word_half, word_arg, word_cub, ← EReal.coe_one]
    generalize (∑ a, X i a * W1 a f) + B1 f = y
    rw [mul_assoc (y : EReal) (y : EReal) (y : EReal), gelu_ops]
  rw [ffR_at, hb2, coe_dot _ _ (fun f => gelu ((∑ a, X i a * W1 a f) + B1 f)) (fun f => W2 f c) hg (fun f => h2 f c), ← EReal.coe_add]
  rfl

/-- A sum of rows. -/
theorem addR_row (x y : FVec Ideal S256x8x16 .f32) (b : Fin 256) (X Y : Tok) (hx : Rows x b X) (hy : Rows y b Y) : Rows (addf x y) b (fun i a => X i a + Y i a) := fun i a => by
  change x (ix3 b i a) + y (ix3 b i a) = _
  rw [hx, hy, EReal.coe_add]

/-- A row of a layer. -/
theorem layerR_row (x : FVec Ideal S256x8x16 .f32) (b : Fin 256) (X : Tok) (hx : Rows x b X) (w : Weights)
    (wq wk wv wo : FVec Ideal S16x16 .f32) (w1 : FVec Ideal S16x256 .f32) (b1 : FVec Ideal S256 .f32) (w2 : FVec Ideal S256x16 .f32) (b2 g1 c1 g2 c2 : FVec Ideal S16 .f32)
    (hq : ∀ c a, wq (ix2 c a) = (w.wq c a : EReal)) (hk : ∀ c a, wk (ix2 c a) = (w.wk c a : EReal))
    (hv : ∀ c a, wv (ix2 c a) = (w.wv c a : EReal)) (ho : ∀ c a, wo (ix2 c a) = (w.wo c a : EReal))
    (h1 : ∀ a f, w1 (ix2 a f) = (w.w1 a f : EReal)) (hb1 : ∀ f, b1 (ix1 f) = (w.b1 f : EReal))
    (h2 : ∀ f c, w2 (ix2 f c) = (w.w2 f c : EReal)) (hb2 : ∀ c, b2 (ix1 c) = (w.b2 c : EReal))
    (hg1 : ∀ a, g1 (ix1 a) = (w.g1 a : EReal)) (hc1 : ∀ a, c1 (ix1 a) = (w.c1 a : EReal))
    (hg2 : ∀ a, g2 (ix1 a) = (w.g2 a : EReal)) (hc2 : ∀ a, c2 (ix1 a) = (w.c2 a : EReal)) :
    Rows (layerR x wq wk wv wo w1 b1 w2 b2 g1 c1 g2 c2) b (layer w X) := by
  have hm : Rows (mixR x wq wk wv wo g1 c1) b (mix w X) :=
    normR_row _ b _ (addR_row _ _ b _ _ hx (dotR_row _ b _ (attR_row _ _ _ b _ _ _ (dotR_row x b X hx wq w.wq hq) (dotR_row x b X hx wk w.wk hk)
      (dotR_row x b X hx wv w.wv hv)) wo w.wo ho)) g1 c1 _ _ hg1 hc1
  exact normR_row _ b _ (addR_row _ _ b _ _ hm (ffR_row _ b _ hm w1 b1 w2 b2 _ _ _ _ h1 hb1 h2 hb2)) g2 c2 _ _ hg2 hc2

end Cert.Trans
-- ==== Proof.TransRef.lean ====
/-
  The reference transformer's result: three layers, the last norm and the linear map.
-/
module

public import proofs.«01_k».proof.Proof.TransRefRows

@[expose] public section

noncomputable section

namespace Cert.Trans

open Idealize.ShloMosaic Cert.TransformerIdeal Cert.TransformerIdeal.Gen Cert.TransformerIdeal.Read

variable (x0 : (⟨S16x16x128, .f32⟩ : BufTy).Contents (Elt Ideal)) (x1 : (⟨S8x16, .f32⟩ : BufTy).Contents (Elt Ideal)) (x2 : (⟨S3x16x16, .f32⟩ : BufTy).Contents (Elt Ideal)) (x3 : (⟨S3x16x16, .f32⟩ : BufTy).Contents (Elt Ideal)) (x4 : (⟨S3x16x16, .f32⟩ : BufTy).Contents (Elt Ideal)) (x5 : (⟨S3x16x16, .f32⟩ : BufTy).Contents (Elt Ideal)) (x6 : (⟨S3x16x256, .f32⟩ : BufTy).Contents (Elt Ideal)) (x7 : (⟨S3x256, .f32⟩ : BufTy).Contents (Elt Ideal)) (x8 : (⟨S3x256x16, .f32⟩ : BufTy).Contents (Elt Ideal)) (x9 : (⟨S3x16, .f32⟩ : BufTy).Contents (Elt Ideal)) (x10 : (⟨S3x16, .f32⟩ : BufTy).Contents (Elt Ideal)) (x11 : (⟨S3x16, .f32⟩ : BufTy).Contents (Elt Ideal)) (x12 : (⟨S3x16, .f32⟩ : BufTy).Contents (Elt Ideal)) (x13 : (⟨S3x16, .f32⟩ : BufTy).Contents (Elt Ideal)) (x14 : (⟨S16, .f32⟩ : BufTy).Contents (Elt Ideal)) (x15 : (⟨S16, .f32⟩ : BufTy).Contents (Elt Ideal)) (x16 : (⟨S128x96, .f32⟩ : BufTy).Contents (Elt Ideal)) (x17 : (⟨S96, .f32⟩ : BufTy).Contents (Elt Ideal))

/-- Layer 0, an entry of a matrix. -/
theorem ref_wq_0 (a : Fin 16) (e : Fin 16) : (val_main_v5 (F := Ideal) x2) (ix2 a e) = x2 (ix3 0 a e) := by
  pointwise [val_main_v5, val_main_v4]

/-- Layer 0, an entry of a matrix. -/
theorem ref_wk_0 (a : Fin 16) (e : Fin 16) : (val_main_v8 (F := Ideal) x3) (ix2 a e) = x3 (ix3 0 a e) := by
  pointwise [val_main_v8, val_main_v7]

/-- Layer 0, an entry of a matrix. -/
theorem ref_wv_0 (a : Fin 16) (e : Fin 16) : (val_main_v11 (F := Ideal) x4) (ix2 a e) = x4 (ix3 0 a e) := by
  pointwise [val_main_v11, val_main_v10]

/-- Layer 0, an entry of a matrix. -/
theorem ref_wo_0 (a : Fin 16) (e : Fin 16) : (val_main_v40 (F := Ideal) x5) (ix2 a e) = x5 (ix3 0 a e) := by
  pointwise [val_main_v40, val_main_v39]

/-- Layer 0, an entry of a row. -/
theorem ref_g1_0 (a : Fin 16) : (val_main_v44 (F := Ideal) x10) (ix1 a) = x10 (ix2 0 a) := by
  pointwise [val_main_v44, val_main_v43]

/-- Layer 0, an entry of a row. -/
theorem ref_c1_0 (a : Fin 16) : (val_main_v46 (F := Ideal) x11) (ix1 a) = x11 (ix2 0 a) := by
  pointwise [val_main_v46, val_main_v45]

/-- Layer 0, an entry of a matrix. -/
theorem ref_w1_0 (a : Fin 16) (e : Fin 256) : (val_main_v66 (F := Ideal) x6) (ix2 a e) = x6 (ix3 0 a e) := by
  pointwise [val_main_v66, val_main_v65]

/-- Layer 0, an entry of a row. -/
theorem ref_b1_0 (a : Fin 256) : (val_main_v69 (F := Ideal) x7) (ix1 a) = x7 (ix2 0 a) := by
  pointwise [val_main_v69, val_main_v68]

/-- Layer 0, an entry of a matrix. -/
theorem ref_w2_0 (a : Fin 256) (e : Fin 16) : (val_main_v87 (F := Ideal) x8) (ix2 a e) = x8 (ix3 0 a e) := by
  pointwise [val_main_v87, val_main_v86]

/-- Layer 0, an entry of a row. -/
theorem ref_b2_0 (a : Fin 16) : (val_main_v90 (F := Ideal) x9) (ix1 a) = x9 (ix2 0 a) := by
  pointwise [val_main_v90, val_main_v89]

/-- Layer 0, an entry of a row. -/
theorem ref_g2_0 (a : Fin 16) : (val_main_v96 (F := Ideal) x12) (ix1 a) = x12 (ix2 0 a) := by
  pointwise [val_main_v96, val_main_v95]

/-- Layer 0, an entry of a row. -/
theorem ref_c2_0 (a : Fin 16) : (val_main_v98 (F := Ideal) x13) (ix1 a) = x13 (ix2 0 a) := by
  pointwise [val_main_v98, val_main_v97]

/-- Layer 1, an entry of a matrix. -/
theorem ref_wq_1 (a : Fin 16) (e : Fin 16) : (val_main_v118 (F := Ideal) x2) (ix2 a e) = x2 (ix3 1 a e) := by
  pointwise [val_main_v118, val_main_v117]

/-- Layer 1, an entry of a matrix. -/
theorem ref_wk_1 (a : Fin 16) (e : Fin 16) : (val_main_v121 (F := Ideal) x3) (ix2 a e) = x3 (ix3 1 a e) := by
  pointwise [val_main_v121, val_main_v120]

/-- Layer 1, an entry of a matrix. -/
theorem ref_wv_1 (a : Fin 16) (e : Fin 16) : (val_main_v124 (F := Ideal) x4) (ix2 a e) = x4 (ix3 1 a e) := by
  pointwise [val_main_v124, val_main_v123]

/-- Layer 1, an entry of a matrix. -/
theorem ref_wo_1 (a : Fin 16) (e : Fin 16) : (val_main_v153 (F := Ideal) x5) (ix2 a e) = x5 (ix3 1 a e) := by
  pointwise [val_main_v153, val_main_v152]

/-- Layer 1, an entry of a row. -/
theorem ref_g1_1 (a : Fin 16) : (val_main_v157 (F := Ideal) x10) (ix1 a) = x10 (ix2 1 a) := by
  pointwise [val_main_v157, val_main_v156]

/-- Layer 1, an entry of a row. -/
theorem ref_c1_1 (a : Fin 16) : (val_main_v159 (F := Ideal) x11) (ix1 a) = x11 (ix2 1 a) := by
  pointwise [val_main_v159, val_main_v158]

/-- Layer 1, an entry of a matrix. -/
theorem ref_w1_1 (a : Fin 16) (e : Fin 256) : (val_main_v179 (F := Ideal) x6) (ix2 a e) = x6 (ix3 1 a e) := by
  pointwise [val_main_v179, val_main_v178]

/-- Layer 1, an entry of a row. -/
theorem ref_b1_1 (a : Fin 256) : (val_main_v182 (F := Ideal) x7) (ix1 a) = x7 (ix2 1 a) := by
  pointwise [val_main_v182, val_main_v181]

/-- Layer 1, an entry of a matrix. -/
theorem ref_w2_1 (a : Fin 256) (e : Fin 16) : (val_main_v200 (F := Ideal) x8) (ix2 a e) = x8 (ix3 1 a e) := by
  pointwise [val_main_v200, val_main_v199]

/-- Layer 1, an entry of a row. -/
theorem ref_b2_1 (a : Fin 16) : (val_main_v203 (F := Ideal) x9) (ix1 a) = x9 (ix2 1 a) := by
  pointwise [val_main_v203, val_main_v202]

/-- Layer 1, an entry of a row. -/
theorem ref_g2_1 (a : Fin 16) : (val_main_v209 (F := Ideal) x12) (ix1 a) = x12 (ix2 1 a) := by
  pointwise [val_main_v209, val_main_v208]

/-- Layer 1, an entry of a row. -/
theorem ref_c2_1 (a : Fin 16) : (val_main_v211 (F := Ideal) x13) (ix1 a) = x13 (ix2 1 a) := by
  pointwise [val_main_v211, val_main_v210]

/-- Layer 2, an entry of a matrix. -/
theorem ref_wq_2 (a : Fin 16) (e : Fin 16) : (val_main_v231 (F := Ideal) x2) (ix2 a e) = x2 (ix3 2 a e) := by
  pointwise [val_main_v231, val_main_v230]

/-- Layer 2, an entry of a matrix. -/
theorem ref_wk_2 (a : Fin 16) (e : Fin 16) : (val_main_v234 (F := Ideal) x3) (ix2 a e) = x3 (ix3 2 a e) := by
  pointwise [val_main_v234, val_main_v233]

/-- Layer 2, an entry of a matrix. -/
theorem ref_wv_2 (a : Fin 16) (e : Fin 16) : (val_main_v237 (F := Ideal) x4) (ix2 a e) = x4 (ix3 2 a e) := by
  pointwise [val_main_v237, val_main_v236]

/-- Layer 2, an entry of a matrix. -/
theorem ref_wo_2 (a : Fin 16) (e : Fin 16) : (val_main_v266 (F := Ideal) x5) (ix2 a e) = x5 (ix3 2 a e) := by
  pointwise [val_main_v266, val_main_v265]

/-- Layer 2, an entry of a row. -/
theorem ref_g1_2 (a : Fin 16) : (val_main_v270 (F := Ideal) x10) (ix1 a) = x10 (ix2 2 a) := by
  pointwise [val_main_v270, val_main_v269]

/-- Layer 2, an entry of a row. -/
theorem ref_c1_2 (a : Fin 16) : (val_main_v272 (F := Ideal) x11) (ix1 a) = x11 (ix2 2 a) := by
  pointwise [val_main_v272, val_main_v271]

/-- Layer 2, an entry of a matrix. -/
theorem ref_w1_2 (a : Fin 16) (e : Fin 256) : (val_main_v292 (F := Ideal) x6) (ix2 a e) = x6 (ix3 2 a e) := by
  pointwise [val_main_v292, val_main_v291]

/-- Layer 2, an entry of a row. -/
theorem ref_b1_2 (a : Fin 256) : (val_main_v295 (F := Ideal) x7) (ix1 a) = x7 (ix2 2 a) := by
  pointwise [val_main_v295, val_main_v294]

/-- Layer 2, an entry of a matrix. -/
theorem ref_w2_2 (a : Fin 256) (e : Fin 16) : (val_main_v313 (F := Ideal) x8) (ix2 a e) = x8 (ix3 2 a e) := by
  pointwise [val_main_v313, val_main_v312]

/-- Layer 2, an entry of a row. -/
theorem ref_b2_2 (a : Fin 16) : (val_main_v316 (F := Ideal) x9) (ix1 a) = x9 (ix2 2 a) := by
  pointwise [val_main_v316, val_main_v315]

/-- Layer 2, an entry of a row. -/
theorem ref_g2_2 (a : Fin 16) : (val_main_v322 (F := Ideal) x12) (ix1 a) = x12 (ix2 2 a) := by
  pointwise [val_main_v322, val_main_v321]

/-- Layer 2, an entry of a row. -/
theorem ref_c2_2 (a : Fin 16) : (val_main_v324 (F := Ideal) x13) (ix1 a) = x13 (ix2 2 a) := by
  pointwise [val_main_v324, val_main_v323]

/-- Layer 0, the attention half. -/
theorem ref_mix_0 : (val_main_v64 (F := Ideal) x0 x1 x2 x3 x4 x5 x10 x11) = mixR (val_main_v3 (F := Ideal) x0 x1) (val_main_v5 (F := Ideal) x2) (val_main_v8 (F := Ideal) x3) (val_main_v11 (F := Ideal) x4) (val_main_v40 (F := Ideal) x5) (val_main_v44 (F := Ideal) x10) (val_main_v46 (F := Ideal) x11) := rfl

/-- Layer 0, the second half. -/
theorem ref_half_0 : (val_main_v116 (F := Ideal) x0 x1 x2 x3 x4 x5 x6 x7 x8 x9 x10 x11 x12 x13) = normR (addf (val_main_v64 (F := Ideal) x0 x1 x2 x3 x4 x5 x10 x11) (ffR (val_main_v64 (F := Ideal) x0 x1 x2 x3 x4 x5 x10 x11) (val_main_v66 (F := Ideal) x6) (val_main_v69 (F := Ideal) x7) (val_main_v87 (F := Ideal) x8) (val_main_v90 (F := Ideal) x9))) (val_main_v96 (F := Ideal) x12) (val_main_v98 (F := Ideal) x13) := rfl

/-- Layer 1, the attention half. -/
theorem ref_mix_1 : (val_main_v177 (F := Ideal) x0 x1 x2 x3 x4 x5 x6 x7 x8 x9 x10 x11 x12 x13) = mixR (val_main_v116 (F := Ideal) x0 x1 x2 x3 x4 x5 x6 x7 x8 x9 x10 x11 x12 x13) (val_main_v118 (F := Ideal) x2) (val_main_v121 (F := Ideal) x3) (val_main_v124 (F := Ideal) x4) (val_main_v153 (F := Ideal) x5) (val_main_v157 (F := Ideal) x10) (val_main_v159 (F := Ideal) x11) := rfl

/-- Layer 1, the second half. -/
theorem ref_half_1 : (val_main_v229 (F := Ideal) x0 x1 x2 x3 x4 x5 x6 x7 x8 x9 x10 x11 x12 x13) = normR (addf (val_main_v177 (F := Ideal) x0 x1 x2 x3 x4 x5 x6 x7 x8 x9 x10 x11 x12 x13) (ffR (val_main_v177 (F := Ideal) x0 x1 x2 x3 x4 x5 x6 x7 x8 x9 x10 x11 x12 x13) (val_main_v179 (F := Ideal) x6) (val_main_v182 (F := Ideal) x7) (val_main_v200 (F := Ideal) x8) (val_main_v203 (F := Ideal) x9))) (val_main_v209 (F := Ideal) x12) (val_main_v211 (F := Ideal) x13) := rfl

/-- Layer 2, the attention half. -/
theorem ref_mix_2 : (val_main_v290 (F := Ideal) x0 x1 x2 x3 x4 x5 x6 x7 x8 x9 x10 x11 x12 x13) = mixR (val_main_v229 (F := Ideal) x0 x1 x2 x3 x4 x5 x6 x7 x8 x9 x10 x11 x12 x13) (val_main_v231 (F := Ideal) x2) (val_main_v234 (F := Ideal) x3) (val_main_v237 (F := Ideal) x4) (val_main_v266 (F := Ideal) x5) (val_main_v270 (F := Ideal) x10) (val_main_v272 (F := Ideal) x11) := rfl

/-- Layer 2, the second half. -/
theorem ref_half_2 : (val_main_v342 (F := Ideal) x0 x1 x2 x3 x4 x5 x6 x7 x8 x9 x10 x11 x12 x13) = normR (addf (val_main_v290 (F := Ideal) x0 x1 x2 x3 x4 x5 x6 x7 x8 x9 x10 x11 x12 x13) (ffR (val_main_v290 (F := Ideal) x0 x1 x2 x3 x4 x5 x6 x7 x8 x9 x10 x11 x12 x13) (val_main_v292 (F := Ideal) x6) (val_main_v295 (F := Ideal) x7) (val_main_v313 (F := Ideal) x8) (val_main_v316 (F := Ideal) x9))) (val_main_v322 (F := Ideal) x12) (val_main_v324 (F := Ideal) x13) := rfl

/-- The last norm. -/
theorem ref_last : (val_main_v360 (F := Ideal) x0 x1 x2 x3 x4 x5 x6 x7 x8 x9 x10 x11 x12 x13 x14 x15) = normR (val_main_v342 (F := Ideal) x0 x1 x2 x3 x4 x5 x6 x7 x8 x9 x10 x11 x12 x13) x14 x15 := rfl

/-- The result's rows: the last norm's channels outermost, through the linear map. -/
theorem ref_out (b : Fin 256) (f : Fin 96) :
    (val_main_v368 (F := Ideal) x0 x1 x2 x3 x4 x5 x6 x7 x8 x9 x10 x11 x12 x13 x14 x15 x16 x17) (ix2 b f) = ∑ n : Fin 128, (val_main_v360 (F := Ideal) x0 x1 x2 x3 x4 x5 x6 x7 x8 x9 x10 x11 x12 x13 x14 x15) (ix3 b ⟨n.val % 8, by omega⟩ ⟨n.val / 8, by omega⟩) * x16 (ix2 n f) + x17 (ix1 f) := by
  generalize hy : (val_main_v360 (F := Ideal) x0 x1 x2 x3 x4 x5 x6 x7 x8 x9 x10 x11 x12 x13 x14 x15) = y
  pointwise [val_main_v368, val_main_v367, val_main_v366, val_main_v365, val_main_v364, val_main_v363, val_main_v362, val_main_v361]
  simp only [hy]

end Cert.Trans
-- ==== Proof.TransAnswer.lean ====
/-
  The reference transformer's result is the transformer of the arrays' reals.
-/
module

public import proofs.«01_k».proof.Proof.TransRef
public import proofs.«01_k».proof.Proof.TransSpec
public import proofs.«01_k».proof.Proof.TransPre

@[expose] public section

noncomputable section

namespace Cert.Trans

open Idealize.ShloMosaic Cert.TransformerIdeal Cert.TransformerIdeal.Gen Cert.TransformerIdeal.Read

/-- A sum over the lanes, the channels outermost. -/
theorem sum_across (f : Fin 128 → EReal) : ∑ n, f n = ∑ i, ∑ a, f (across i a) := by
  refine ((Fintype.sum_equiv (finProdFinEquiv (m := 16) (n := 8)) (fun p => f (across p.2 p.1)) f ?_).symm.trans (Fintype.sum_prod_type _)).trans Finset.sum_comm
  rintro ⟨a, i⟩
  refine congrArg f (Fin.ext ?_)
  change 8 * a.val + i.val = i.val + 8 * a.val
  omega

/-- The token of a lane, the channels outermost. -/
theorem token_across (i : Fin 8) (a : Fin 16) : (⟨(across i a).val % 8, by omega⟩ : Fin 8) = i := by
  refine Fin.ext ?_
  change (8 * a.val + i.val) % 8 = i.val
  omega

/-- The channel of a lane, the channels outermost. -/
theorem chan_across (i : Fin 8) (a : Fin 16) : (⟨(across i a).val / 8, by omega⟩ : Fin 16) = a := by
  refine Fin.ext ?_
  change (8 * a.val + i.val) / 8 = a.val
  omega

variable (x0 : (⟨S16x16x128, .f32⟩ : BufTy).Contents (Elt Ideal)) (x1 : (⟨S8x16, .f32⟩ : BufTy).Contents (Elt Ideal)) (x2 : (⟨S3x16x16, .f32⟩ : BufTy).Contents (Elt Ideal)) (x3 : (⟨S3x16x16, .f32⟩ : BufTy).Contents (Elt Ideal)) (x4 : (⟨S3x16x16, .f32⟩ : BufTy).Contents (Elt Ideal)) (x5 : (⟨S3x16x16, .f32⟩ : BufTy).Contents (Elt Ideal)) (x6 : (⟨S3x16x256, .f32⟩ : BufTy).Contents (Elt Ideal)) (x7 : (⟨S3x256, .f32⟩ : BufTy).Contents (Elt Ideal)) (x8 : (⟨S3x256x16, .f32⟩ : BufTy).Contents (Elt Ideal)) (x9 : (⟨S3x16, .f32⟩ : BufTy).Contents (Elt Ideal)) (x10 : (⟨S3x16, .f32⟩ : BufTy).Contents (Elt Ideal)) (x11 : (⟨S3x16, .f32⟩ : BufTy).Contents (Elt Ideal)) (x12 : (⟨S3x16, .f32⟩ : BufTy).Contents (Elt Ideal)) (x13 : (⟨S3x16, .f32⟩ : BufTy).Contents (Elt Ideal)) (x14 : (⟨S16, .f32⟩ : BufTy).Contents (Elt Ideal)) (x15 : (⟨S16, .f32⟩ : BufTy).Contents (Elt Ideal)) (x16 : (⟨S128x96, .f32⟩ : BufTy).Contents (Elt Ideal)) (x17 : (⟨S96, .f32⟩ : BufTy).Contents (Elt Ideal))

/-- The tokens that the layers start from. -/
theorem ref_start (b : Fin 256) (i : Fin 8) (a : Fin 16) : (val_main_v3 (F := Ideal) x0 x1) (ix3 b i a) = x0 (ix3 (⟨b.val / 16, by omega⟩ : Fin 16) (⟨b.val % 16, by omega⟩ : Fin 16) (lane i a)) + x1 (ix2 i a) := by
  have e : (⟨i.val * 16 + a.val, by omega⟩ : Fin 128) = lane i a := Fin.ext (by
    change i.val * 16 + a.val = 16 * i.val + a.val
    omega)
  pointwise [val_main_v3, val_main_v2, val_main_v1, val_main_v0]
  rw [e]

/-- The tokens that the layers start from, in reals. -/
theorem ref_start_row (e0 : Finite x0) (e1 : Finite x1) (b : Fin 256) : Rows (val_main_v3 (F := Ideal) x0 x1) b (fun i a => tokens x0 b i a + (x1 (ix2 i a) : EReal).toReal) := fun i a => by
  rw [ref_start, e0, e1, ← EReal.coe_add]
  rfl

/-- Layer 0. -/
theorem ref_layer_0 (e2 : Finite x2) (e3 : Finite x3) (e4 : Finite x4) (e5 : Finite x5) (e6 : Finite x6) (e7 : Finite x7) (e8 : Finite x8) (e9 : Finite x9) (e10 : Finite x10) (e11 : Finite x11) (e12 : Finite x12) (e13 : Finite x13) (b : Fin 256) (X : Tok)
    (hx : Rows (val_main_v3 (F := Ideal) x0 x1) b X) : Rows (val_main_v116 (F := Ideal) x0 x1 x2 x3 x4 x5 x6 x7 x8 x9 x10 x11 x12 x13) b (layer (weights x2 x3 x4 x5 x6 x7 x8 x9 x10 x11 x12 x13 0) X) := by
  rw [ref_half_0, ref_mix_0]
  exact layerR_row _ b X hx (weights x2 x3 x4 x5 x6 x7 x8 x9 x10 x11 x12 x13 0) _ _ _ _ _ _ _ _ _ _ _ _ (fun a e => (ref_wq_0 x2 a e).trans (e2 _)) (fun a e => (ref_wk_0 x3 a e).trans (e3 _)) (fun a e => (ref_wv_0 x4 a e).trans (e4 _)) (fun a e => (ref_wo_0 x5 a e).trans (e5 _)) (fun a e => (ref_w1_0 x6 a e).trans (e6 _)) (fun a => (ref_b1_0 x7 a).trans (e7 _)) (fun a e => (ref_w2_0 x8 a e).trans (e8 _)) (fun a => (ref_b2_0 x9 a).trans (e9 _)) (fun a => (ref_g1_0 x10 a).trans (e10 _)) (fun a => (ref_c1_0 x11 a).trans (e11 _)) (fun a => (ref_g2_0 x12 a).trans (e12 _)) (fun a => (ref_c2_0 x13 a).trans (e13 _))

/-- Layer 1. -/
theorem ref_layer_1 (e2 : Finite x2) (e3 : Finite x3) (e4 : Finite x4) (e5 : Finite x5) (e6 : Finite x6) (e7 : Finite x7) (e8 : Finite x8) (e9 : Finite x9) (e10 : Finite x10) (e11 : Finite x11) (e12 : Finite x12) (e13 : Finite x13) (b : Fin 256) (X : Tok)
    (hx : Rows (val_main_v116 (F := Ideal) x0 x1 x2 x3 x4 x5 x6 x7 x8 x9 x10 x11 x12 x13) b X) : Rows (val_main_v229 (F := Ideal) x0 x1 x2 x3 x4 x5 x6 x7 x8 x9 x10 x11 x12 x13) b (layer (weights x2 x3 x4 x5 x6 x7 x8 x9 x10 x11 x12 x13 1) X) := by
  rw [ref_half_1, ref_mix_1]
  exact layerR_row _ b X hx (weights x2 x3 x4 x5 x6 x7 x8 x9 x10 x11 x12 x13 1) _ _ _ _ _ _ _ _ _ _ _ _ (fun a e => (ref_wq_1 x2 a e).trans (e2 _)) (fun a e => (ref_wk_1 x3 a e).trans (e3 _)) (fun a e => (ref_wv_1 x4 a e).trans (e4 _)) (fun a e => (ref_wo_1 x5 a e).trans (e5 _)) (fun a e => (ref_w1_1 x6 a e).trans (e6 _)) (fun a => (ref_b1_1 x7 a).trans (e7 _)) (fun a e => (ref_w2_1 x8 a e).trans (e8 _)) (fun a => (ref_b2_1 x9 a).trans (e9 _)) (fun a => (ref_g1_1 x10 a).trans (e10 _)) (fun a => (ref_c1_1 x11 a).trans (e11 _)) (fun a => (ref_g2_1 x12 a).trans (e12 _)) (fun a => (ref_c2_1 x13 a).trans (e13 _))

/-- Layer 2. -/
theorem ref_layer_2 (e2 : Finite x2) (e3 : Finite x3) (e4 : Finite x4) (e5 : Finite x5) (e6 : Finite x6) (e7 : Finite x7) (e8 : Finite x8) (e9 : Finite x9) (e10 : Finite x10) (e11 : Finite x11) (e12 : Finite x12) (e13 : Finite x13) (b : Fin 256) (X : Tok)
    (hx : Rows (val_main_v229 (F := Ideal) x0 x1 x2 x3 x4 x5 x6 x7 x8 x9 x10 x11 x12 x13) b X) : Rows (val_main_v342 (F := Ideal) x0 x1 x2 x3 x4 x5 x6 x7 x8 x9 x10 x11 x12 x13) b (layer (weights x2 x3 x4 x5 x6 x7 x8 x9 x10 x11 x12 x13 2) X) := by
  rw [ref_half_2, ref_mix_2]
  exact layerR_row _ b X hx (weights x2 x3 x4 x5 x6 x7 x8 x9 x10 x11 x12 x13 2) _ _ _ _ _ _ _ _ _ _ _ _ (fun a e => (ref_wq_2 x2 a e).trans (e2 _)) (fun a e => (ref_wk_2 x3 a e).trans (e3 _)) (fun a e => (ref_wv_2 x4 a e).trans (e4 _)) (fun a e => (ref_wo_2 x5 a e).trans (e5 _)) (fun a e => (ref_w1_2 x6 a e).trans (e6 _)) (fun a => (ref_b1_2 x7 a).trans (e7 _)) (fun a e => (ref_w2_2 x8 a e).trans (e8 _)) (fun a => (ref_b2_2 x9 a).trans (e9 _)) (fun a => (ref_g1_2 x10 a).trans (e10 _)) (fun a => (ref_c1_2 x11 a).trans (e11 _)) (fun a => (ref_g2_2 x12 a).trans (e12 _)) (fun a => (ref_c2_2 x13 a).trans (e13 _))

/-- The result. -/
theorem ref_answer (e0 : Finite x0) (e1 : Finite x1) (e2 : Finite x2) (e3 : Finite x3) (e4 : Finite x4) (e5 : Finite x5) (e6 : Finite x6) (e7 : Finite x7) (e8 : Finite x8) (e9 : Finite x9) (e10 : Finite x10) (e11 : Finite x11) (e12 : Finite x12) (e13 : Finite x13) (e14 : Finite x14) (e15 : Finite x15) (e16 : Finite x16) (e17 : Finite x17) (b : Fin 256) (f : Fin 96) :
    (val_main_v368 (F := Ideal) x0 x1 x2 x3 x4 x5 x6 x7 x8 x9 x10 x11 x12 x13 x14 x15 x16 x17) (ix2 b f) = (answer x0 x1 x2 x3 x4 x5 x6 x7 x8 x9 x10 x11 x12 x13 x14 x15 x16 x17 b f : EReal) := by
  have h := normR_row (val_main_v342 (F := Ideal) x0 x1 x2 x3 x4 x5 x6 x7 x8 x9 x10 x11 x12 x13) b _ (ref_layer_2 x0 x1 x2 x3 x4 x5 x6 x7 x8 x9 x10 x11 x12 x13 e2 e3 e4 e5 e6 e7 e8 e9 e10 e11 e12 e13 b _ (ref_layer_1 x0 x1 x2 x3 x4 x5 x6 x7 x8 x9 x10 x11 x12 x13 e2 e3 e4 e5 e6 e7 e8 e9 e10 e11 e12 e13 b _ (ref_layer_0 x0 x1 x2 x3 x4 x5 x6 x7 x8 x9 x10 x11 x12 x13 e2 e3 e4 e5 e6 e7 e8 e9 e10 e11 e12 e13 b _ (ref_start_row x0 x1 e0 e1 b)))) x14 x15 (fun a => (x14 (ix1 a) : EReal).toReal) (fun a => (x15 (ix1 a) : EReal).toReal) (fun a => e14 _) (fun a => e15 _)
  rw [← ref_last] at h
  rw [ref_out, sum_across, e17]
  unfold answer out
  rw [EReal.coe_add]
  congr 1
  refine (Finset.sum_congr rfl fun i _ => coe_dot _ _ _ (fun a => (x16 (ix2 (across i a) f) : EReal).toReal) (fun a => ?_) (fun a => e16 _)).trans (coe_sum _).symm
  rw [token_across, chan_across]
  exact h i a

end Cert.Trans
-- ==== Proof.TransEqual.lean ====
/-
  The two runs of the second call end with one array.
-/
module

public import proofs.«01_k».proof.Defs
public import proofs.«01_k».proof.Proof.Gen.TransformerIdeal.Run
public import proofs.«01_k».proof.Proof.Gen.TransformerIdeal.Read
public import proofs.«01_k».proof.Proof.SecondValue
public import proofs.«01_k».proof.Proof.TransArray
public import proofs.«01_k».proof.Proof.TransAnswer

@[expose] public section

noncomputable section

namespace Cert.Trans

open Idealize.ShloMosaic Idealize.ShloMosaic.TcCoe Idealize.SL.Sem

/-- The reference's result is the transformer of its arguments' reals. -/
theorem transformer_eq (m' : (ℓ : Loc TransformerIdeal.nD TransformerIdeal.τ TransformerIdeal.sig) → Buf (Elt Ideal) ℓ) (c : Dev TransformerIdeal.nD) (e0 : Finite ((m' ((c.tc : Thread TransformerIdeal.nD TransformerIdeal.τ).loc TransformerIdeal.main_arg0)) : FVec Ideal TransformerIdeal.S16x16x128 .f32)) (e1 : Finite ((m' ((c.tc : Thread TransformerIdeal.nD TransformerIdeal.τ).loc TransformerIdeal.main_arg1)) : FVec Ideal TransformerIdeal.S8x16 .f32)) (e2 : Finite ((m' ((c.tc : Thread TransformerIdeal.nD TransformerIdeal.τ).loc TransformerIdeal.main_arg2)) : FVec Ideal TransformerIdeal.S3x16x16 .f32)) (e3 : Finite ((m' ((c.tc : Thread TransformerIdeal.nD TransformerIdeal.τ).loc TransformerIdeal.main_arg3)) : FVec Ideal TransformerIdeal.S3x16x16 .f32)) (e4 : Finite ((m' ((c.tc : Thread TransformerIdeal.nD TransformerIdeal.τ).loc TransformerIdeal.main_arg4)) : FVec Ideal TransformerIdeal.S3x16x16 .f32)) (e5 : Finite ((m' ((c.tc : Thread TransformerIdeal.nD TransformerIdeal.τ).loc TransformerIdeal.main_arg5)) : FVec Ideal TransformerIdeal.S3x16x16 .f32)) (e6 : Finite ((m' ((c.tc : Thread TransformerIdeal.nD TransformerIdeal.τ).loc TransformerIdeal.main_arg6)) : FVec Ideal TransformerIdeal.S3x16x256 .f32)) (e7 : Finite ((m' ((c.tc : Thread TransformerIdeal.nD TransformerIdeal.τ).loc TransformerIdeal.main_arg7)) : FVec Ideal TransformerIdeal.S3x256 .f32)) (e8 : Finite ((m' ((c.tc : Thread TransformerIdeal.nD TransformerIdeal.τ).loc TransformerIdeal.main_arg8)) : FVec Ideal TransformerIdeal.S3x256x16 .f32)) (e9 : Finite ((m' ((c.tc : Thread TransformerIdeal.nD TransformerIdeal.τ).loc TransformerIdeal.main_arg9)) : FVec Ideal TransformerIdeal.S3x16 .f32)) (e10 : Finite ((m' ((c.tc : Thread TransformerIdeal.nD TransformerIdeal.τ).loc TransformerIdeal.main_arg10)) : FVec Ideal TransformerIdeal.S3x16 .f32)) (e11 : Finite ((m' ((c.tc : Thread TransformerIdeal.nD TransformerIdeal.τ).loc TransformerIdeal.main_arg11)) : FVec Ideal TransformerIdeal.S3x16 .f32)) (e12 : Finite ((m' ((c.tc : Thread TransformerIdeal.nD TransformerIdeal.τ).loc TransformerIdeal.main_arg12)) : FVec Ideal TransformerIdeal.S3x16 .f32)) (e13 : Finite ((m' ((c.tc : Thread TransformerIdeal.nD TransformerIdeal.τ).loc TransformerIdeal.main_arg13)) : FVec Ideal TransformerIdeal.S3x16 .f32)) (e14 : Finite ((m' ((c.tc : Thread TransformerIdeal.nD TransformerIdeal.τ).loc TransformerIdeal.main_arg14)) : FVec Ideal TransformerIdeal.S16 .f32)) (e15 : Finite ((m' ((c.tc : Thread TransformerIdeal.nD TransformerIdeal.τ).loc TransformerIdeal.main_arg15)) : FVec Ideal TransformerIdeal.S16 .f32)) (e16 : Finite ((m' ((c.tc : Thread TransformerIdeal.nD TransformerIdeal.τ).loc TransformerIdeal.main_arg16)) : FVec Ideal TransformerIdeal.S128x96 .f32)) (e17 : Finite ((m' ((c.tc : Thread TransformerIdeal.nD TransformerIdeal.τ).loc TransformerIdeal.main_arg17)) : FVec Ideal TransformerIdeal.S96 .f32))
    (i : TransformerIdeal.S256x96.Idx) :
    (TransformerIdeal.Read.val_main_v368 (F := Ideal) (m' ((c.tc : Thread TransformerIdeal.nD TransformerIdeal.τ).loc TransformerIdeal.main_arg0)) (m' ((c.tc : Thread TransformerIdeal.nD TransformerIdeal.τ).loc TransformerIdeal.main_arg1)) (m' ((c.tc : Thread TransformerIdeal.nD TransformerIdeal.τ).loc TransformerIdeal.main_arg2)) (m' ((c.tc : Thread TransformerIdeal.nD TransformerIdeal.τ).loc TransformerIdeal.main_arg3)) (m' ((c.tc : Thread TransformerIdeal.nD TransformerIdeal.τ).loc TransformerIdeal.main_arg4)) (m' ((c.tc : Thread TransformerIdeal.nD TransformerIdeal.τ).loc TransformerIdeal.main_arg5)) (m' ((c.tc : Thread TransformerIdeal.nD TransformerIdeal.τ).loc TransformerIdeal.main_arg6)) (m' ((c.tc : Thread TransformerIdeal.nD TransformerIdeal.τ).loc TransformerIdeal.main_arg7)) (m' ((c.tc : Thread TransformerIdeal.nD TransformerIdeal.τ).loc TransformerIdeal.main_arg8)) (m' ((c.tc : Thread TransformerIdeal.nD TransformerIdeal.τ).loc TransformerIdeal.main_arg9)) (m' ((c.tc : Thread TransformerIdeal.nD TransformerIdeal.τ).loc TransformerIdeal.main_arg10)) (m' ((c.tc : Thread TransformerIdeal.nD TransformerIdeal.τ).loc TransformerIdeal.main_arg11)) (m' ((c.tc : Thread TransformerIdeal.nD TransformerIdeal.τ).loc TransformerIdeal.main_arg12)) (m' ((c.tc : Thread TransformerIdeal.nD TransformerIdeal.τ).loc TransformerIdeal.main_arg13)) (m' ((c.tc : Thread TransformerIdeal.nD TransformerIdeal.τ).loc TransformerIdeal.main_arg14)) (m' ((c.tc : Thread TransformerIdeal.nD TransformerIdeal.τ).loc TransformerIdeal.main_arg15)) (m' ((c.tc : Thread TransformerIdeal.nD TransformerIdeal.τ).loc TransformerIdeal.main_arg16)) (m' ((c.tc : Thread TransformerIdeal.nD TransformerIdeal.τ).loc TransformerIdeal.main_arg17)) : TransformerIdeal.S256x96.Idx → EReal) i
      = (answer (m' ((c.tc : Thread TransformerIdeal.nD TransformerIdeal.τ).loc TransformerIdeal.main_arg0)) (m' ((c.tc : Thread TransformerIdeal.nD TransformerIdeal.τ).loc TransformerIdeal.main_arg1)) (m' ((c.tc : Thread TransformerIdeal.nD TransformerIdeal.τ).loc TransformerIdeal.main_arg2)) (m' ((c.tc : Thread TransformerIdeal.nD TransformerIdeal.τ).loc TransformerIdeal.main_arg3)) (m' ((c.tc : Thread TransformerIdeal.nD TransformerIdeal.τ).loc TransformerIdeal.main_arg4)) (m' ((c.tc : Thread TransformerIdeal.nD TransformerIdeal.τ).loc TransformerIdeal.main_arg5)) (m' ((c.tc : Thread TransformerIdeal.nD TransformerIdeal.τ).loc TransformerIdeal.main_arg6)) (m' ((c.tc : Thread TransformerIdeal.nD TransformerIdeal.τ).loc TransformerIdeal.main_arg7)) (m' ((c.tc : Thread TransformerIdeal.nD TransformerIdeal.τ).loc TransformerIdeal.main_arg8)) (m' ((c.tc : Thread TransformerIdeal.nD TransformerIdeal.τ).loc TransformerIdeal.main_arg9)) (m' ((c.tc : Thread TransformerIdeal.nD TransformerIdeal.τ).loc TransformerIdeal.main_arg10)) (m' ((c.tc : Thread TransformerIdeal.nD TransformerIdeal.τ).loc TransformerIdeal.main_arg11)) (m' ((c.tc : Thread TransformerIdeal.nD TransformerIdeal.τ).loc TransformerIdeal.main_arg12)) (m' ((c.tc : Thread TransformerIdeal.nD TransformerIdeal.τ).loc TransformerIdeal.main_arg13)) (m' ((c.tc : Thread TransformerIdeal.nD TransformerIdeal.τ).loc TransformerIdeal.main_arg14)) (m' ((c.tc : Thread TransformerIdeal.nD TransformerIdeal.τ).loc TransformerIdeal.main_arg15)) (m' ((c.tc : Thread TransformerIdeal.nD TransformerIdeal.τ).loc TransformerIdeal.main_arg16)) (m' ((c.tc : Thread TransformerIdeal.nD TransformerIdeal.τ).loc TransformerIdeal.main_arg17)) (i 0) (i 1) : EReal) := by
  idx_vars i
  exact ref_answer _ _ _ _ _ _ _ _ _ _ _ _ _ _ _ _ _ _ e0 e1 e2 e3 e4 e5 e6 e7 e8 e9 e10 e11 e12 e13 e14 e15 e16 e17 _ _

/-- The second call's run and the reference's end with equal results. -/
theorem algebraic : Cert.algebraic_SecondIdeal_TransformerIdeal_pre_finite := by
  intro m g m' g' hpre hargs
  refine ⟨fun c => launched m c, (θ_run _ _ _).mono (fun r h c => ?_) (SecondIdeal.Value.run_blocks m g),
    (θ_run _ _ _).mono (fun r h c => ?_) (TransformerIdeal.Value.run m' g')⟩
  · have hc := h c
    obtain ⟨e0, e1, e2, e3, e4, e5, e6, e7, e8, e9, e10, e11, e12, e13, e14, e15, e16, e17⟩ := args_finite _ _ _ _ _ _ _ _ _ _ _ _ _ _ _ _ _ _ (hpre c)
    exact ⟨hc.1.trans (arr_launched m c e0 e1 e2 e3 e4 e5 e6 e7 e8 e9 e10 e11 e12 e13 e14 e15 e16 e17), hc.2⟩
  · have hc := h c
    refine ⟨hc.1.trans ((TransformerIdeal.Read.val_main_v368_eq (StableHlo.launchContents m' c)).trans ?_), hc.2⟩
    obtain ⟨e0, e1, e2, e3, e4, e5, e6, e7, e8, e9, e10, e11, e12, e13, e14, e15, e16, e17⟩ := args_finite _ _ _ _ _ _ _ _ _ _ _ _ _ _ _ _ _ _ (hpre c)
    obtain ⟨a0, a1, a2, a3, a4, a5, a6, a7, a8, a9, a10, a11, a12, a13, a14, a15, a16, a17⟩ := hargs c
    funext i
    refine (transformer_eq m' c (by rw [a0]; exact e0) (by rw [a1]; exact e1) (by rw [a2]; exact e2) (by rw [a3]; exact e3) (by rw [a4]; exact e4) (by rw [a5]; exact e5) (by rw [a6]; exact e6) (by rw [a7]; exact e7) (by rw [a8]; exact e8) (by rw [a9]; exact e9) (by rw [a10]; exact e10) (by rw [a11]; exact e11) (by rw [a12]; exact e12) (by rw [a13]; exact e13) (by rw [a14]; exact e14) (by rw [a15]; exact e15) (by rw [a16]; exact e16) (by rw [a17]; exact e17) i).trans ?_
    rw [a0, a1, a2, a3, a4, a5, a6, a7, a8, a9, a10, a11, a12, a13, a14, a15, a16, a17]
    rfl

end Cert.Trans
-- ==== Proof.lean ====
/-
  The certificate: for each of the two calls the three frames, the idealization, and the equality of the
  kernel's result with the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Second
public import proofs.«01_k».proof.Proof.Gen.SecondIdeal
public import proofs.«01_k».proof.Proof.Gen.TransformerIdeal
public import proofs.«01_k».proof.Proof.Gen.TransformerIdeal.Run
public import proofs.«01_k».proof.Proof.Gen.Pre_finite
public import proofs.«01_k».proof.Proof.BitsFrame
public import proofs.«01_k».proof.Proof.SecondFrame
public import proofs.«01_k».proof.Proof.Equal
public import proofs.«01_k».proof.Proof.TransEqual

@[expose] public section

noncomputable section

namespace Cert.Proof

open Idealize.ShloMosaic Idealize.SL.Sem

/-- The first call's reference runs, keeps its arguments, and declares no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The second call's reference runs, keeps its arguments, and declares no semaphore. -/
theorem transformer_frame : Cert.quiescent_TransformerIdeal := fun m ρ _ =>
  (θ_run Cert.TransformerIdeal.defs _ _).mono (fun r h => ⟨fun c => (h c).2, sem_eq_zero_of_no_sems (by decide) r.2⟩)
    (Cert.TransformerIdeal.Value.run (F := Ideal) m ρ)

/-- The same on the inputs of the value claim. -/
theorem transformer_frame_finite : Cert.quiescent_TransformerIdeal_pre_finite := fun m ρ _ =>
  (θ_run Cert.TransformerIdeal.defs _ _).mono (fun r h => ⟨fun c => (h c).2, sem_eq_zero_of_no_sems (by decide) r.2⟩)
    (Cert.TransformerIdeal.Value.run (F := Ideal) m ρ)

/-- The two literals that were given their exact values. -/
theorem second_preserves : Cert.preserves_Second_SecondIdeal :=
  ⟨IdealRules.named_const.statement Cert.SecondIdeal.κ "inv_sqrt_hd" .f32 0x3F3504F3#32 (((Real.sqrt 2)⁻¹ : ℝ) : EReal) rfl,
    IdealRules.named_const.statement Cert.SecondIdeal.κ "no_clamp" .f32 0x42700000#32 ⊤ rfl⟩

/-- Every claim of the certificate. -/
theorem claim : Cert.Claim := ⟨Cert.Kernel.Gen.facts, Cert.KernelIdeal.Gen.facts, Cert.ReferenceIdeal.Gen.facts,
  Cert.Second.Gen.facts, Cert.SecondIdeal.Gen.facts, Cert.TransformerIdeal.Gen.facts, Cert.Pre_finite.Gen.facts,
  fun m ρ _ => Cert.Kernel.Gen.frame m ρ, fun m ρ _ => Cert.KernelIdeal.Gen.frame m ρ, reference_frame,
  fun m ρ _ => Cert.Second.Gen.frame m ρ, fun m ρ _ => Cert.SecondIdeal.Gen.frame m ρ, fun m ρ _ => Cert.SecondIdeal.Gen.frame m ρ,
  transformer_frame, transformer_frame_finite, trivial, Cert.Interp.algebraic, second_preserves, Cert.Trans.algebraic⟩

end Cert.Proof

end
